-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v51)) (v1 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_v44) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_v10_3) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x16384x3 : Shape := ⟨3, ![8, 16384, 3]⟩
abbrev S8x16384x1 : Shape := ⟨3, ![8, 16384, 1]⟩
abbrev S8x16384 : Shape := ⟨2, ![8, 16384]⟩
abbrev S8x128x128 : Shape := ⟨3, ![8, 128, 128]⟩
abbrev S_ : Shape := ⟨0, ![]⟩
abbrev S1 : Shape := ⟨1, ![1]⟩
abbrev S2 : Shape := ⟨1, ![2]⟩
abbrev S2x1 : Shape := ⟨2, ![2, 1]⟩
abbrev S2x2 : Shape := ⟨2, ![2, 2]⟩
abbrev S1x2 : Shape := ⟨2, ![1, 2]⟩
abbrev S8 : Shape := ⟨1, ![8]⟩
abbrev S8x1x1 : Shape := ⟨3, ![8, 1, 1]⟩
abbrev S1x1x1 : Shape := ⟨3, ![1, 1, 1]⟩
abbrev S8x1 : Shape := ⟨2, ![8, 1]⟩
abbrev S8x1x3 : Shape := ⟨3, ![8, 1, 3]⟩
abbrev S8x3 : Shape := ⟨2, ![8, 3]⟩
abbrev S16384 : Shape := ⟨1, ![16384]⟩
abbrev S1x16384 : Shape := ⟨2, ![1, 16384]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S512x8 : Shape := ⟨2, ![512, 8]⟩
abbrev S8x128 : Shape := ⟨2, ![8, 128]⟩
abbrev S8x8 : Shape := ⟨2, ![8, 8]⟩
abbrev S1x8 : Shape := ⟨2, ![1, 8]⟩
abbrev S8x512 : Shape := ⟨2, ![8, 512]⟩
abbrev S8x512x1 : Shape := ⟨3, ![8, 512, 1]⟩
abbrev S8x512x3 : Shape := ⟨3, ![8, 512, 3]⟩

abbrev nBuf : Space → Nat
  | .hbm => 843
  | .vmem => 12
  | .smem => 0
  | _ => 0

abbrev hbmTy0_0 (i : Nat) : BufTy := match i % 128 with
  | 0 => ⟨S8x16384x3, .f32⟩
  | 1 => ⟨S8x16384x1, .f32⟩
  | 2 => ⟨S8x16384, .f32⟩
  | 3 => ⟨S8x128x128, .f32⟩
  | 4 => ⟨S8x128x128, .f32⟩
  | 5 => ⟨S8x16384, .f32⟩
  | 6 => ⟨S8x16384x1, .f32⟩
  | 7 => ⟨S8x16384, .f32⟩
  | 8 => ⟨S8x128x128, .f32⟩
  | 9 => ⟨S8x128x128, .f32⟩
  | 10 => ⟨S8x16384, .f32⟩
  | 11 => ⟨S8x16384x1, .f32⟩
  | 12 => ⟨S8x16384, .f32⟩
  | 13 => ⟨S8x128x128, .f32⟩
  | 14 => ⟨S8x128x128, .f32⟩
  | 15 => ⟨S8x16384, .f32⟩
  | 16 => ⟨S_, .i32⟩
  | 17 => ⟨S_, .i32⟩
  | 18 => ⟨S_, .i32⟩
  | 19 => ⟨S_, .i32⟩
  | 20 => ⟨S1, .i32⟩
  | 21 => ⟨S_, .i32⟩
  | 22 => ⟨S_, .i32⟩
  | 23 => ⟨S_, .i32⟩
  | 24 => ⟨S1, .i32⟩
  | 25 => ⟨S2, .i32⟩
  | 26 => ⟨S_, .i32⟩
  | 27 => ⟨S_, .i32⟩
  | 28 => ⟨S_, .i32⟩
  | 29 => ⟨S_, .i32⟩
  | 30 => ⟨S_, .i32⟩
  | 31 => ⟨S_, .i32⟩
  | 32 => ⟨S_, .i32⟩
  | 33 => ⟨S_, .i1⟩
  | 34 => ⟨S_, .i32⟩
  | 35 => ⟨S_, .i32⟩
  | 36 => ⟨S_, .i32⟩
  | 37 => ⟨S_, .i32⟩
  | 38 => ⟨S_, .i32⟩
  | 39 => ⟨S_, .i32⟩
  | 40 => ⟨S_, .i32⟩
  | 41 => ⟨S_, .i32⟩
  | 42 => ⟨S_, .i32⟩
  | 43 => ⟨S_, .i32⟩
  | 44 => ⟨S1, .i32⟩
  | 45 => ⟨S1, .i32⟩
  | 46 => ⟨S1, .i32⟩
  | 47 => ⟨S_, .i32⟩
  | 48 => ⟨S1, .i32⟩
  | 49 => ⟨S_, .i32⟩
  | 50 => ⟨S2, .i64⟩
  | 51 => ⟨S_, .i64⟩
  | 52 => ⟨S2, .i64⟩
  | 53 => ⟨S2, .i64⟩
  | 54 => ⟨S_, .i64⟩
  | 55 => ⟨S2, .i64⟩
  | 56 => ⟨S2, .i64⟩
  | 57 => ⟨S2, .i32⟩
  | 58 => ⟨S2, .i32⟩
  | 59 => ⟨S_, .i32⟩
  | 60 => ⟨S_, .i32⟩
  | 61 => ⟨S_, .i32⟩
  | 62 => ⟨S2, .i32⟩
  | 63 => ⟨S2, .i32⟩
  | 64 => ⟨S2, .i32⟩
  | 65 => ⟨S2, .i32⟩
  | 66 => ⟨S2, .i32⟩
  | 67 => ⟨S_, .i32⟩
  | 68 => ⟨S2, .i32⟩
  | 69 => ⟨S2, .i32⟩
  | 70 => ⟨S_, .i32⟩
  | 71 => ⟨S2, .i32⟩
  | 72 => ⟨S2, .i32⟩
  | 73 => ⟨S2, .i32⟩
  | 74 => ⟨S2, .i32⟩
  | 75 => ⟨S2, .i32⟩
  | 76 => ⟨S_, .i32⟩
  | 77 => ⟨S2, .i32⟩
  | 78 => ⟨S2, .i32⟩
  | 79 => ⟨S_, .i32⟩
  | 80 => ⟨S2, .i32⟩
  | 81 => ⟨S2, .i32⟩
  | 82 => ⟨S2, .i32⟩
  | 83 => ⟨S2, .i32⟩
  | 84 => ⟨S2, .i32⟩
  | 85 => ⟨S_, .i32⟩
  | 86 => ⟨S2, .i32⟩
  | 87 => ⟨S2, .i32⟩
  | 88 => ⟨S_, .i32⟩
  | 89 => ⟨S2, .i32⟩
  | 90 => ⟨S2, .i32⟩
  | 91 => ⟨S2, .i32⟩
  | 92 => ⟨S2, .i32⟩
  | 93 => ⟨S2, .i32⟩
  | 94 => ⟨S_, .i32⟩
  | 95 => ⟨S2, .i32⟩
  | 96 => ⟨S2, .i32⟩
  | 97 => ⟨S_, .i32⟩
  | 98 => ⟨S2, .i32⟩
  | 99 => ⟨S2, .i32⟩
  | 100 => ⟨S2, .i32⟩
  | 101 => ⟨S2, .i32⟩
  | 102 => ⟨S2, .i32⟩
  | 103 => ⟨S2, .i32⟩
  | 104 => ⟨S2, .i32⟩
  | 105 => ⟨S2, .i32⟩
  | 106 => ⟨S_, .i32⟩
  | 107 => ⟨S2, .i32⟩
  | 108 => ⟨S2, .i32⟩
  | 109 => ⟨S2, .i32⟩
  | 110 => ⟨S_, .i32⟩
  | 111 => ⟨S2, .i32⟩
  | 112 => ⟨S2, .i32⟩
  | 113 => ⟨S_, .i32⟩
  | 114 => ⟨S2, .i32⟩
  | 115 => ⟨S2, .i32⟩
  | 116 => ⟨S2, .i32⟩
  | 117 => ⟨S2, .i32⟩
  | 118 => ⟨S2, .i32⟩
  | 119 => ⟨S_, .i32⟩
  | 120 => ⟨S2, .i32⟩
  | 121 => ⟨S2, .i32⟩
  | 122 => ⟨S_, .i32⟩
  | 123 => ⟨S2, .i32⟩
  | 124 => ⟨S2, .i32⟩
  | 125 => ⟨S2, .i32⟩
  | 126 => ⟨S2, .i32⟩
  | 127 => ⟨S2, .i32⟩
  | _ => ⟨S8x16384x3, .f32⟩

abbrev hbmTy0_1 (i : Nat) : BufTy := match i % 128 with
  | 0 => ⟨S_, .i32⟩
  | 1 => ⟨S2, .i32⟩
  | 2 => ⟨S2, .i32⟩
  | 3 => ⟨S_, .i32⟩
  | 4 => ⟨S2, .i32⟩
  | 5 => ⟨S2, .i32⟩
  | 6 => ⟨S2, .i32⟩
  | 7 => ⟨S2, .i32⟩
  | 8 => ⟨S2, .i32⟩
  | 9 => ⟨S_, .i32⟩
  | 10 => ⟨S2, .i32⟩
  | 11 => ⟨S2, .i32⟩
  | 12 => ⟨S_, .i32⟩
  | 13 => ⟨S2, .i32⟩
  | 14 => ⟨S2, .i32⟩
  | 15 => ⟨S2, .i32⟩
  | 16 => ⟨S2, .i32⟩
  | 17 => ⟨S2, .i32⟩
  | 18 => ⟨S2, .i32⟩
  | 19 => ⟨S2, .i32⟩
  | 20 => ⟨S2, .i32⟩
  | 21 => ⟨S_, .i32⟩
  | 22 => ⟨S2, .i32⟩
  | 23 => ⟨S2, .i32⟩
  | 24 => ⟨S2, .i32⟩
  | 25 => ⟨S_, .i32⟩
  | 26 => ⟨S2, .i32⟩
  | 27 => ⟨S2, .i32⟩
  | 28 => ⟨S_, .i32⟩
  | 29 => ⟨S2, .i32⟩
  | 30 => ⟨S2, .i32⟩
  | 31 => ⟨S2, .i32⟩
  | 32 => ⟨S2, .i32⟩
  | 33 => ⟨S2, .i32⟩
  | 34 => ⟨S_, .i32⟩
  | 35 => ⟨S2, .i32⟩
  | 36 => ⟨S2, .i32⟩
  | 37 => ⟨S_, .i32⟩
  | 38 => ⟨S2, .i32⟩
  | 39 => ⟨S2, .i32⟩
  | 40 => ⟨S2, .i32⟩
  | 41 => ⟨S2, .i32⟩
  | 42 => ⟨S2, .i32⟩
  | 43 => ⟨S_, .i32⟩
  | 44 => ⟨S2, .i32⟩
  | 45 => ⟨S2, .i32⟩
  | 46 => ⟨S_, .i32⟩
  | 47 => ⟨S2, .i32⟩
  | 48 => ⟨S2, .i32⟩
  | 49 => ⟨S2, .i32⟩
  | 50 => ⟨S2, .i32⟩
  | 51 => ⟨S2, .i32⟩
  | 52 => ⟨S_, .i32⟩
  | 53 => ⟨S2, .i32⟩
  | 54 => ⟨S2, .i32⟩
  | 55 => ⟨S_, .i32⟩
  | 56 => ⟨S2, .i32⟩
  | 57 => ⟨S2, .i32⟩
  | 58 => ⟨S2, .i32⟩
  | 59 => ⟨S2, .i32⟩
  | 60 => ⟨S2, .i32⟩
  | 61 => ⟨S2, .i32⟩
  | 62 => ⟨S2, .i32⟩
  | 63 => ⟨S2, .i32⟩
  | 64 => ⟨S_, .i32⟩
  | 65 => ⟨S2, .i32⟩
  | 66 => ⟨S2, .i32⟩
  | 67 => ⟨S2, .i32⟩
  | 68 => ⟨S_, .i32⟩
  | 69 => ⟨S2, .i32⟩
  | 70 => ⟨S2, .i32⟩
  | 71 => ⟨S_, .i32⟩
  | 72 => ⟨S2, .i32⟩
  | 73 => ⟨S2, .i32⟩
  | 74 => ⟨S2, .i32⟩
  | 75 => ⟨S2, .i32⟩
  | 76 => ⟨S2, .i32⟩
  | 77 => ⟨S_, .i32⟩
  | 78 => ⟨S2, .i32⟩
  | 79 => ⟨S2, .i32⟩
  | 80 => ⟨S_, .i32⟩
  | 81 => ⟨S2, .i32⟩
  | 82 => ⟨S2, .i32⟩
  | 83 => ⟨S2, .i32⟩
  | 84 => ⟨S2, .i32⟩
  | 85 => ⟨S2, .i32⟩
  | 86 => ⟨S_, .i32⟩
  | 87 => ⟨S2, .i32⟩
  | 88 => ⟨S2, .i32⟩
  | 89 => ⟨S_, .i32⟩
  | 90 => ⟨S2, .i32⟩
  | 91 => ⟨S2, .i32⟩
  | 92 => ⟨S2, .i32⟩
  | 93 => ⟨S2, .i32⟩
  | 94 => ⟨S2, .i32⟩
  | 95 => ⟨S_, .i32⟩
  | 96 => ⟨S2, .i32⟩
  | 97 => ⟨S2, .i32⟩
  | 98 => ⟨S_, .i32⟩
  | 99 => ⟨S2, .i32⟩
  | 100 => ⟨S2, .i32⟩
  | 101 => ⟨S2, .i32⟩
  | 102 => ⟨S2, .i32⟩
  | 103 => ⟨S2, .i32⟩
  | 104 => ⟨S2, .i32⟩
  | 105 => ⟨S2, .i32⟩
  | 106 => ⟨S2, .i32⟩
  | 107 => ⟨S_, .i32⟩
  | 108 => ⟨S2, .i32⟩
  | 109 => ⟨S2, .i32⟩
  | 110 => ⟨S2, .i32⟩
  | 111 => ⟨S_, .i32⟩
  | 112 => ⟨S2, .i32⟩
  | 113 => ⟨S2, .i32⟩
  | 114 => ⟨S_, .i32⟩
  | 115 => ⟨S2, .i32⟩
  | 116 => ⟨S2, .i32⟩
  | 117 => ⟨S2, .i32⟩
  | 118 => ⟨S2, .i32⟩
  | 119 => ⟨S2, .i32⟩
  | 120 => ⟨S_, .i32⟩
  | 121 => ⟨S2, .i32⟩
  | 122 => ⟨S2, .i32⟩
  | 123 => ⟨S_, .i32⟩
  | 124 => ⟨S2, .i32⟩
  | 125 => ⟨S2, .i32⟩
  | 126 => ⟨S2, .i32⟩
  | 127 => ⟨S2, .i32⟩
  | _ => ⟨S8x16384x3, .f32⟩

abbrev hbmTy0_2 (i : Nat) : BufTy := match i % 128 with
  | 0 => ⟨S2, .i32⟩
  | 1 => ⟨S_, .i32⟩
  | 2 => ⟨S2, .i32⟩
  | 3 => ⟨S2, .i32⟩
  | 4 => ⟨S_, .i32⟩
  | 5 => ⟨S2, .i32⟩
  | 6 => ⟨S2, .i32⟩
  | 7 => ⟨S2, .i32⟩
  | 8 => ⟨S2, .i32⟩
  | 9 => ⟨S2, .i32⟩
  | 10 => ⟨S_, .i32⟩
  | 11 => ⟨S2, .i32⟩
  | 12 => ⟨S2, .i32⟩
  | 13 => ⟨S_, .i32⟩
  | 14 => ⟨S2, .i32⟩
  | 15 => ⟨S2, .i32⟩
  | 16 => ⟨S2, .i32⟩
  | 17 => ⟨S2, .i32⟩
  | 18 => ⟨S2, .i32⟩
  | 19 => ⟨S2, .i32⟩
  | 20 => ⟨S2, .i32⟩
  | 21 => ⟨S2, .i32⟩
  | 22 => ⟨S_, .i32⟩
  | 23 => ⟨S2, .i32⟩
  | 24 => ⟨S2, .i32⟩
  | 25 => ⟨S2x1, .i32⟩
  | 26 => ⟨S2x1, .i32⟩
  | 27 => ⟨S2x2, .i32⟩
  | 28 => ⟨S1x2, .i32⟩
  | 29 => ⟨S2, .i32⟩
  | 30 => ⟨S1x2, .i32⟩
  | 31 => ⟨S2, .i32⟩
  | 32 => ⟨S1, .i32⟩
  | 33 => ⟨S_, .i32⟩
  | 34 => ⟨S1, .i32⟩
  | 35 => ⟨S_, .i32⟩
  | 36 => ⟨S8, .i64⟩
  | 37 => ⟨S_, .i64⟩
  | 38 => ⟨S8, .i64⟩
  | 39 => ⟨S8, .i64⟩
  | 40 => ⟨S_, .i64⟩
  | 41 => ⟨S8, .i64⟩
  | 42 => ⟨S8, .i64⟩
  | 43 => ⟨S8, .i32⟩
  | 44 => ⟨S8, .i32⟩
  | 45 => ⟨S_, .i32⟩
  | 46 => ⟨S_, .i32⟩
  | 47 => ⟨S_, .i32⟩
  | 48 => ⟨S8, .i32⟩
  | 49 => ⟨S8, .i32⟩
  | 50 => ⟨S8, .i32⟩
  | 51 => ⟨S8, .i32⟩
  | 52 => ⟨S8, .i32⟩
  | 53 => ⟨S_, .i32⟩
  | 54 => ⟨S8, .i32⟩
  | 55 => ⟨S8, .i32⟩
  | 56 => ⟨S_, .i32⟩
  | 57 => ⟨S8, .i32⟩
  | 58 => ⟨S8, .i32⟩
  | 59 => ⟨S8, .i32⟩
  | 60 => ⟨S8, .i32⟩
  | 61 => ⟨S8, .i32⟩
  | 62 => ⟨S_, .i32⟩
  | 63 => ⟨S8, .i32⟩
  | 64 => ⟨S8, .i32⟩
  | 65 => ⟨S_, .i32⟩
  | 66 => ⟨S8, .i32⟩
  | 67 => ⟨S8, .i32⟩
  | 68 => ⟨S8, .i32⟩
  | 69 => ⟨S8, .i32⟩
  | 70 => ⟨S8, .i32⟩
  | 71 => ⟨S_, .i32⟩
  | 72 => ⟨S8, .i32⟩
  | 73 => ⟨S8, .i32⟩
  | 74 => ⟨S_, .i32⟩
  | 75 => ⟨S8, .i32⟩
  | 76 => ⟨S8, .i32⟩
  | 77 => ⟨S8, .i32⟩
  | 78 => ⟨S8, .i32⟩
  | 79 => ⟨S8, .i32⟩
  | 80 => ⟨S_, .i32⟩
  | 81 => ⟨S8, .i32⟩
  | 82 => ⟨S8, .i32⟩
  | 83 => ⟨S_, .i32⟩
  | 84 => ⟨S8, .i32⟩
  | 85 => ⟨S8, .i32⟩
  | 86 => ⟨S8, .i32⟩
  | 87 => ⟨S8, .i32⟩
  | 88 => ⟨S8, .i32⟩
  | 89 => ⟨S8, .i32⟩
  | 90 => ⟨S8, .i32⟩
  | 91 => ⟨S8, .i32⟩
  | 92 => ⟨S_, .i32⟩
  | 93 => ⟨S8, .i32⟩
  | 94 => ⟨S8, .i32⟩
  | 95 => ⟨S8, .i32⟩
  | 96 => ⟨S_, .i32⟩
  | 97 => ⟨S8, .i32⟩
  | 98 => ⟨S8, .i32⟩
  | 99 => ⟨S_, .i32⟩
  | 100 => ⟨S8, .i32⟩
  | 101 => ⟨S8, .i32⟩
  | 102 => ⟨S8, .i32⟩
  | 103 => ⟨S8, .i32⟩
  | 104 => ⟨S8, .i32⟩
  | 105 => ⟨S_, .i32⟩
  | 106 => ⟨S8, .i32⟩
  | 107 => ⟨S8, .i32⟩
  | 108 => ⟨S_, .i32⟩
  | 109 => ⟨S8, .i32⟩
  | 110 => ⟨S8, .i32⟩
  | 111 => ⟨S8, .i32⟩
  | 112 => ⟨S8, .i32⟩
  | 113 => ⟨S8, .i32⟩
  | 114 => ⟨S_, .i32⟩
  | 115 => ⟨S8, .i32⟩
  | 116 => ⟨S8, .i32⟩
  | 117 => ⟨S_, .i32⟩
  | 118 => ⟨S8, .i32⟩
  | 119 => ⟨S8, .i32⟩
  | 120 => ⟨S8, .i32⟩
  | 121 => ⟨S8, .i32⟩
  | 122 => ⟨S8, .i32⟩
  | 123 => ⟨S_, .i32⟩
  | 124 => ⟨S8, .i32⟩
  | 125 => ⟨S8, .i32⟩
  | 126 => ⟨S_, .i32⟩
  | 127 => ⟨S8, .i32⟩
  | _ => ⟨S8x16384x3, .f32⟩

abbrev hbmTy0_3 (i : Nat) : BufTy := match i % 128 with
  | 0 => ⟨S8, .i32⟩
  | 1 => ⟨S8, .i32⟩
  | 2 => ⟨S8, .i32⟩
  | 3 => ⟨S8, .i32⟩
  | 4 => ⟨S8, .i32⟩
  | 5 => ⟨S8, .i32⟩
  | 6 => ⟨S8, .i32⟩
  | 7 => ⟨S_, .i32⟩
  | 8 => ⟨S8, .i32⟩
  | 9 => ⟨S8, .i32⟩
  | 10 => ⟨S8, .i32⟩
  | 11 => ⟨S_, .i32⟩
  | 12 => ⟨S8, .i32⟩
  | 13 => ⟨S8, .i32⟩
  | 14 => ⟨S_, .i32⟩
  | 15 => ⟨S8, .i32⟩
  | 16 => ⟨S8, .i32⟩
  | 17 => ⟨S8, .i32⟩
  | 18 => ⟨S8, .i32⟩
  | 19 => ⟨S8, .i32⟩
  | 20 => ⟨S_, .i32⟩
  | 21 => ⟨S8, .i32⟩
  | 22 => ⟨S8, .i32⟩
  | 23 => ⟨S_, .i32⟩
  | 24 => ⟨S8, .i32⟩
  | 25 => ⟨S8, .i32⟩
  | 26 => ⟨S8, .i32⟩
  | 27 => ⟨S8, .i32⟩
  | 28 => ⟨S8, .i32⟩
  | 29 => ⟨S_, .i32⟩
  | 30 => ⟨S8, .i32⟩
  | 31 => ⟨S8, .i32⟩
  | 32 => ⟨S_, .i32⟩
  | 33 => ⟨S8, .i32⟩
  | 34 => ⟨S8, .i32⟩
  | 35 => ⟨S8, .i32⟩
  | 36 => ⟨S8, .i32⟩
  | 37 => ⟨S8, .i32⟩
  | 38 => ⟨S_, .i32⟩
  | 39 => ⟨S8, .i32⟩
  | 40 => ⟨S8, .i32⟩
  | 41 => ⟨S_, .i32⟩
  | 42 => ⟨S8, .i32⟩
  | 43 => ⟨S8, .i32⟩
  | 44 => ⟨S8, .i32⟩
  | 45 => ⟨S8, .i32⟩
  | 46 => ⟨S8, .i32⟩
  | 47 => ⟨S8, .i32⟩
  | 48 => ⟨S8, .i32⟩
  | 49 => ⟨S8, .i32⟩
  | 50 => ⟨S_, .i32⟩
  | 51 => ⟨S8, .i32⟩
  | 52 => ⟨S8, .i32⟩
  | 53 => ⟨S8, .i32⟩
  | 54 => ⟨S_, .i32⟩
  | 55 => ⟨S8, .i32⟩
  | 56 => ⟨S8, .i32⟩
  | 57 => ⟨S_, .i32⟩
  | 58 => ⟨S8, .i32⟩
  | 59 => ⟨S8, .i32⟩
  | 60 => ⟨S8, .i32⟩
  | 61 => ⟨S8, .i32⟩
  | 62 => ⟨S8, .i32⟩
  | 63 => ⟨S_, .i32⟩
  | 64 => ⟨S8, .i32⟩
  | 65 => ⟨S8, .i32⟩
  | 66 => ⟨S_, .i32⟩
  | 67 => ⟨S8, .i32⟩
  | 68 => ⟨S8, .i32⟩
  | 69 => ⟨S8, .i32⟩
  | 70 => ⟨S8, .i32⟩
  | 71 => ⟨S8, .i32⟩
  | 72 => ⟨S_, .i32⟩
  | 73 => ⟨S8, .i32⟩
  | 74 => ⟨S8, .i32⟩
  | 75 => ⟨S_, .i32⟩
  | 76 => ⟨S8, .i32⟩
  | 77 => ⟨S8, .i32⟩
  | 78 => ⟨S8, .i32⟩
  | 79 => ⟨S8, .i32⟩
  | 80 => ⟨S8, .i32⟩
  | 81 => ⟨S_, .i32⟩
  | 82 => ⟨S8, .i32⟩
  | 83 => ⟨S8, .i32⟩
  | 84 => ⟨S_, .i32⟩
  | 85 => ⟨S8, .i32⟩
  | 86 => ⟨S8, .i32⟩
  | 87 => ⟨S8, .i32⟩
  | 88 => ⟨S8, .i32⟩
  | 89 => ⟨S8, .i32⟩
  | 90 => ⟨S8, .i32⟩
  | 91 => ⟨S8, .i32⟩
  | 92 => ⟨S8, .i32⟩
  | 93 => ⟨S_, .i32⟩
  | 94 => ⟨S8, .i32⟩
  | 95 => ⟨S8, .i32⟩
  | 96 => ⟨S8, .i32⟩
  | 97 => ⟨S_, .i32⟩
  | 98 => ⟨S8, .i32⟩
  | 99 => ⟨S8, .i32⟩
  | 100 => ⟨S_, .i32⟩
  | 101 => ⟨S8, .i32⟩
  | 102 => ⟨S8, .i32⟩
  | 103 => ⟨S8, .i32⟩
  | 104 => ⟨S8, .i32⟩
  | 105 => ⟨S8, .i32⟩
  | 106 => ⟨S_, .i32⟩
  | 107 => ⟨S8, .i32⟩
  | 108 => ⟨S8, .i32⟩
  | 109 => ⟨S_, .i32⟩
  | 110 => ⟨S8, .i32⟩
  | 111 => ⟨S8, .i32⟩
  | 112 => ⟨S8, .i32⟩
  | 113 => ⟨S8, .i32⟩
  | 114 => ⟨S8, .i32⟩
  | 115 => ⟨S_, .i32⟩
  | 116 => ⟨S8, .i32⟩
  | 117 => ⟨S8, .i32⟩
  | 118 => ⟨S_, .i32⟩
  | 119 => ⟨S8, .i32⟩
  | 120 => ⟨S8, .i32⟩
  | 121 => ⟨S8, .i32⟩
  | 122 => ⟨S8, .i32⟩
  | 123 => ⟨S8, .i32⟩
  | 124 => ⟨S_, .i32⟩
  | 125 => ⟨S8, .i32⟩
  | 126 => ⟨S8, .i32⟩
  | 127 => ⟨S_, .i32⟩
  | _ => ⟨S8x16384x3, .f32⟩

abbrev hbmTy0_4 (i : Nat) : BufTy := match i % 128 with
  | 0 => ⟨S8, .i32⟩
  | 1 => ⟨S8, .i32⟩
  | 2 => ⟨S8, .i32⟩
  | 3 => ⟨S8, .i32⟩
  | 4 => ⟨S8, .i32⟩
  | 5 => ⟨S8, .i32⟩
  | 6 => ⟨S8, .i32⟩
  | 7 => ⟨S8, .i32⟩
  | 8 => ⟨S_, .i32⟩
  | 9 => ⟨S8, .i32⟩
  | 10 => ⟨S8, .i32⟩
  | 11 => ⟨S8, .i32⟩
  | 12 => ⟨S1, .i32⟩
  | 13 => ⟨S_, .i32⟩
  | 14 => ⟨S1, .i32⟩
  | 15 => ⟨S_, .i32⟩
  | 16 => ⟨S8, .i64⟩
  | 17 => ⟨S_, .i64⟩
  | 18 => ⟨S8, .i64⟩
  | 19 => ⟨S8, .i64⟩
  | 20 => ⟨S_, .i64⟩
  | 21 => ⟨S8, .i64⟩
  | 22 => ⟨S8, .i64⟩
  | 23 => ⟨S8, .i32⟩
  | 24 => ⟨S8, .i32⟩
  | 25 => ⟨S_, .i32⟩
  | 26 => ⟨S_, .i32⟩
  | 27 => ⟨S_, .i32⟩
  | 28 => ⟨S8, .i32⟩
  | 29 => ⟨S8, .i32⟩
  | 30 => ⟨S8, .i32⟩
  | 31 => ⟨S8, .i32⟩
  | 32 => ⟨S8, .i32⟩
  | 33 => ⟨S_, .i32⟩
  | 34 => ⟨S8, .i32⟩
  | 35 => ⟨S8, .i32⟩
  | 36 => ⟨S_, .i32⟩
  | 37 => ⟨S8, .i32⟩
  | 38 => ⟨S8, .i32⟩
  | 39 => ⟨S8, .i32⟩
  | 40 => ⟨S8, .i32⟩
  | 41 => ⟨S8, .i32⟩
  | 42 => ⟨S_, .i32⟩
  | 43 => ⟨S8, .i32⟩
  | 44 => ⟨S8, .i32⟩
  | 45 => ⟨S_, .i32⟩
  | 46 => ⟨S8, .i32⟩
  | 47 => ⟨S8, .i32⟩
  | 48 => ⟨S8, .i32⟩
  | 49 => ⟨S8, .i32⟩
  | 50 => ⟨S8, .i32⟩
  | 51 => ⟨S_, .i32⟩
  | 52 => ⟨S8, .i32⟩
  | 53 => ⟨S8, .i32⟩
  | 54 => ⟨S_, .i32⟩
  | 55 => ⟨S8, .i32⟩
  | 56 => ⟨S8, .i32⟩
  | 57 => ⟨S8, .i32⟩
  | 58 => ⟨S8, .i32⟩
  | 59 => ⟨S8, .i32⟩
  | 60 => ⟨S_, .i32⟩
  | 61 => ⟨S8, .i32⟩
  | 62 => ⟨S8, .i32⟩
  | 63 => ⟨S_, .i32⟩
  | 64 => ⟨S8, .i32⟩
  | 65 => ⟨S8, .i32⟩
  | 66 => ⟨S8, .i32⟩
  | 67 => ⟨S8, .i32⟩
  | 68 => ⟨S8, .i32⟩
  | 69 => ⟨S8, .i32⟩
  | 70 => ⟨S8, .i32⟩
  | 71 => ⟨S8, .i32⟩
  | 72 => ⟨S_, .i32⟩
  | 73 => ⟨S8, .i32⟩
  | 74 => ⟨S8, .i32⟩
  | 75 => ⟨S8, .i32⟩
  | 76 => ⟨S_, .i32⟩
  | 77 => ⟨S8, .i32⟩
  | 78 => ⟨S8, .i32⟩
  | 79 => ⟨S_, .i32⟩
  | 80 => ⟨S8, .i32⟩
  | 81 => ⟨S8, .i32⟩
  | 82 => ⟨S8, .i32⟩
  | 83 => ⟨S8, .i32⟩
  | 84 => ⟨S8, .i32⟩
  | 85 => ⟨S_, .i32⟩
  | 86 => ⟨S8, .i32⟩
  | 87 => ⟨S8, .i32⟩
  | 88 => ⟨S_, .i32⟩
  | 89 => ⟨S8, .i32⟩
  | 90 => ⟨S8, .i32⟩
  | 91 => ⟨S8, .i32⟩
  | 92 => ⟨S8, .i32⟩
  | 93 => ⟨S8, .i32⟩
  | 94 => ⟨S_, .i32⟩
  | 95 => ⟨S8, .i32⟩
  | 96 => ⟨S8, .i32⟩
  | 97 => ⟨S_, .i32⟩
  | 98 => ⟨S8, .i32⟩
  | 99 => ⟨S8, .i32⟩
  | 100 => ⟨S8, .i32⟩
  | 101 => ⟨S8, .i32⟩
  | 102 => ⟨S8, .i32⟩
  | 103 => ⟨S_, .i32⟩
  | 104 => ⟨S8, .i32⟩
  | 105 => ⟨S8, .i32⟩
  | 106 => ⟨S_, .i32⟩
  | 107 => ⟨S8, .i32⟩
  | 108 => ⟨S8, .i32⟩
  | 109 => ⟨S8, .i32⟩
  | 110 => ⟨S8, .i32⟩
  | 111 => ⟨S8, .i32⟩
  | 112 => ⟨S8, .i32⟩
  | 113 => ⟨S8, .i32⟩
  | 114 => ⟨S8, .i32⟩
  | 115 => ⟨S_, .i32⟩
  | 116 => ⟨S8, .i32⟩
  | 117 => ⟨S8, .i32⟩
  | 118 => ⟨S8, .i32⟩
  | 119 => ⟨S_, .i32⟩
  | 120 => ⟨S8, .i32⟩
  | 121 => ⟨S8, .i32⟩
  | 122 => ⟨S_, .i32⟩
  | 123 => ⟨S8, .i32⟩
  | 124 => ⟨S8, .i32⟩
  | 125 => ⟨S8, .i32⟩
  | 126 => ⟨S8, .i32⟩
  | 127 => ⟨S8, .i32⟩
  | _ => ⟨S8x16384x3, .f32⟩

abbrev hbmTy0_5 (i : Nat) : BufTy := match i % 128 with
  | 0 => ⟨S_, .i32⟩
  | 1 => ⟨S8, .i32⟩
  | 2 => ⟨S8, .i32⟩
  | 3 => ⟨S_, .i32⟩
  | 4 => ⟨S8, .i32⟩
  | 5 => ⟨S8, .i32⟩
  | 6 => ⟨S8, .i32⟩
  | 7 => ⟨S8, .i32⟩
  | 8 => ⟨S8, .i32⟩
  | 9 => ⟨S_, .i32⟩
  | 10 => ⟨S8, .i32⟩
  | 11 => ⟨S8, .i32⟩
  | 12 => ⟨S_, .i32⟩
  | 13 => ⟨S8, .i32⟩
  | 14 => ⟨S8, .i32⟩
  | 15 => ⟨S8, .i32⟩
  | 16 => ⟨S8, .i32⟩
  | 17 => ⟨S8, .i32⟩
  | 18 => ⟨S_, .i32⟩
  | 19 => ⟨S8, .i32⟩
  | 20 => ⟨S8, .i32⟩
  | 21 => ⟨S_, .i32⟩
  | 22 => ⟨S8, .i32⟩
  | 23 => ⟨S8, .i32⟩
  | 24 => ⟨S8, .i32⟩
  | 25 => ⟨S8, .i32⟩
  | 26 => ⟨S8, .i32⟩
  | 27 => ⟨S8, .i32⟩
  | 28 => ⟨S8, .i32⟩
  | 29 => ⟨S8, .i32⟩
  | 30 => ⟨S_, .i32⟩
  | 31 => ⟨S8, .i32⟩
  | 32 => ⟨S8, .i32⟩
  | 33 => ⟨S8, .i32⟩
  | 34 => ⟨S_, .i32⟩
  | 35 => ⟨S8, .i32⟩
  | 36 => ⟨S8, .i32⟩
  | 37 => ⟨S_, .i32⟩
  | 38 => ⟨S8, .i32⟩
  | 39 => ⟨S8, .i32⟩
  | 40 => ⟨S8, .i32⟩
  | 41 => ⟨S8, .i32⟩
  | 42 => ⟨S8, .i32⟩
  | 43 => ⟨S_, .i32⟩
  | 44 => ⟨S8, .i32⟩
  | 45 => ⟨S8, .i32⟩
  | 46 => ⟨S_, .i32⟩
  | 47 => ⟨S8, .i32⟩
  | 48 => ⟨S8, .i32⟩
  | 49 => ⟨S8, .i32⟩
  | 50 => ⟨S8, .i32⟩
  | 51 => ⟨S8, .i32⟩
  | 52 => ⟨S_, .i32⟩
  | 53 => ⟨S8, .i32⟩
  | 54 => ⟨S8, .i32⟩
  | 55 => ⟨S_, .i32⟩
  | 56 => ⟨S8, .i32⟩
  | 57 => ⟨S8, .i32⟩
  | 58 => ⟨S8, .i32⟩
  | 59 => ⟨S8, .i32⟩
  | 60 => ⟨S8, .i32⟩
  | 61 => ⟨S_, .i32⟩
  | 62 => ⟨S8, .i32⟩
  | 63 => ⟨S8, .i32⟩
  | 64 => ⟨S_, .i32⟩
  | 65 => ⟨S8, .i32⟩
  | 66 => ⟨S8, .i32⟩
  | 67 => ⟨S8, .i32⟩
  | 68 => ⟨S8, .i32⟩
  | 69 => ⟨S8, .i32⟩
  | 70 => ⟨S8, .i32⟩
  | 71 => ⟨S8, .i32⟩
  | 72 => ⟨S8, .i32⟩
  | 73 => ⟨S_, .i32⟩
  | 74 => ⟨S8, .i32⟩
  | 75 => ⟨S8, .i32⟩
  | 76 => ⟨S8, .i32⟩
  | 77 => ⟨S_, .i32⟩
  | 78 => ⟨S8, .i32⟩
  | 79 => ⟨S8, .i32⟩
  | 80 => ⟨S_, .i32⟩
  | 81 => ⟨S8, .i32⟩
  | 82 => ⟨S8, .i32⟩
  | 83 => ⟨S8, .i32⟩
  | 84 => ⟨S8, .i32⟩
  | 85 => ⟨S8, .i32⟩
  | 86 => ⟨S_, .i32⟩
  | 87 => ⟨S8, .i32⟩
  | 88 => ⟨S8, .i32⟩
  | 89 => ⟨S_, .i32⟩
  | 90 => ⟨S8, .i32⟩
  | 91 => ⟨S8, .i32⟩
  | 92 => ⟨S8, .i32⟩
  | 93 => ⟨S8, .i32⟩
  | 94 => ⟨S8, .i32⟩
  | 95 => ⟨S_, .i32⟩
  | 96 => ⟨S8, .i32⟩
  | 97 => ⟨S8, .i32⟩
  | 98 => ⟨S_, .i32⟩
  | 99 => ⟨S8, .i32⟩
  | 100 => ⟨S8, .i32⟩
  | 101 => ⟨S8, .i32⟩
  | 102 => ⟨S8, .i32⟩
  | 103 => ⟨S8, .i32⟩
  | 104 => ⟨S_, .i32⟩
  | 105 => ⟨S8, .i32⟩
  | 106 => ⟨S8, .i32⟩
  | 107 => ⟨S_, .i32⟩
  | 108 => ⟨S8, .i32⟩
  | 109 => ⟨S8, .i32⟩
  | 110 => ⟨S8, .i32⟩
  | 111 => ⟨S8, .i32⟩
  | 112 => ⟨S8, .i32⟩
  | 113 => ⟨S8, .i32⟩
  | 114 => ⟨S8, .i32⟩
  | 115 => ⟨S8, .i32⟩
  | 116 => ⟨S_, .i32⟩
  | 117 => ⟨S8, .i32⟩
  | 118 => ⟨S8, .i32⟩
  | 119 => ⟨S8, .i32⟩
  | 120 => ⟨S1, .i32⟩
  | 121 => ⟨S1, .i32⟩
  | 122 => ⟨S1, .i1⟩
  | 123 => ⟨S_, .i32⟩
  | 124 => ⟨S1, .i32⟩
  | 125 => ⟨S1, .i32⟩
  | 126 => ⟨S1, .i1⟩
  | 127 => ⟨S1, .i1⟩
  | _ => ⟨S8x16384x3, .f32⟩

abbrev hbmTy0_6 (i : Nat) : BufTy := match i % 128 with
  | 0 => ⟨S1, .i1⟩
  | 1 => ⟨S_, .i32⟩
  | 2 => ⟨S1, .i32⟩
  | 3 => ⟨S1, .i32⟩
  | 4 => ⟨S1, .i32⟩
  | 5 => ⟨S_, .i32⟩
  | 6 => ⟨S1, .i32⟩
  | 7 => ⟨S1, .i32⟩
  | 8 => ⟨S1, .i32⟩
  | 9 => ⟨S1, .i32⟩
  | 10 => ⟨S8, .i32⟩
  | 11 => ⟨S8, .i32⟩
  | 12 => ⟨S8, .i32⟩
  | 13 => ⟨S8, .i32⟩
  | 14 => ⟨S8, .i32⟩
  | 15 => ⟨S8, .i32⟩
  | 16 => ⟨S8, .i32⟩
  | 17 => ⟨S8, .i32⟩
  | 18 => ⟨S8, .i32⟩
  | 19 => ⟨S8, .i32⟩
  | 20 => ⟨S8, .i32⟩
  | 21 => ⟨S8, .i32⟩
  | 22 => ⟨S8x1x1, .i32⟩
  | 23 => ⟨S_, .i32⟩
  | 24 => ⟨S8x1x1, .i32⟩
  | 25 => ⟨S8x1x1, .i1⟩
  | 26 => ⟨S_, .i32⟩
  | 27 => ⟨S8x1x1, .i32⟩
  | 28 => ⟨S8x1x1, .i32⟩
  | 29 => ⟨S8x1x1, .i32⟩
  | 30 => ⟨S1, .i32⟩
  | 31 => ⟨S_, .i32⟩
  | 32 => ⟨S8x1x1, .i32⟩
  | 33 => ⟨S8x1x1, .i1⟩
  | 34 => ⟨S1x1x1, .i32⟩
  | 35 => ⟨S8x1x1, .i32⟩
  | 36 => ⟨S8x1x1, .i1⟩
  | 37 => ⟨S8x1x1, .i1⟩
  | 38 => ⟨S_, .i1⟩
  | 39 => ⟨S8x1, .i1⟩
  | 40 => ⟨S8x1x3, .f32⟩
  | 41 => ⟨S8x1x3, .i1⟩
  | 42 => ⟨S_, .f32⟩
  | 43 => ⟨S8x1x3, .f32⟩
  | 44 => ⟨S8x1x3, .f32⟩
  | 45 => ⟨S8x3, .f32⟩
  | 46 => ⟨S16384, .f32⟩
  | 47 => ⟨S1x16384, .f32⟩
  | 48 => ⟨S8x16384, .f32⟩
  | 49 => ⟨S8x128x128, .f32⟩
  | 50 => ⟨S8x128x128, .f32⟩
  | 51 => ⟨S8x16384, .f32⟩
  | 52 => ⟨S128, .i32⟩
  | 53 => ⟨S128x1, .i32⟩
  | 54 => ⟨S128, .i32⟩
  | 55 => ⟨S1x128, .i32⟩
  | 56 => ⟨S128x128, .i32⟩
  | 57 => ⟨S128x128, .i32⟩
  | 58 => ⟨S128x128, .i1⟩
  | 59 => ⟨S128x128, .f32⟩
  | 60 => ⟨S8x1, .i32⟩
  | 61 => ⟨S8x1, .f32⟩
  | 62 => ⟨S512x8, .f32⟩
  | 63 => ⟨S512x8, .f32⟩
  | 64 => ⟨S512x8, .f32⟩
  | 65 => ⟨S512x8, .f32⟩
  | 66 => ⟨S8x512, .f32⟩
  | 67 => ⟨S8x512, .i32⟩
  | 68 => ⟨S8x512, .f32⟩
  | 69 => ⟨S8x512, .f32⟩
  | 70 => ⟨S8x512, .f32⟩
  | 71 => ⟨S8x512x1, .f32⟩
  | 72 => ⟨S8x512x1, .f32⟩
  | 73 => ⟨S8x512x1, .f32⟩
  | 74 => ⟨S8x512x3, .f32⟩
  | _ => ⟨S8x16384x3, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S8x16384x3, .f32⟩

abbrev bufTy : (tb : Table) → Fin (tcTables nBuf tb) → BufTy
  | .hbm, ⟨i, _⟩ => hbmTy i
  | .local _ .vmem, ⟨0, _⟩ => ⟨S8x16384, .f32⟩
  | .local _ .vmem, ⟨1, _⟩ => ⟨S8x16384, .f32⟩
  | .local _ .vmem, ⟨2, _⟩ => ⟨S8x16384, .f32⟩
  | .local _ .vmem, ⟨3, _⟩ => ⟨S8x16384, .f32⟩
  | .local _ .vmem, ⟨4, _⟩ => ⟨S128x128, .f32⟩
  | .local _ .vmem, ⟨5, _⟩ => ⟨S8x1, .f32⟩
  | .local _ .vmem, ⟨6, _⟩ => ⟨S8x3, .f32⟩
  | .local _ .vmem, ⟨7, _⟩ => ⟨S512x8, .f32⟩
  | .local _ .vmem, ⟨8, _⟩ => ⟨S512x8, .f32⟩
  | .local _ .vmem, ⟨9, _⟩ => ⟨S512x8, .f32⟩
  | .local _ .vmem, ⟨10, _⟩ => ⟨S512x8, .f32⟩
  | .local _ .vmem, ⟨11, _⟩ => ⟨S8x16384, .f32⟩
  | _, _ => ⟨S8x16384x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_c : Ref sig .tc := ⟨.hbm, 16, rfl⟩
abbrev main_c_0 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_c_1 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_c_2 : Ref sig .tc := ⟨.hbm, 26, rfl⟩
abbrev main_c_3 : Ref sig .tc := ⟨.hbm, 27, rfl⟩
abbrev main_call0_c : Ref sig .tc := ⟨.hbm, 28, rfl⟩
abbrev main_call0_c_0 : Ref sig .tc := ⟨.hbm, 29, rfl⟩
abbrev main_call0_c_1 : Ref sig .tc := ⟨.hbm, 30, rfl⟩
abbrev main_call0_call0_v0 : Ref sig .tc := ⟨.hbm, 31, rfl⟩
abbrev main_call0_v0 : Ref sig .tc := ⟨.hbm, 32, rfl⟩
abbrev main_call0_v1 : Ref sig .tc := ⟨.hbm, 33, rfl⟩
abbrev main_call0_c_2 : Ref sig .tc := ⟨.hbm, 34, rfl⟩
abbrev main_call0_c_3 : Ref sig .tc := ⟨.hbm, 35, rfl⟩
abbrev main_call0_call1_v0 : Ref sig .tc := ⟨.hbm, 36, rfl⟩
abbrev main_call0_v2 : Ref sig .tc := ⟨.hbm, 37, rfl⟩
abbrev main_call0_v3 : Ref sig .tc := ⟨.hbm, 38, rfl⟩
abbrev main_call0_c_4 : Ref sig .tc := ⟨.hbm, 39, rfl⟩
abbrev main_call0_c_5 : Ref sig .tc := ⟨.hbm, 40, rfl⟩
abbrev main_call0_call2_v0 : Ref sig .tc := ⟨.hbm, 41, rfl⟩
abbrev main_call0_v4 : Ref sig .tc := ⟨.hbm, 42, rfl⟩
abbrev main_call0_v5 : Ref sig .tc := ⟨.hbm, 43, rfl⟩
abbrev main_call0_v6 : Ref sig .tc := ⟨.hbm, 44, rfl⟩
abbrev main_call0_v7 : Ref sig .tc := ⟨.hbm, 45, rfl⟩
abbrev main_call0_call3_v0 : Ref sig .tc := ⟨.hbm, 46, rfl⟩
abbrev main_call0_call3_v1 : Ref sig .tc := ⟨.hbm, 47, rfl⟩
abbrev main_call0_call3_v2 : Ref sig .tc := ⟨.hbm, 48, rfl⟩
abbrev main_call0_call3_v3 : Ref sig .tc := ⟨.hbm, 49, rfl⟩
abbrev main_call0_call3_v4 : Ref sig .tc := ⟨.hbm, 50, rfl⟩
abbrev main_call0_call3_c : Ref sig .tc := ⟨.hbm, 51, rfl⟩
abbrev main_call0_call3_v5 : Ref sig .tc := ⟨.hbm, 52, rfl⟩
abbrev main_call0_call3_v6 : Ref sig .tc := ⟨.hbm, 53, rfl⟩
abbrev main_call0_call3_c_0 : Ref sig .tc := ⟨.hbm, 54, rfl⟩
abbrev main_call0_call3_v7 : Ref sig .tc := ⟨.hbm, 55, rfl⟩
abbrev main_call0_call3_v8 : Ref sig .tc := ⟨.hbm, 56, rfl⟩
abbrev main_call0_call3_v9 : Ref sig .tc := ⟨.hbm, 57, rfl⟩
abbrev main_call0_call3_v10 : Ref sig .tc := ⟨.hbm, 58, rfl⟩
abbrev main_call0_call3_call0_v0 : Ref sig .tc := ⟨.hbm, 59, rfl⟩
abbrev main_call0_call3_call0_c : Ref sig .tc := ⟨.hbm, 60, rfl⟩
abbrev main_call0_call3_call0_v1 : Ref sig .tc := ⟨.hbm, 61, rfl⟩
abbrev main_call0_call3_call0_v2 : Ref sig .tc := ⟨.hbm, 62, rfl⟩
abbrev main_call0_call3_call0_v3 : Ref sig .tc := ⟨.hbm, 63, rfl⟩
abbrev main_call0_call3_call0_v4 : Ref sig .tc := ⟨.hbm, 64, rfl⟩
abbrev main_call0_call3_call0_v5 : Ref sig .tc := ⟨.hbm, 65, rfl⟩
abbrev main_call0_call3_call0_v6 : Ref sig .tc := ⟨.hbm, 66, rfl⟩
abbrev main_call0_call3_call0_c_0 : Ref sig .tc := ⟨.hbm, 67, rfl⟩
abbrev main_call0_call3_call0_v7 : Ref sig .tc := ⟨.hbm, 68, rfl⟩
abbrev main_call0_call3_call0_v8 : Ref sig .tc := ⟨.hbm, 69, rfl⟩
abbrev main_call0_call3_call0_c_1 : Ref sig .tc := ⟨.hbm, 70, rfl⟩
abbrev main_call0_call3_call0_v9 : Ref sig .tc := ⟨.hbm, 71, rfl⟩
abbrev main_call0_call3_call0_v10 : Ref sig .tc := ⟨.hbm, 72, rfl⟩
abbrev main_call0_call3_call0_v11 : Ref sig .tc := ⟨.hbm, 73, rfl⟩
abbrev main_call0_call3_call0_v12 : Ref sig .tc := ⟨.hbm, 74, rfl⟩
abbrev main_call0_call3_call0_v13 : Ref sig .tc := ⟨.hbm, 75, rfl⟩
abbrev main_call0_call3_call0_c_2 : Ref sig .tc := ⟨.hbm, 76, rfl⟩
abbrev main_call0_call3_call0_v14 : Ref sig .tc := ⟨.hbm, 77, rfl⟩
abbrev main_call0_call3_call0_v15 : Ref sig .tc := ⟨.hbm, 78, rfl⟩
abbrev main_call0_call3_call0_c_3 : Ref sig .tc := ⟨.hbm, 79, rfl⟩
abbrev main_call0_call3_call0_v16 : Ref sig .tc := ⟨.hbm, 80, rfl⟩
abbrev main_call0_call3_call0_v17 : Ref sig .tc := ⟨.hbm, 81, rfl⟩
abbrev main_call0_call3_call0_v18 : Ref sig .tc := ⟨.hbm, 82, rfl⟩
abbrev main_call0_call3_call0_v19 : Ref sig .tc := ⟨.hbm, 83, rfl⟩
abbrev main_call0_call3_call0_v20 : Ref sig .tc := ⟨.hbm, 84, rfl⟩
abbrev main_call0_call3_call0_c_4 : Ref sig .tc := ⟨.hbm, 85, rfl⟩
abbrev main_call0_call3_call0_v21 : Ref sig .tc := ⟨.hbm, 86, rfl⟩
abbrev main_call0_call3_call0_v22 : Ref sig .tc := ⟨.hbm, 87, rfl⟩
abbrev main_call0_call3_call0_c_5 : Ref sig .tc := ⟨.hbm, 88, rfl⟩
abbrev main_call0_call3_call0_v23 : Ref sig .tc := ⟨.hbm, 89, rfl⟩
abbrev main_call0_call3_call0_v24 : Ref sig .tc := ⟨.hbm, 90, rfl⟩
abbrev main_call0_call3_call0_v25 : Ref sig .tc := ⟨.hbm, 91, rfl⟩
abbrev main_call0_call3_call0_v26 : Ref sig .tc := ⟨.hbm, 92, rfl⟩
abbrev main_call0_call3_call0_v27 : Ref sig .tc := ⟨.hbm, 93, rfl⟩
abbrev main_call0_call3_call0_c_6 : Ref sig .tc := ⟨.hbm, 94, rfl⟩
abbrev main_call0_call3_call0_v28 : Ref sig .tc := ⟨.hbm, 95, rfl⟩
abbrev main_call0_call3_call0_v29 : Ref sig .tc := ⟨.hbm, 96, rfl⟩
abbrev main_call0_call3_call0_c_7 : Ref sig .tc := ⟨.hbm, 97, rfl⟩
abbrev main_call0_call3_call0_v30 : Ref sig .tc := ⟨.hbm, 98, rfl⟩
abbrev main_call0_call3_call0_v31 : Ref sig .tc := ⟨.hbm, 99, rfl⟩
abbrev main_call0_call3_call0_v32 : Ref sig .tc := ⟨.hbm, 100, rfl⟩
abbrev main_call0_call3_call0_v33 : Ref sig .tc := ⟨.hbm, 101, rfl⟩
abbrev main_call0_call3_call0_v34 : Ref sig .tc := ⟨.hbm, 102, rfl⟩
abbrev main_call0_call3_call0_v35 : Ref sig .tc := ⟨.hbm, 103, rfl⟩
abbrev main_call0_call3_call0_v36 : Ref sig .tc := ⟨.hbm, 104, rfl⟩
abbrev main_call0_call3_call0_v37 : Ref sig .tc := ⟨.hbm, 105, rfl⟩
abbrev main_call0_call3_call0_c_8 : Ref sig .tc := ⟨.hbm, 106, rfl⟩
abbrev main_call0_call3_call0_v38 : Ref sig .tc := ⟨.hbm, 107, rfl⟩
abbrev main_call0_call3_call0_v39 : Ref sig .tc := ⟨.hbm, 108, rfl⟩
abbrev main_call0_call3_call0_v40 : Ref sig .tc := ⟨.hbm, 109, rfl⟩
abbrev main_call0_call3_call0_c_9 : Ref sig .tc := ⟨.hbm, 110, rfl⟩
abbrev main_call0_call3_call0_v41 : Ref sig .tc := ⟨.hbm, 111, rfl⟩
abbrev main_call0_call3_call0_v42 : Ref sig .tc := ⟨.hbm, 112, rfl⟩
abbrev main_call0_call3_call0_c_10 : Ref sig .tc := ⟨.hbm, 113, rfl⟩
abbrev main_call0_call3_call0_v43 : Ref sig .tc := ⟨.hbm, 114, rfl⟩
abbrev main_call0_call3_call0_v44 : Ref sig .tc := ⟨.hbm, 115, rfl⟩
abbrev main_call0_call3_call0_v45 : Ref sig .tc := ⟨.hbm, 116, rfl⟩
abbrev main_call0_call3_call0_v46 : Ref sig .tc := ⟨.hbm, 117, rfl⟩
abbrev main_call0_call3_call0_v47 : Ref sig .tc := ⟨.hbm, 118, rfl⟩
abbrev main_call0_call3_call0_c_11 : Ref sig .tc := ⟨.hbm, 119, rfl⟩
abbrev main_call0_call3_call0_v48 : Ref sig .tc := ⟨.hbm, 120, rfl⟩
abbrev main_call0_call3_call0_v49 : Ref sig .tc := ⟨.hbm, 121, rfl⟩
abbrev main_call0_call3_call0_c_12 : Ref sig .tc := ⟨.hbm, 122, rfl⟩
abbrev main_call0_call3_call0_v50 : Ref sig .tc := ⟨.hbm, 123, rfl⟩
abbrev main_call0_call3_call0_v51 : Ref sig .tc := ⟨.hbm, 124, rfl⟩
abbrev main_call0_call3_call0_v52 : Ref sig .tc := ⟨.hbm, 125, rfl⟩
abbrev main_call0_call3_call0_v53 : Ref sig .tc := ⟨.hbm, 126, rfl⟩
abbrev main_call0_call3_call0_v54 : Ref sig .tc := ⟨.hbm, 127, rfl⟩
abbrev main_call0_call3_call0_c_13 : Ref sig .tc := ⟨.hbm, 128, rfl⟩
abbrev main_call0_call3_call0_v55 : Ref sig .tc := ⟨.hbm, 129, rfl⟩
abbrev main_call0_call3_call0_v56 : Ref sig .tc := ⟨.hbm, 130, rfl⟩
abbrev main_call0_call3_call0_c_14 : Ref sig .tc := ⟨.hbm, 131, rfl⟩
abbrev main_call0_call3_call0_v57 : Ref sig .tc := ⟨.hbm, 132, rfl⟩
abbrev main_call0_call3_call0_v58 : Ref sig .tc := ⟨.hbm, 133, rfl⟩
abbrev main_call0_call3_call0_v59 : Ref sig .tc := ⟨.hbm, 134, rfl⟩
abbrev main_call0_call3_call0_v60 : Ref sig .tc := ⟨.hbm, 135, rfl⟩
abbrev main_call0_call3_call0_v61 : Ref sig .tc := ⟨.hbm, 136, rfl⟩
abbrev main_call0_call3_call0_c_15 : Ref sig .tc := ⟨.hbm, 137, rfl⟩
abbrev main_call0_call3_call0_v62 : Ref sig .tc := ⟨.hbm, 138, rfl⟩
abbrev main_call0_call3_call0_v63 : Ref sig .tc := ⟨.hbm, 139, rfl⟩
abbrev main_call0_call3_call0_c_16 : Ref sig .tc := ⟨.hbm, 140, rfl⟩
abbrev main_call0_call3_call0_v64 : Ref sig .tc := ⟨.hbm, 141, rfl⟩
abbrev main_call0_call3_call0_v65 : Ref sig .tc := ⟨.hbm, 142, rfl⟩
abbrev main_call0_call3_call0_v66 : Ref sig .tc := ⟨.hbm, 143, rfl⟩
abbrev main_call0_call3_call0_v67 : Ref sig .tc := ⟨.hbm, 144, rfl⟩
abbrev main_call0_call3_call0_v68 : Ref sig .tc := ⟨.hbm, 145, rfl⟩
abbrev main_call0_call3_call0_v69 : Ref sig .tc := ⟨.hbm, 146, rfl⟩
abbrev main_call0_call3_call0_v70 : Ref sig .tc := ⟨.hbm, 147, rfl⟩
abbrev main_call0_call3_call0_v71 : Ref sig .tc := ⟨.hbm, 148, rfl⟩
abbrev main_call0_call3_call0_c_17 : Ref sig .tc := ⟨.hbm, 149, rfl⟩
abbrev main_call0_call3_call0_v72 : Ref sig .tc := ⟨.hbm, 150, rfl⟩
abbrev main_call0_call3_call0_v73 : Ref sig .tc := ⟨.hbm, 151, rfl⟩
abbrev main_call0_call3_call0_v74 : Ref sig .tc := ⟨.hbm, 152, rfl⟩
abbrev main_call0_call3_call0_c_18 : Ref sig .tc := ⟨.hbm, 153, rfl⟩
abbrev main_call0_call3_call0_v75 : Ref sig .tc := ⟨.hbm, 154, rfl⟩
abbrev main_call0_call3_call0_v76 : Ref sig .tc := ⟨.hbm, 155, rfl⟩
abbrev main_call0_call3_call0_c_19 : Ref sig .tc := ⟨.hbm, 156, rfl⟩
abbrev main_call0_call3_call0_v77 : Ref sig .tc := ⟨.hbm, 157, rfl⟩
abbrev main_call0_call3_call0_v78 : Ref sig .tc := ⟨.hbm, 158, rfl⟩
abbrev main_call0_call3_call0_v79 : Ref sig .tc := ⟨.hbm, 159, rfl⟩
abbrev main_call0_call3_call0_v80 : Ref sig .tc := ⟨.hbm, 160, rfl⟩
abbrev main_call0_call3_call0_v81 : Ref sig .tc := ⟨.hbm, 161, rfl⟩
abbrev main_call0_call3_call0_c_20 : Ref sig .tc := ⟨.hbm, 162, rfl⟩
abbrev main_call0_call3_call0_v82 : Ref sig .tc := ⟨.hbm, 163, rfl⟩
abbrev main_call0_call3_call0_v83 : Ref sig .tc := ⟨.hbm, 164, rfl⟩
abbrev main_call0_call3_call0_c_21 : Ref sig .tc := ⟨.hbm, 165, rfl⟩
abbrev main_call0_call3_call0_v84 : Ref sig .tc := ⟨.hbm, 166, rfl⟩
abbrev main_call0_call3_call0_v85 : Ref sig .tc := ⟨.hbm, 167, rfl⟩
abbrev main_call0_call3_call0_v86 : Ref sig .tc := ⟨.hbm, 168, rfl⟩
abbrev main_call0_call3_call0_v87 : Ref sig .tc := ⟨.hbm, 169, rfl⟩
abbrev main_call0_call3_call0_v88 : Ref sig .tc := ⟨.hbm, 170, rfl⟩
abbrev main_call0_call3_call0_c_22 : Ref sig .tc := ⟨.hbm, 171, rfl⟩
abbrev main_call0_call3_call0_v89 : Ref sig .tc := ⟨.hbm, 172, rfl⟩
abbrev main_call0_call3_call0_v90 : Ref sig .tc := ⟨.hbm, 173, rfl⟩
abbrev main_call0_call3_call0_c_23 : Ref sig .tc := ⟨.hbm, 174, rfl⟩
abbrev main_call0_call3_call0_v91 : Ref sig .tc := ⟨.hbm, 175, rfl⟩
abbrev main_call0_call3_call0_v92 : Ref sig .tc := ⟨.hbm, 176, rfl⟩
abbrev main_call0_call3_call0_v93 : Ref sig .tc := ⟨.hbm, 177, rfl⟩
abbrev main_call0_call3_call0_v94 : Ref sig .tc := ⟨.hbm, 178, rfl⟩
abbrev main_call0_call3_call0_v95 : Ref sig .tc := ⟨.hbm, 179, rfl⟩
abbrev main_call0_call3_call0_c_24 : Ref sig .tc := ⟨.hbm, 180, rfl⟩
abbrev main_call0_call3_call0_v96 : Ref sig .tc := ⟨.hbm, 181, rfl⟩
abbrev main_call0_call3_call0_v97 : Ref sig .tc := ⟨.hbm, 182, rfl⟩
abbrev main_call0_call3_call0_c_25 : Ref sig .tc := ⟨.hbm, 183, rfl⟩
abbrev main_call0_call3_call0_v98 : Ref sig .tc := ⟨.hbm, 184, rfl⟩
abbrev main_call0_call3_call0_v99 : Ref sig .tc := ⟨.hbm, 185, rfl⟩
abbrev main_call0_call3_call0_v100 : Ref sig .tc := ⟨.hbm, 186, rfl⟩
abbrev main_call0_call3_call0_v101 : Ref sig .tc := ⟨.hbm, 187, rfl⟩
abbrev main_call0_call3_call0_v102 : Ref sig .tc := ⟨.hbm, 188, rfl⟩
abbrev main_call0_call3_call0_v103 : Ref sig .tc := ⟨.hbm, 189, rfl⟩
abbrev main_call0_call3_call0_v104 : Ref sig .tc := ⟨.hbm, 190, rfl⟩
abbrev main_call0_call3_call0_v105 : Ref sig .tc := ⟨.hbm, 191, rfl⟩
abbrev main_call0_call3_call0_c_26 : Ref sig .tc := ⟨.hbm, 192, rfl⟩
abbrev main_call0_call3_call0_v106 : Ref sig .tc := ⟨.hbm, 193, rfl⟩
abbrev main_call0_call3_call0_v107 : Ref sig .tc := ⟨.hbm, 194, rfl⟩
abbrev main_call0_call3_call0_v108 : Ref sig .tc := ⟨.hbm, 195, rfl⟩
abbrev main_call0_call3_call0_c_27 : Ref sig .tc := ⟨.hbm, 196, rfl⟩
abbrev main_call0_call3_call0_v109 : Ref sig .tc := ⟨.hbm, 197, rfl⟩
abbrev main_call0_call3_call0_v110 : Ref sig .tc := ⟨.hbm, 198, rfl⟩
abbrev main_call0_call3_call0_c_28 : Ref sig .tc := ⟨.hbm, 199, rfl⟩
abbrev main_call0_call3_call0_v111 : Ref sig .tc := ⟨.hbm, 200, rfl⟩
abbrev main_call0_call3_call0_v112 : Ref sig .tc := ⟨.hbm, 201, rfl⟩
abbrev main_call0_call3_call0_v113 : Ref sig .tc := ⟨.hbm, 202, rfl⟩
abbrev main_call0_call3_call0_v114 : Ref sig .tc := ⟨.hbm, 203, rfl⟩
abbrev main_call0_call3_call0_v115 : Ref sig .tc := ⟨.hbm, 204, rfl⟩
abbrev main_call0_call3_call0_c_29 : Ref sig .tc := ⟨.hbm, 205, rfl⟩
abbrev main_call0_call3_call0_v116 : Ref sig .tc := ⟨.hbm, 206, rfl⟩
abbrev main_call0_call3_call0_v117 : Ref sig .tc := ⟨.hbm, 207, rfl⟩
abbrev main_call0_call3_call0_c_30 : Ref sig .tc := ⟨.hbm, 208, rfl⟩
abbrev main_call0_call3_call0_v118 : Ref sig .tc := ⟨.hbm, 209, rfl⟩
abbrev main_call0_call3_call0_v119 : Ref sig .tc := ⟨.hbm, 210, rfl⟩
abbrev main_call0_call3_call0_v120 : Ref sig .tc := ⟨.hbm, 211, rfl⟩
abbrev main_call0_call3_call0_v121 : Ref sig .tc := ⟨.hbm, 212, rfl⟩
abbrev main_call0_call3_call0_v122 : Ref sig .tc := ⟨.hbm, 213, rfl⟩
abbrev main_call0_call3_call0_c_31 : Ref sig .tc := ⟨.hbm, 214, rfl⟩
abbrev main_call0_call3_call0_v123 : Ref sig .tc := ⟨.hbm, 215, rfl⟩
abbrev main_call0_call3_call0_v124 : Ref sig .tc := ⟨.hbm, 216, rfl⟩
abbrev main_call0_call3_call0_c_32 : Ref sig .tc := ⟨.hbm, 217, rfl⟩
abbrev main_call0_call3_call0_v125 : Ref sig .tc := ⟨.hbm, 218, rfl⟩
abbrev main_call0_call3_call0_v126 : Ref sig .tc := ⟨.hbm, 219, rfl⟩
abbrev main_call0_call3_call0_v127 : Ref sig .tc := ⟨.hbm, 220, rfl⟩
abbrev main_call0_call3_call0_v128 : Ref sig .tc := ⟨.hbm, 221, rfl⟩
abbrev main_call0_call3_call0_v129 : Ref sig .tc := ⟨.hbm, 222, rfl⟩
abbrev main_call0_call3_call0_c_33 : Ref sig .tc := ⟨.hbm, 223, rfl⟩
abbrev main_call0_call3_call0_v130 : Ref sig .tc := ⟨.hbm, 224, rfl⟩
abbrev main_call0_call3_call0_v131 : Ref sig .tc := ⟨.hbm, 225, rfl⟩
abbrev main_call0_call3_call0_c_34 : Ref sig .tc := ⟨.hbm, 226, rfl⟩
abbrev main_call0_call3_call0_v132 : Ref sig .tc := ⟨.hbm, 227, rfl⟩
abbrev main_call0_call3_call0_v133 : Ref sig .tc := ⟨.hbm, 228, rfl⟩
abbrev main_call0_call3_call0_v134 : Ref sig .tc := ⟨.hbm, 229, rfl⟩
abbrev main_call0_call3_call0_v135 : Ref sig .tc := ⟨.hbm, 230, rfl⟩
abbrev main_call0_call3_call0_v136 : Ref sig .tc := ⟨.hbm, 231, rfl⟩
abbrev main_call0_call3_call0_v137 : Ref sig .tc := ⟨.hbm, 232, rfl⟩
abbrev main_call0_call3_call0_v138 : Ref sig .tc := ⟨.hbm, 233, rfl⟩
abbrev main_call0_call3_call0_v139 : Ref sig .tc := ⟨.hbm, 234, rfl⟩
abbrev main_call0_call3_call0_c_35 : Ref sig .tc := ⟨.hbm, 235, rfl⟩
abbrev main_call0_call3_call0_v140 : Ref sig .tc := ⟨.hbm, 236, rfl⟩
abbrev main_call0_call3_call0_v141 : Ref sig .tc := ⟨.hbm, 237, rfl⟩
abbrev main_call0_call3_call0_v142 : Ref sig .tc := ⟨.hbm, 238, rfl⟩
abbrev main_call0_call3_call0_c_36 : Ref sig .tc := ⟨.hbm, 239, rfl⟩
abbrev main_call0_call3_call0_v143 : Ref sig .tc := ⟨.hbm, 240, rfl⟩
abbrev main_call0_call3_call0_v144 : Ref sig .tc := ⟨.hbm, 241, rfl⟩
abbrev main_call0_call3_call0_c_37 : Ref sig .tc := ⟨.hbm, 242, rfl⟩
abbrev main_call0_call3_call0_v145 : Ref sig .tc := ⟨.hbm, 243, rfl⟩
abbrev main_call0_call3_call0_v146 : Ref sig .tc := ⟨.hbm, 244, rfl⟩
abbrev main_call0_call3_call0_v147 : Ref sig .tc := ⟨.hbm, 245, rfl⟩
abbrev main_call0_call3_call0_v148 : Ref sig .tc := ⟨.hbm, 246, rfl⟩
abbrev main_call0_call3_call0_v149 : Ref sig .tc := ⟨.hbm, 247, rfl⟩
abbrev main_call0_call3_call0_c_38 : Ref sig .tc := ⟨.hbm, 248, rfl⟩
abbrev main_call0_call3_call0_v150 : Ref sig .tc := ⟨.hbm, 249, rfl⟩
abbrev main_call0_call3_call0_v151 : Ref sig .tc := ⟨.hbm, 250, rfl⟩
abbrev main_call0_call3_call0_c_39 : Ref sig .tc := ⟨.hbm, 251, rfl⟩
abbrev main_call0_call3_call0_v152 : Ref sig .tc := ⟨.hbm, 252, rfl⟩
abbrev main_call0_call3_call0_v153 : Ref sig .tc := ⟨.hbm, 253, rfl⟩
abbrev main_call0_call3_call0_v154 : Ref sig .tc := ⟨.hbm, 254, rfl⟩
abbrev main_call0_call3_call0_v155 : Ref sig .tc := ⟨.hbm, 255, rfl⟩
abbrev main_call0_call3_call0_v156 : Ref sig .tc := ⟨.hbm, 256, rfl⟩
abbrev main_call0_call3_call0_c_40 : Ref sig .tc := ⟨.hbm, 257, rfl⟩
abbrev main_call0_call3_call0_v157 : Ref sig .tc := ⟨.hbm, 258, rfl⟩
abbrev main_call0_call3_call0_v158 : Ref sig .tc := ⟨.hbm, 259, rfl⟩
abbrev main_call0_call3_call0_c_41 : Ref sig .tc := ⟨.hbm, 260, rfl⟩
abbrev main_call0_call3_call0_v159 : Ref sig .tc := ⟨.hbm, 261, rfl⟩
abbrev main_call0_call3_call0_v160 : Ref sig .tc := ⟨.hbm, 262, rfl⟩
abbrev main_call0_call3_call0_v161 : Ref sig .tc := ⟨.hbm, 263, rfl⟩
abbrev main_call0_call3_call0_v162 : Ref sig .tc := ⟨.hbm, 264, rfl⟩
abbrev main_call0_call3_call0_v163 : Ref sig .tc := ⟨.hbm, 265, rfl⟩
abbrev main_call0_call3_call0_c_42 : Ref sig .tc := ⟨.hbm, 266, rfl⟩
abbrev main_call0_call3_call0_v164 : Ref sig .tc := ⟨.hbm, 267, rfl⟩
abbrev main_call0_call3_call0_v165 : Ref sig .tc := ⟨.hbm, 268, rfl⟩
abbrev main_call0_call3_call0_c_43 : Ref sig .tc := ⟨.hbm, 269, rfl⟩
abbrev main_call0_call3_call0_v166 : Ref sig .tc := ⟨.hbm, 270, rfl⟩
abbrev main_call0_call3_call0_v167 : Ref sig .tc := ⟨.hbm, 271, rfl⟩
abbrev main_call0_call3_call0_v168 : Ref sig .tc := ⟨.hbm, 272, rfl⟩
abbrev main_call0_call3_call0_v169 : Ref sig .tc := ⟨.hbm, 273, rfl⟩
abbrev main_call0_call3_call0_v170 : Ref sig .tc := ⟨.hbm, 274, rfl⟩
abbrev main_call0_call3_v11_0 : Ref sig .tc := ⟨.hbm, 275, rfl⟩
abbrev main_call0_call3_call0_v172 : Ref sig .tc := ⟨.hbm, 276, rfl⟩
abbrev main_call0_call3_call0_v173 : Ref sig .tc := ⟨.hbm, 277, rfl⟩
abbrev main_call0_call3_call0_c_44 : Ref sig .tc := ⟨.hbm, 278, rfl⟩
abbrev main_call0_call3_call0_v174 : Ref sig .tc := ⟨.hbm, 279, rfl⟩
abbrev main_call0_call3_v11_1 : Ref sig .tc := ⟨.hbm, 280, rfl⟩
abbrev main_call0_call3_v12 : Ref sig .tc := ⟨.hbm, 281, rfl⟩
abbrev main_call0_call3_v13 : Ref sig .tc := ⟨.hbm, 282, rfl⟩
abbrev main_call0_v8 : Ref sig .tc := ⟨.hbm, 283, rfl⟩
abbrev main_call0_v9 : Ref sig .tc := ⟨.hbm, 284, rfl⟩
abbrev main_call0_v10 : Ref sig .tc := ⟨.hbm, 285, rfl⟩
abbrev main_call0_v11 : Ref sig .tc := ⟨.hbm, 286, rfl⟩
abbrev main_call0_v12 : Ref sig .tc := ⟨.hbm, 287, rfl⟩
abbrev main_call0_v13 : Ref sig .tc := ⟨.hbm, 288, rfl⟩
abbrev main_call0_v14 : Ref sig .tc := ⟨.hbm, 289, rfl⟩
abbrev main_call0_v15 : Ref sig .tc := ⟨.hbm, 290, rfl⟩
abbrev main_call0_v16 : Ref sig .tc := ⟨.hbm, 291, rfl⟩
abbrev main_call0_v17 : Ref sig .tc := ⟨.hbm, 292, rfl⟩
abbrev main_call0_c_6 : Ref sig .tc := ⟨.hbm, 293, rfl⟩
abbrev main_call0_v18 : Ref sig .tc := ⟨.hbm, 294, rfl⟩
abbrev main_call0_v19 : Ref sig .tc := ⟨.hbm, 295, rfl⟩
abbrev main_call0_c_7 : Ref sig .tc := ⟨.hbm, 296, rfl⟩
abbrev main_call0_v20 : Ref sig .tc := ⟨.hbm, 297, rfl⟩
abbrev main_call0_v21 : Ref sig .tc := ⟨.hbm, 298, rfl⟩
abbrev main_call0_v22 : Ref sig .tc := ⟨.hbm, 299, rfl⟩
abbrev main_call0_v23 : Ref sig .tc := ⟨.hbm, 300, rfl⟩
abbrev main_call0_call4_v0 : Ref sig .tc := ⟨.hbm, 301, rfl⟩
abbrev main_call0_call4_c : Ref sig .tc := ⟨.hbm, 302, rfl⟩
abbrev main_call0_call4_v1 : Ref sig .tc := ⟨.hbm, 303, rfl⟩
abbrev main_call0_call4_v2 : Ref sig .tc := ⟨.hbm, 304, rfl⟩
abbrev main_call0_call4_v3 : Ref sig .tc := ⟨.hbm, 305, rfl⟩
abbrev main_call0_call4_v4 : Ref sig .tc := ⟨.hbm, 306, rfl⟩
abbrev main_call0_call4_v5 : Ref sig .tc := ⟨.hbm, 307, rfl⟩
abbrev main_call0_call4_v6 : Ref sig .tc := ⟨.hbm, 308, rfl⟩
abbrev main_call0_call4_c_0 : Ref sig .tc := ⟨.hbm, 309, rfl⟩
abbrev main_call0_call4_v7 : Ref sig .tc := ⟨.hbm, 310, rfl⟩
abbrev main_call0_call4_v8 : Ref sig .tc := ⟨.hbm, 311, rfl⟩
abbrev main_call0_call4_c_1 : Ref sig .tc := ⟨.hbm, 312, rfl⟩
abbrev main_call0_call4_v9 : Ref sig .tc := ⟨.hbm, 313, rfl⟩
abbrev main_call0_call4_v10 : Ref sig .tc := ⟨.hbm, 314, rfl⟩
abbrev main_call0_call4_v11 : Ref sig .tc := ⟨.hbm, 315, rfl⟩
abbrev main_call0_call4_v12 : Ref sig .tc := ⟨.hbm, 316, rfl⟩
abbrev main_call0_call4_v13 : Ref sig .tc := ⟨.hbm, 317, rfl⟩
abbrev main_call0_call4_c_2 : Ref sig .tc := ⟨.hbm, 318, rfl⟩
abbrev main_call0_call4_v14 : Ref sig .tc := ⟨.hbm, 319, rfl⟩
abbrev main_call0_call4_v15 : Ref sig .tc := ⟨.hbm, 320, rfl⟩
abbrev main_call0_call4_c_3 : Ref sig .tc := ⟨.hbm, 321, rfl⟩
abbrev main_call0_call4_v16 : Ref sig .tc := ⟨.hbm, 322, rfl⟩
abbrev main_call0_call4_v17 : Ref sig .tc := ⟨.hbm, 323, rfl⟩
abbrev main_call0_call4_v18 : Ref sig .tc := ⟨.hbm, 324, rfl⟩
abbrev main_call0_call4_v19 : Ref sig .tc := ⟨.hbm, 325, rfl⟩
abbrev main_call0_call4_v20 : Ref sig .tc := ⟨.hbm, 326, rfl⟩
abbrev main_call0_call4_c_4 : Ref sig .tc := ⟨.hbm, 327, rfl⟩
abbrev main_call0_call4_v21 : Ref sig .tc := ⟨.hbm, 328, rfl⟩
abbrev main_call0_call4_v22 : Ref sig .tc := ⟨.hbm, 329, rfl⟩
abbrev main_call0_call4_c_5 : Ref sig .tc := ⟨.hbm, 330, rfl⟩
abbrev main_call0_call4_v23 : Ref sig .tc := ⟨.hbm, 331, rfl⟩
abbrev main_call0_call4_v24 : Ref sig .tc := ⟨.hbm, 332, rfl⟩
abbrev main_call0_call4_v25 : Ref sig .tc := ⟨.hbm, 333, rfl⟩
abbrev main_call0_call4_v26 : Ref sig .tc := ⟨.hbm, 334, rfl⟩
abbrev main_call0_call4_v27 : Ref sig .tc := ⟨.hbm, 335, rfl⟩
abbrev main_call0_call4_c_6 : Ref sig .tc := ⟨.hbm, 336, rfl⟩
abbrev main_call0_call4_v28 : Ref sig .tc := ⟨.hbm, 337, rfl⟩
abbrev main_call0_call4_v29 : Ref sig .tc := ⟨.hbm, 338, rfl⟩
abbrev main_call0_call4_c_7 : Ref sig .tc := ⟨.hbm, 339, rfl⟩
abbrev main_call0_call4_v30 : Ref sig .tc := ⟨.hbm, 340, rfl⟩
abbrev main_call0_call4_v31 : Ref sig .tc := ⟨.hbm, 341, rfl⟩
abbrev main_call0_call4_v32 : Ref sig .tc := ⟨.hbm, 342, rfl⟩
abbrev main_call0_call4_v33 : Ref sig .tc := ⟨.hbm, 343, rfl⟩
abbrev main_call0_call4_v34 : Ref sig .tc := ⟨.hbm, 344, rfl⟩
abbrev main_call0_call4_v35 : Ref sig .tc := ⟨.hbm, 345, rfl⟩
abbrev main_call0_call4_v36 : Ref sig .tc := ⟨.hbm, 346, rfl⟩
abbrev main_call0_call4_v37 : Ref sig .tc := ⟨.hbm, 347, rfl⟩
abbrev main_call0_call4_c_8 : Ref sig .tc := ⟨.hbm, 348, rfl⟩
abbrev main_call0_call4_v38 : Ref sig .tc := ⟨.hbm, 349, rfl⟩
abbrev main_call0_call4_v39 : Ref sig .tc := ⟨.hbm, 350, rfl⟩
abbrev main_call0_call4_v40 : Ref sig .tc := ⟨.hbm, 351, rfl⟩
abbrev main_call0_call4_c_9 : Ref sig .tc := ⟨.hbm, 352, rfl⟩
abbrev main_call0_call4_v41 : Ref sig .tc := ⟨.hbm, 353, rfl⟩
abbrev main_call0_call4_v42 : Ref sig .tc := ⟨.hbm, 354, rfl⟩
abbrev main_call0_call4_c_10 : Ref sig .tc := ⟨.hbm, 355, rfl⟩
abbrev main_call0_call4_v43 : Ref sig .tc := ⟨.hbm, 356, rfl⟩
abbrev main_call0_call4_v44 : Ref sig .tc := ⟨.hbm, 357, rfl⟩
abbrev main_call0_call4_v45 : Ref sig .tc := ⟨.hbm, 358, rfl⟩
abbrev main_call0_call4_v46 : Ref sig .tc := ⟨.hbm, 359, rfl⟩
abbrev main_call0_call4_v47 : Ref sig .tc := ⟨.hbm, 360, rfl⟩
abbrev main_call0_call4_c_11 : Ref sig .tc := ⟨.hbm, 361, rfl⟩
abbrev main_call0_call4_v48 : Ref sig .tc := ⟨.hbm, 362, rfl⟩
abbrev main_call0_call4_v49 : Ref sig .tc := ⟨.hbm, 363, rfl⟩
abbrev main_call0_call4_c_12 : Ref sig .tc := ⟨.hbm, 364, rfl⟩
abbrev main_call0_call4_v50 : Ref sig .tc := ⟨.hbm, 365, rfl⟩
abbrev main_call0_call4_v51 : Ref sig .tc := ⟨.hbm, 366, rfl⟩
abbrev main_call0_call4_v52 : Ref sig .tc := ⟨.hbm, 367, rfl⟩
abbrev main_call0_call4_v53 : Ref sig .tc := ⟨.hbm, 368, rfl⟩
abbrev main_call0_call4_v54 : Ref sig .tc := ⟨.hbm, 369, rfl⟩
abbrev main_call0_call4_c_13 : Ref sig .tc := ⟨.hbm, 370, rfl⟩
abbrev main_call0_call4_v55 : Ref sig .tc := ⟨.hbm, 371, rfl⟩
abbrev main_call0_call4_v56 : Ref sig .tc := ⟨.hbm, 372, rfl⟩
abbrev main_call0_call4_c_14 : Ref sig .tc := ⟨.hbm, 373, rfl⟩
abbrev main_call0_call4_v57 : Ref sig .tc := ⟨.hbm, 374, rfl⟩
abbrev main_call0_call4_v58 : Ref sig .tc := ⟨.hbm, 375, rfl⟩
abbrev main_call0_call4_v59 : Ref sig .tc := ⟨.hbm, 376, rfl⟩
abbrev main_call0_call4_v60 : Ref sig .tc := ⟨.hbm, 377, rfl⟩
abbrev main_call0_call4_v61 : Ref sig .tc := ⟨.hbm, 378, rfl⟩
abbrev main_call0_call4_c_15 : Ref sig .tc := ⟨.hbm, 379, rfl⟩
abbrev main_call0_call4_v62 : Ref sig .tc := ⟨.hbm, 380, rfl⟩
abbrev main_call0_call4_v63 : Ref sig .tc := ⟨.hbm, 381, rfl⟩
abbrev main_call0_call4_c_16 : Ref sig .tc := ⟨.hbm, 382, rfl⟩
abbrev main_call0_call4_v64 : Ref sig .tc := ⟨.hbm, 383, rfl⟩
abbrev main_call0_call4_v65 : Ref sig .tc := ⟨.hbm, 384, rfl⟩
abbrev main_call0_call4_v66 : Ref sig .tc := ⟨.hbm, 385, rfl⟩
abbrev main_call0_call4_v67 : Ref sig .tc := ⟨.hbm, 386, rfl⟩
abbrev main_call0_call4_v68 : Ref sig .tc := ⟨.hbm, 387, rfl⟩
abbrev main_call0_call4_v69 : Ref sig .tc := ⟨.hbm, 388, rfl⟩
abbrev main_call0_call4_v70 : Ref sig .tc := ⟨.hbm, 389, rfl⟩
abbrev main_call0_call4_v71 : Ref sig .tc := ⟨.hbm, 390, rfl⟩
abbrev main_call0_call4_c_17 : Ref sig .tc := ⟨.hbm, 391, rfl⟩
abbrev main_call0_call4_v72 : Ref sig .tc := ⟨.hbm, 392, rfl⟩
abbrev main_call0_call4_v73 : Ref sig .tc := ⟨.hbm, 393, rfl⟩
abbrev main_call0_call4_v74 : Ref sig .tc := ⟨.hbm, 394, rfl⟩
abbrev main_call0_call4_c_18 : Ref sig .tc := ⟨.hbm, 395, rfl⟩
abbrev main_call0_call4_v75 : Ref sig .tc := ⟨.hbm, 396, rfl⟩
abbrev main_call0_call4_v76 : Ref sig .tc := ⟨.hbm, 397, rfl⟩
abbrev main_call0_call4_c_19 : Ref sig .tc := ⟨.hbm, 398, rfl⟩
abbrev main_call0_call4_v77 : Ref sig .tc := ⟨.hbm, 399, rfl⟩
abbrev main_call0_call4_v78 : Ref sig .tc := ⟨.hbm, 400, rfl⟩
abbrev main_call0_call4_v79 : Ref sig .tc := ⟨.hbm, 401, rfl⟩
abbrev main_call0_call4_v80 : Ref sig .tc := ⟨.hbm, 402, rfl⟩
abbrev main_call0_call4_v81 : Ref sig .tc := ⟨.hbm, 403, rfl⟩
abbrev main_call0_call4_c_20 : Ref sig .tc := ⟨.hbm, 404, rfl⟩
abbrev main_call0_call4_v82 : Ref sig .tc := ⟨.hbm, 405, rfl⟩
abbrev main_call0_call4_v83 : Ref sig .tc := ⟨.hbm, 406, rfl⟩
abbrev main_call0_call4_c_21 : Ref sig .tc := ⟨.hbm, 407, rfl⟩
abbrev main_call0_call4_v84 : Ref sig .tc := ⟨.hbm, 408, rfl⟩
abbrev main_call0_call4_v85 : Ref sig .tc := ⟨.hbm, 409, rfl⟩
abbrev main_call0_call4_v86 : Ref sig .tc := ⟨.hbm, 410, rfl⟩
abbrev main_call0_call4_v87 : Ref sig .tc := ⟨.hbm, 411, rfl⟩
abbrev main_call0_call4_v88 : Ref sig .tc := ⟨.hbm, 412, rfl⟩
abbrev main_call0_call4_c_22 : Ref sig .tc := ⟨.hbm, 413, rfl⟩
abbrev main_call0_call4_v89 : Ref sig .tc := ⟨.hbm, 414, rfl⟩
abbrev main_call0_call4_v90 : Ref sig .tc := ⟨.hbm, 415, rfl⟩
abbrev main_call0_call4_c_23 : Ref sig .tc := ⟨.hbm, 416, rfl⟩
abbrev main_call0_call4_v91 : Ref sig .tc := ⟨.hbm, 417, rfl⟩
abbrev main_call0_call4_v92 : Ref sig .tc := ⟨.hbm, 418, rfl⟩
abbrev main_call0_call4_v93 : Ref sig .tc := ⟨.hbm, 419, rfl⟩
abbrev main_call0_call4_v94 : Ref sig .tc := ⟨.hbm, 420, rfl⟩
abbrev main_call0_call4_v95 : Ref sig .tc := ⟨.hbm, 421, rfl⟩
abbrev main_call0_call4_c_24 : Ref sig .tc := ⟨.hbm, 422, rfl⟩
abbrev main_call0_call4_v96 : Ref sig .tc := ⟨.hbm, 423, rfl⟩
abbrev main_call0_call4_v97 : Ref sig .tc := ⟨.hbm, 424, rfl⟩
abbrev main_call0_call4_c_25 : Ref sig .tc := ⟨.hbm, 425, rfl⟩
abbrev main_call0_call4_v98 : Ref sig .tc := ⟨.hbm, 426, rfl⟩
abbrev main_call0_call4_v99 : Ref sig .tc := ⟨.hbm, 427, rfl⟩
abbrev main_call0_call4_v100 : Ref sig .tc := ⟨.hbm, 428, rfl⟩
abbrev main_call0_call4_v101 : Ref sig .tc := ⟨.hbm, 429, rfl⟩
abbrev main_call0_call4_v102 : Ref sig .tc := ⟨.hbm, 430, rfl⟩
abbrev main_call0_call4_v103 : Ref sig .tc := ⟨.hbm, 431, rfl⟩
abbrev main_call0_call4_v104 : Ref sig .tc := ⟨.hbm, 432, rfl⟩
abbrev main_call0_call4_v105 : Ref sig .tc := ⟨.hbm, 433, rfl⟩
abbrev main_call0_call4_c_26 : Ref sig .tc := ⟨.hbm, 434, rfl⟩
abbrev main_call0_call4_v106 : Ref sig .tc := ⟨.hbm, 435, rfl⟩
abbrev main_call0_call4_v107 : Ref sig .tc := ⟨.hbm, 436, rfl⟩
abbrev main_call0_call4_v108 : Ref sig .tc := ⟨.hbm, 437, rfl⟩
abbrev main_call0_call4_c_27 : Ref sig .tc := ⟨.hbm, 438, rfl⟩
abbrev main_call0_call4_v109 : Ref sig .tc := ⟨.hbm, 439, rfl⟩
abbrev main_call0_call4_v110 : Ref sig .tc := ⟨.hbm, 440, rfl⟩
abbrev main_call0_call4_c_28 : Ref sig .tc := ⟨.hbm, 441, rfl⟩
abbrev main_call0_call4_v111 : Ref sig .tc := ⟨.hbm, 442, rfl⟩
abbrev main_call0_call4_v112 : Ref sig .tc := ⟨.hbm, 443, rfl⟩
abbrev main_call0_call4_v113 : Ref sig .tc := ⟨.hbm, 444, rfl⟩
abbrev main_call0_call4_v114 : Ref sig .tc := ⟨.hbm, 445, rfl⟩
abbrev main_call0_call4_v115 : Ref sig .tc := ⟨.hbm, 446, rfl⟩
abbrev main_call0_call4_c_29 : Ref sig .tc := ⟨.hbm, 447, rfl⟩
abbrev main_call0_call4_v116 : Ref sig .tc := ⟨.hbm, 448, rfl⟩
abbrev main_call0_call4_v117 : Ref sig .tc := ⟨.hbm, 449, rfl⟩
abbrev main_call0_call4_c_30 : Ref sig .tc := ⟨.hbm, 450, rfl⟩
abbrev main_call0_call4_v118 : Ref sig .tc := ⟨.hbm, 451, rfl⟩
abbrev main_call0_call4_v119 : Ref sig .tc := ⟨.hbm, 452, rfl⟩
abbrev main_call0_call4_v120 : Ref sig .tc := ⟨.hbm, 453, rfl⟩
abbrev main_call0_call4_v121 : Ref sig .tc := ⟨.hbm, 454, rfl⟩
abbrev main_call0_call4_v122 : Ref sig .tc := ⟨.hbm, 455, rfl⟩
abbrev main_call0_call4_c_31 : Ref sig .tc := ⟨.hbm, 456, rfl⟩
abbrev main_call0_call4_v123 : Ref sig .tc := ⟨.hbm, 457, rfl⟩
abbrev main_call0_call4_v124 : Ref sig .tc := ⟨.hbm, 458, rfl⟩
abbrev main_call0_call4_c_32 : Ref sig .tc := ⟨.hbm, 459, rfl⟩
abbrev main_call0_call4_v125 : Ref sig .tc := ⟨.hbm, 460, rfl⟩
abbrev main_call0_call4_v126 : Ref sig .tc := ⟨.hbm, 461, rfl⟩
abbrev main_call0_call4_v127 : Ref sig .tc := ⟨.hbm, 462, rfl⟩
abbrev main_call0_call4_v128 : Ref sig .tc := ⟨.hbm, 463, rfl⟩
abbrev main_call0_call4_v129 : Ref sig .tc := ⟨.hbm, 464, rfl⟩
abbrev main_call0_call4_c_33 : Ref sig .tc := ⟨.hbm, 465, rfl⟩
abbrev main_call0_call4_v130 : Ref sig .tc := ⟨.hbm, 466, rfl⟩
abbrev main_call0_call4_v131 : Ref sig .tc := ⟨.hbm, 467, rfl⟩
abbrev main_call0_call4_c_34 : Ref sig .tc := ⟨.hbm, 468, rfl⟩
abbrev main_call0_call4_v132 : Ref sig .tc := ⟨.hbm, 469, rfl⟩
abbrev main_call0_call4_v133 : Ref sig .tc := ⟨.hbm, 470, rfl⟩
abbrev main_call0_call4_v134 : Ref sig .tc := ⟨.hbm, 471, rfl⟩
abbrev main_call0_call4_v135 : Ref sig .tc := ⟨.hbm, 472, rfl⟩
abbrev main_call0_call4_v136 : Ref sig .tc := ⟨.hbm, 473, rfl⟩
abbrev main_call0_call4_v137 : Ref sig .tc := ⟨.hbm, 474, rfl⟩
abbrev main_call0_call4_v138 : Ref sig .tc := ⟨.hbm, 475, rfl⟩
abbrev main_call0_call4_v139 : Ref sig .tc := ⟨.hbm, 476, rfl⟩
abbrev main_call0_call4_c_35 : Ref sig .tc := ⟨.hbm, 477, rfl⟩
abbrev main_call0_call4_v140 : Ref sig .tc := ⟨.hbm, 478, rfl⟩
abbrev main_call0_call4_v141 : Ref sig .tc := ⟨.hbm, 479, rfl⟩
abbrev main_call0_call4_v142 : Ref sig .tc := ⟨.hbm, 480, rfl⟩
abbrev main_call0_call4_c_36 : Ref sig .tc := ⟨.hbm, 481, rfl⟩
abbrev main_call0_call4_v143 : Ref sig .tc := ⟨.hbm, 482, rfl⟩
abbrev main_call0_call4_v144 : Ref sig .tc := ⟨.hbm, 483, rfl⟩
abbrev main_call0_call4_c_37 : Ref sig .tc := ⟨.hbm, 484, rfl⟩
abbrev main_call0_call4_v145 : Ref sig .tc := ⟨.hbm, 485, rfl⟩
abbrev main_call0_call4_v146 : Ref sig .tc := ⟨.hbm, 486, rfl⟩
abbrev main_call0_call4_v147 : Ref sig .tc := ⟨.hbm, 487, rfl⟩
abbrev main_call0_call4_v148 : Ref sig .tc := ⟨.hbm, 488, rfl⟩
abbrev main_call0_call4_v149 : Ref sig .tc := ⟨.hbm, 489, rfl⟩
abbrev main_call0_call4_c_38 : Ref sig .tc := ⟨.hbm, 490, rfl⟩
abbrev main_call0_call4_v150 : Ref sig .tc := ⟨.hbm, 491, rfl⟩
abbrev main_call0_call4_v151 : Ref sig .tc := ⟨.hbm, 492, rfl⟩
abbrev main_call0_call4_c_39 : Ref sig .tc := ⟨.hbm, 493, rfl⟩
abbrev main_call0_call4_v152 : Ref sig .tc := ⟨.hbm, 494, rfl⟩
abbrev main_call0_call4_v153 : Ref sig .tc := ⟨.hbm, 495, rfl⟩
abbrev main_call0_call4_v154 : Ref sig .tc := ⟨.hbm, 496, rfl⟩
abbrev main_call0_call4_v155 : Ref sig .tc := ⟨.hbm, 497, rfl⟩
abbrev main_call0_call4_v156 : Ref sig .tc := ⟨.hbm, 498, rfl⟩
abbrev main_call0_call4_c_40 : Ref sig .tc := ⟨.hbm, 499, rfl⟩
abbrev main_call0_call4_v157 : Ref sig .tc := ⟨.hbm, 500, rfl⟩
abbrev main_call0_call4_v158 : Ref sig .tc := ⟨.hbm, 501, rfl⟩
abbrev main_call0_call4_c_41 : Ref sig .tc := ⟨.hbm, 502, rfl⟩
abbrev main_call0_call4_v159 : Ref sig .tc := ⟨.hbm, 503, rfl⟩
abbrev main_call0_call4_v160 : Ref sig .tc := ⟨.hbm, 504, rfl⟩
abbrev main_call0_call4_v161 : Ref sig .tc := ⟨.hbm, 505, rfl⟩
abbrev main_call0_call4_v162 : Ref sig .tc := ⟨.hbm, 506, rfl⟩
abbrev main_call0_call4_v163 : Ref sig .tc := ⟨.hbm, 507, rfl⟩
abbrev main_call0_call4_c_42 : Ref sig .tc := ⟨.hbm, 508, rfl⟩
abbrev main_call0_call4_v164 : Ref sig .tc := ⟨.hbm, 509, rfl⟩
abbrev main_call0_call4_v165 : Ref sig .tc := ⟨.hbm, 510, rfl⟩
abbrev main_call0_call4_c_43 : Ref sig .tc := ⟨.hbm, 511, rfl⟩
abbrev main_call0_call4_v166 : Ref sig .tc := ⟨.hbm, 512, rfl⟩
abbrev main_call0_call4_v167 : Ref sig .tc := ⟨.hbm, 513, rfl⟩
abbrev main_call0_call4_v168 : Ref sig .tc := ⟨.hbm, 514, rfl⟩
abbrev main_call0_call4_v169 : Ref sig .tc := ⟨.hbm, 515, rfl⟩
abbrev main_call0_call4_v170 : Ref sig .tc := ⟨.hbm, 516, rfl⟩
abbrev main_call0_v24_0 : Ref sig .tc := ⟨.hbm, 517, rfl⟩
abbrev main_call0_call4_v172 : Ref sig .tc := ⟨.hbm, 518, rfl⟩
abbrev main_call0_call4_v173 : Ref sig .tc := ⟨.hbm, 519, rfl⟩
abbrev main_call0_call4_c_44 : Ref sig .tc := ⟨.hbm, 520, rfl⟩
abbrev main_call0_call4_v174 : Ref sig .tc := ⟨.hbm, 521, rfl⟩
abbrev main_call0_v24_1 : Ref sig .tc := ⟨.hbm, 522, rfl⟩
abbrev main_call0_v25 : Ref sig .tc := ⟨.hbm, 523, rfl⟩
abbrev main_call0_v26 : Ref sig .tc := ⟨.hbm, 524, rfl⟩
abbrev main_call0_v27 : Ref sig .tc := ⟨.hbm, 525, rfl⟩
abbrev main_call0_v28 : Ref sig .tc := ⟨.hbm, 526, rfl⟩
abbrev main_call0_v29 : Ref sig .tc := ⟨.hbm, 527, rfl⟩
abbrev main_call0_v30 : Ref sig .tc := ⟨.hbm, 528, rfl⟩
abbrev main_call0_c_8 : Ref sig .tc := ⟨.hbm, 529, rfl⟩
abbrev main_call0_v31 : Ref sig .tc := ⟨.hbm, 530, rfl⟩
abbrev main_call0_v32 : Ref sig .tc := ⟨.hbm, 531, rfl⟩
abbrev main_call0_c_9 : Ref sig .tc := ⟨.hbm, 532, rfl⟩
abbrev main_call0_v33 : Ref sig .tc := ⟨.hbm, 533, rfl⟩
abbrev main_call0_v34 : Ref sig .tc := ⟨.hbm, 534, rfl⟩
abbrev main_call0_v35 : Ref sig .tc := ⟨.hbm, 535, rfl⟩
abbrev main_call0_v36 : Ref sig .tc := ⟨.hbm, 536, rfl⟩
abbrev main_call0_call5_v0 : Ref sig .tc := ⟨.hbm, 537, rfl⟩
abbrev main_call0_call5_c : Ref sig .tc := ⟨.hbm, 538, rfl⟩
abbrev main_call0_call5_v1 : Ref sig .tc := ⟨.hbm, 539, rfl⟩
abbrev main_call0_call5_v2 : Ref sig .tc := ⟨.hbm, 540, rfl⟩
abbrev main_call0_call5_v3 : Ref sig .tc := ⟨.hbm, 541, rfl⟩
abbrev main_call0_call5_v4 : Ref sig .tc := ⟨.hbm, 542, rfl⟩
abbrev main_call0_call5_v5 : Ref sig .tc := ⟨.hbm, 543, rfl⟩
abbrev main_call0_call5_v6 : Ref sig .tc := ⟨.hbm, 544, rfl⟩
abbrev main_call0_call5_c_0 : Ref sig .tc := ⟨.hbm, 545, rfl⟩
abbrev main_call0_call5_v7 : Ref sig .tc := ⟨.hbm, 546, rfl⟩
abbrev main_call0_call5_v8 : Ref sig .tc := ⟨.hbm, 547, rfl⟩
abbrev main_call0_call5_c_1 : Ref sig .tc := ⟨.hbm, 548, rfl⟩
abbrev main_call0_call5_v9 : Ref sig .tc := ⟨.hbm, 549, rfl⟩
abbrev main_call0_call5_v10 : Ref sig .tc := ⟨.hbm, 550, rfl⟩
abbrev main_call0_call5_v11 : Ref sig .tc := ⟨.hbm, 551, rfl⟩
abbrev main_call0_call5_v12 : Ref sig .tc := ⟨.hbm, 552, rfl⟩
abbrev main_call0_call5_v13 : Ref sig .tc := ⟨.hbm, 553, rfl⟩
abbrev main_call0_call5_c_2 : Ref sig .tc := ⟨.hbm, 554, rfl⟩
abbrev main_call0_call5_v14 : Ref sig .tc := ⟨.hbm, 555, rfl⟩
abbrev main_call0_call5_v15 : Ref sig .tc := ⟨.hbm, 556, rfl⟩
abbrev main_call0_call5_c_3 : Ref sig .tc := ⟨.hbm, 557, rfl⟩
abbrev main_call0_call5_v16 : Ref sig .tc := ⟨.hbm, 558, rfl⟩
abbrev main_call0_call5_v17 : Ref sig .tc := ⟨.hbm, 559, rfl⟩
abbrev main_call0_call5_v18 : Ref sig .tc := ⟨.hbm, 560, rfl⟩
abbrev main_call0_call5_v19 : Ref sig .tc := ⟨.hbm, 561, rfl⟩
abbrev main_call0_call5_v20 : Ref sig .tc := ⟨.hbm, 562, rfl⟩
abbrev main_call0_call5_c_4 : Ref sig .tc := ⟨.hbm, 563, rfl⟩
abbrev main_call0_call5_v21 : Ref sig .tc := ⟨.hbm, 564, rfl⟩
abbrev main_call0_call5_v22 : Ref sig .tc := ⟨.hbm, 565, rfl⟩
abbrev main_call0_call5_c_5 : Ref sig .tc := ⟨.hbm, 566, rfl⟩
abbrev main_call0_call5_v23 : Ref sig .tc := ⟨.hbm, 567, rfl⟩
abbrev main_call0_call5_v24 : Ref sig .tc := ⟨.hbm, 568, rfl⟩
abbrev main_call0_call5_v25 : Ref sig .tc := ⟨.hbm, 569, rfl⟩
abbrev main_call0_call5_v26 : Ref sig .tc := ⟨.hbm, 570, rfl⟩
abbrev main_call0_call5_v27 : Ref sig .tc := ⟨.hbm, 571, rfl⟩
abbrev main_call0_call5_c_6 : Ref sig .tc := ⟨.hbm, 572, rfl⟩
abbrev main_call0_call5_v28 : Ref sig .tc := ⟨.hbm, 573, rfl⟩
abbrev main_call0_call5_v29 : Ref sig .tc := ⟨.hbm, 574, rfl⟩
abbrev main_call0_call5_c_7 : Ref sig .tc := ⟨.hbm, 575, rfl⟩
abbrev main_call0_call5_v30 : Ref sig .tc := ⟨.hbm, 576, rfl⟩
abbrev main_call0_call5_v31 : Ref sig .tc := ⟨.hbm, 577, rfl⟩
abbrev main_call0_call5_v32 : Ref sig .tc := ⟨.hbm, 578, rfl⟩
abbrev main_call0_call5_v33 : Ref sig .tc := ⟨.hbm, 579, rfl⟩
abbrev main_call0_call5_v34 : Ref sig .tc := ⟨.hbm, 580, rfl⟩
abbrev main_call0_call5_v35 : Ref sig .tc := ⟨.hbm, 581, rfl⟩
abbrev main_call0_call5_v36 : Ref sig .tc := ⟨.hbm, 582, rfl⟩
abbrev main_call0_call5_v37 : Ref sig .tc := ⟨.hbm, 583, rfl⟩
abbrev main_call0_call5_c_8 : Ref sig .tc := ⟨.hbm, 584, rfl⟩
abbrev main_call0_call5_v38 : Ref sig .tc := ⟨.hbm, 585, rfl⟩
abbrev main_call0_call5_v39 : Ref sig .tc := ⟨.hbm, 586, rfl⟩
abbrev main_call0_call5_v40 : Ref sig .tc := ⟨.hbm, 587, rfl⟩
abbrev main_call0_call5_c_9 : Ref sig .tc := ⟨.hbm, 588, rfl⟩
abbrev main_call0_call5_v41 : Ref sig .tc := ⟨.hbm, 589, rfl⟩
abbrev main_call0_call5_v42 : Ref sig .tc := ⟨.hbm, 590, rfl⟩
abbrev main_call0_call5_c_10 : Ref sig .tc := ⟨.hbm, 591, rfl⟩
abbrev main_call0_call5_v43 : Ref sig .tc := ⟨.hbm, 592, rfl⟩
abbrev main_call0_call5_v44 : Ref sig .tc := ⟨.hbm, 593, rfl⟩
abbrev main_call0_call5_v45 : Ref sig .tc := ⟨.hbm, 594, rfl⟩
abbrev main_call0_call5_v46 : Ref sig .tc := ⟨.hbm, 595, rfl⟩
abbrev main_call0_call5_v47 : Ref sig .tc := ⟨.hbm, 596, rfl⟩
abbrev main_call0_call5_c_11 : Ref sig .tc := ⟨.hbm, 597, rfl⟩
abbrev main_call0_call5_v48 : Ref sig .tc := ⟨.hbm, 598, rfl⟩
abbrev main_call0_call5_v49 : Ref sig .tc := ⟨.hbm, 599, rfl⟩
abbrev main_call0_call5_c_12 : Ref sig .tc := ⟨.hbm, 600, rfl⟩
abbrev main_call0_call5_v50 : Ref sig .tc := ⟨.hbm, 601, rfl⟩
abbrev main_call0_call5_v51 : Ref sig .tc := ⟨.hbm, 602, rfl⟩
abbrev main_call0_call5_v52 : Ref sig .tc := ⟨.hbm, 603, rfl⟩
abbrev main_call0_call5_v53 : Ref sig .tc := ⟨.hbm, 604, rfl⟩
abbrev main_call0_call5_v54 : Ref sig .tc := ⟨.hbm, 605, rfl⟩
abbrev main_call0_call5_c_13 : Ref sig .tc := ⟨.hbm, 606, rfl⟩
abbrev main_call0_call5_v55 : Ref sig .tc := ⟨.hbm, 607, rfl⟩
abbrev main_call0_call5_v56 : Ref sig .tc := ⟨.hbm, 608, rfl⟩
abbrev main_call0_call5_c_14 : Ref sig .tc := ⟨.hbm, 609, rfl⟩
abbrev main_call0_call5_v57 : Ref sig .tc := ⟨.hbm, 610, rfl⟩
abbrev main_call0_call5_v58 : Ref sig .tc := ⟨.hbm, 611, rfl⟩
abbrev main_call0_call5_v59 : Ref sig .tc := ⟨.hbm, 612, rfl⟩
abbrev main_call0_call5_v60 : Ref sig .tc := ⟨.hbm, 613, rfl⟩
abbrev main_call0_call5_v61 : Ref sig .tc := ⟨.hbm, 614, rfl⟩
abbrev main_call0_call5_c_15 : Ref sig .tc := ⟨.hbm, 615, rfl⟩
abbrev main_call0_call5_v62 : Ref sig .tc := ⟨.hbm, 616, rfl⟩
abbrev main_call0_call5_v63 : Ref sig .tc := ⟨.hbm, 617, rfl⟩
abbrev main_call0_call5_c_16 : Ref sig .tc := ⟨.hbm, 618, rfl⟩
abbrev main_call0_call5_v64 : Ref sig .tc := ⟨.hbm, 619, rfl⟩
abbrev main_call0_call5_v65 : Ref sig .tc := ⟨.hbm, 620, rfl⟩
abbrev main_call0_call5_v66 : Ref sig .tc := ⟨.hbm, 621, rfl⟩
abbrev main_call0_call5_v67 : Ref sig .tc := ⟨.hbm, 622, rfl⟩
abbrev main_call0_call5_v68 : Ref sig .tc := ⟨.hbm, 623, rfl⟩
abbrev main_call0_call5_v69 : Ref sig .tc := ⟨.hbm, 624, rfl⟩
abbrev main_call0_call5_v70 : Ref sig .tc := ⟨.hbm, 625, rfl⟩
abbrev main_call0_call5_v71 : Ref sig .tc := ⟨.hbm, 626, rfl⟩
abbrev main_call0_call5_c_17 : Ref sig .tc := ⟨.hbm, 627, rfl⟩
abbrev main_call0_call5_v72 : Ref sig .tc := ⟨.hbm, 628, rfl⟩
abbrev main_call0_call5_v73 : Ref sig .tc := ⟨.hbm, 629, rfl⟩
abbrev main_call0_call5_v74 : Ref sig .tc := ⟨.hbm, 630, rfl⟩
abbrev main_call0_call5_c_18 : Ref sig .tc := ⟨.hbm, 631, rfl⟩
abbrev main_call0_call5_v75 : Ref sig .tc := ⟨.hbm, 632, rfl⟩
abbrev main_call0_call5_v76 : Ref sig .tc := ⟨.hbm, 633, rfl⟩
abbrev main_call0_call5_c_19 : Ref sig .tc := ⟨.hbm, 634, rfl⟩
abbrev main_call0_call5_v77 : Ref sig .tc := ⟨.hbm, 635, rfl⟩
abbrev main_call0_call5_v78 : Ref sig .tc := ⟨.hbm, 636, rfl⟩
abbrev main_call0_call5_v79 : Ref sig .tc := ⟨.hbm, 637, rfl⟩
abbrev main_call0_call5_v80 : Ref sig .tc := ⟨.hbm, 638, rfl⟩
abbrev main_call0_call5_v81 : Ref sig .tc := ⟨.hbm, 639, rfl⟩
abbrev main_call0_call5_c_20 : Ref sig .tc := ⟨.hbm, 640, rfl⟩
abbrev main_call0_call5_v82 : Ref sig .tc := ⟨.hbm, 641, rfl⟩
abbrev main_call0_call5_v83 : Ref sig .tc := ⟨.hbm, 642, rfl⟩
abbrev main_call0_call5_c_21 : Ref sig .tc := ⟨.hbm, 643, rfl⟩
abbrev main_call0_call5_v84 : Ref sig .tc := ⟨.hbm, 644, rfl⟩
abbrev main_call0_call5_v85 : Ref sig .tc := ⟨.hbm, 645, rfl⟩
abbrev main_call0_call5_v86 : Ref sig .tc := ⟨.hbm, 646, rfl⟩
abbrev main_call0_call5_v87 : Ref sig .tc := ⟨.hbm, 647, rfl⟩
abbrev main_call0_call5_v88 : Ref sig .tc := ⟨.hbm, 648, rfl⟩
abbrev main_call0_call5_c_22 : Ref sig .tc := ⟨.hbm, 649, rfl⟩
abbrev main_call0_call5_v89 : Ref sig .tc := ⟨.hbm, 650, rfl⟩
abbrev main_call0_call5_v90 : Ref sig .tc := ⟨.hbm, 651, rfl⟩
abbrev main_call0_call5_c_23 : Ref sig .tc := ⟨.hbm, 652, rfl⟩
abbrev main_call0_call5_v91 : Ref sig .tc := ⟨.hbm, 653, rfl⟩
abbrev main_call0_call5_v92 : Ref sig .tc := ⟨.hbm, 654, rfl⟩
abbrev main_call0_call5_v93 : Ref sig .tc := ⟨.hbm, 655, rfl⟩
abbrev main_call0_call5_v94 : Ref sig .tc := ⟨.hbm, 656, rfl⟩
abbrev main_call0_call5_v95 : Ref sig .tc := ⟨.hbm, 657, rfl⟩
abbrev main_call0_call5_c_24 : Ref sig .tc := ⟨.hbm, 658, rfl⟩
abbrev main_call0_call5_v96 : Ref sig .tc := ⟨.hbm, 659, rfl⟩
abbrev main_call0_call5_v97 : Ref sig .tc := ⟨.hbm, 660, rfl⟩
abbrev main_call0_call5_c_25 : Ref sig .tc := ⟨.hbm, 661, rfl⟩
abbrev main_call0_call5_v98 : Ref sig .tc := ⟨.hbm, 662, rfl⟩
abbrev main_call0_call5_v99 : Ref sig .tc := ⟨.hbm, 663, rfl⟩
abbrev main_call0_call5_v100 : Ref sig .tc := ⟨.hbm, 664, rfl⟩
abbrev main_call0_call5_v101 : Ref sig .tc := ⟨.hbm, 665, rfl⟩
abbrev main_call0_call5_v102 : Ref sig .tc := ⟨.hbm, 666, rfl⟩
abbrev main_call0_call5_v103 : Ref sig .tc := ⟨.hbm, 667, rfl⟩
abbrev main_call0_call5_v104 : Ref sig .tc := ⟨.hbm, 668, rfl⟩
abbrev main_call0_call5_v105 : Ref sig .tc := ⟨.hbm, 669, rfl⟩
abbrev main_call0_call5_c_26 : Ref sig .tc := ⟨.hbm, 670, rfl⟩
abbrev main_call0_call5_v106 : Ref sig .tc := ⟨.hbm, 671, rfl⟩
abbrev main_call0_call5_v107 : Ref sig .tc := ⟨.hbm, 672, rfl⟩
abbrev main_call0_call5_v108 : Ref sig .tc := ⟨.hbm, 673, rfl⟩
abbrev main_call0_call5_c_27 : Ref sig .tc := ⟨.hbm, 674, rfl⟩
abbrev main_call0_call5_v109 : Ref sig .tc := ⟨.hbm, 675, rfl⟩
abbrev main_call0_call5_v110 : Ref sig .tc := ⟨.hbm, 676, rfl⟩
abbrev main_call0_call5_c_28 : Ref sig .tc := ⟨.hbm, 677, rfl⟩
abbrev main_call0_call5_v111 : Ref sig .tc := ⟨.hbm, 678, rfl⟩
abbrev main_call0_call5_v112 : Ref sig .tc := ⟨.hbm, 679, rfl⟩
abbrev main_call0_call5_v113 : Ref sig .tc := ⟨.hbm, 680, rfl⟩
abbrev main_call0_call5_v114 : Ref sig .tc := ⟨.hbm, 681, rfl⟩
abbrev main_call0_call5_v115 : Ref sig .tc := ⟨.hbm, 682, rfl⟩
abbrev main_call0_call5_c_29 : Ref sig .tc := ⟨.hbm, 683, rfl⟩
abbrev main_call0_call5_v116 : Ref sig .tc := ⟨.hbm, 684, rfl⟩
abbrev main_call0_call5_v117 : Ref sig .tc := ⟨.hbm, 685, rfl⟩
abbrev main_call0_call5_c_30 : Ref sig .tc := ⟨.hbm, 686, rfl⟩
abbrev main_call0_call5_v118 : Ref sig .tc := ⟨.hbm, 687, rfl⟩
abbrev main_call0_call5_v119 : Ref sig .tc := ⟨.hbm, 688, rfl⟩
abbrev main_call0_call5_v120 : Ref sig .tc := ⟨.hbm, 689, rfl⟩
abbrev main_call0_call5_v121 : Ref sig .tc := ⟨.hbm, 690, rfl⟩
abbrev main_call0_call5_v122 : Ref sig .tc := ⟨.hbm, 691, rfl⟩
abbrev main_call0_call5_c_31 : Ref sig .tc := ⟨.hbm, 692, rfl⟩
abbrev main_call0_call5_v123 : Ref sig .tc := ⟨.hbm, 693, rfl⟩
abbrev main_call0_call5_v124 : Ref sig .tc := ⟨.hbm, 694, rfl⟩
abbrev main_call0_call5_c_32 : Ref sig .tc := ⟨.hbm, 695, rfl⟩
abbrev main_call0_call5_v125 : Ref sig .tc := ⟨.hbm, 696, rfl⟩
abbrev main_call0_call5_v126 : Ref sig .tc := ⟨.hbm, 697, rfl⟩
abbrev main_call0_call5_v127 : Ref sig .tc := ⟨.hbm, 698, rfl⟩
abbrev main_call0_call5_v128 : Ref sig .tc := ⟨.hbm, 699, rfl⟩
abbrev main_call0_call5_v129 : Ref sig .tc := ⟨.hbm, 700, rfl⟩
abbrev main_call0_call5_c_33 : Ref sig .tc := ⟨.hbm, 701, rfl⟩
abbrev main_call0_call5_v130 : Ref sig .tc := ⟨.hbm, 702, rfl⟩
abbrev main_call0_call5_v131 : Ref sig .tc := ⟨.hbm, 703, rfl⟩
abbrev main_call0_call5_c_34 : Ref sig .tc := ⟨.hbm, 704, rfl⟩
abbrev main_call0_call5_v132 : Ref sig .tc := ⟨.hbm, 705, rfl⟩
abbrev main_call0_call5_v133 : Ref sig .tc := ⟨.hbm, 706, rfl⟩
abbrev main_call0_call5_v134 : Ref sig .tc := ⟨.hbm, 707, rfl⟩
abbrev main_call0_call5_v135 : Ref sig .tc := ⟨.hbm, 708, rfl⟩
abbrev main_call0_call5_v136 : Ref sig .tc := ⟨.hbm, 709, rfl⟩
abbrev main_call0_call5_v137 : Ref sig .tc := ⟨.hbm, 710, rfl⟩
abbrev main_call0_call5_v138 : Ref sig .tc := ⟨.hbm, 711, rfl⟩
abbrev main_call0_call5_v139 : Ref sig .tc := ⟨.hbm, 712, rfl⟩
abbrev main_call0_call5_c_35 : Ref sig .tc := ⟨.hbm, 713, rfl⟩
abbrev main_call0_call5_v140 : Ref sig .tc := ⟨.hbm, 714, rfl⟩
abbrev main_call0_call5_v141 : Ref sig .tc := ⟨.hbm, 715, rfl⟩
abbrev main_call0_call5_v142 : Ref sig .tc := ⟨.hbm, 716, rfl⟩
abbrev main_call0_call5_c_36 : Ref sig .tc := ⟨.hbm, 717, rfl⟩
abbrev main_call0_call5_v143 : Ref sig .tc := ⟨.hbm, 718, rfl⟩
abbrev main_call0_call5_v144 : Ref sig .tc := ⟨.hbm, 719, rfl⟩
abbrev main_call0_call5_c_37 : Ref sig .tc := ⟨.hbm, 720, rfl⟩
abbrev main_call0_call5_v145 : Ref sig .tc := ⟨.hbm, 721, rfl⟩
abbrev main_call0_call5_v146 : Ref sig .tc := ⟨.hbm, 722, rfl⟩
abbrev main_call0_call5_v147 : Ref sig .tc := ⟨.hbm, 723, rfl⟩
abbrev main_call0_call5_v148 : Ref sig .tc := ⟨.hbm, 724, rfl⟩
abbrev main_call0_call5_v149 : Ref sig .tc := ⟨.hbm, 725, rfl⟩
abbrev main_call0_call5_c_38 : Ref sig .tc := ⟨.hbm, 726, rfl⟩
abbrev main_call0_call5_v150 : Ref sig .tc := ⟨.hbm, 727, rfl⟩
abbrev main_call0_call5_v151 : Ref sig .tc := ⟨.hbm, 728, rfl⟩
abbrev main_call0_call5_c_39 : Ref sig .tc := ⟨.hbm, 729, rfl⟩
abbrev main_call0_call5_v152 : Ref sig .tc := ⟨.hbm, 730, rfl⟩
abbrev main_call0_call5_v153 : Ref sig .tc := ⟨.hbm, 731, rfl⟩
abbrev main_call0_call5_v154 : Ref sig .tc := ⟨.hbm, 732, rfl⟩
abbrev main_call0_call5_v155 : Ref sig .tc := ⟨.hbm, 733, rfl⟩
abbrev main_call0_call5_v156 : Ref sig .tc := ⟨.hbm, 734, rfl⟩
abbrev main_call0_call5_c_40 : Ref sig .tc := ⟨.hbm, 735, rfl⟩
abbrev main_call0_call5_v157 : Ref sig .tc := ⟨.hbm, 736, rfl⟩
abbrev main_call0_call5_v158 : Ref sig .tc := ⟨.hbm, 737, rfl⟩
abbrev main_call0_call5_c_41 : Ref sig .tc := ⟨.hbm, 738, rfl⟩
abbrev main_call0_call5_v159 : Ref sig .tc := ⟨.hbm, 739, rfl⟩
abbrev main_call0_call5_v160 : Ref sig .tc := ⟨.hbm, 740, rfl⟩
abbrev main_call0_call5_v161 : Ref sig .tc := ⟨.hbm, 741, rfl⟩
abbrev main_call0_call5_v162 : Ref sig .tc := ⟨.hbm, 742, rfl⟩
abbrev main_call0_call5_v163 : Ref sig .tc := ⟨.hbm, 743, rfl⟩
abbrev main_call0_call5_c_42 : Ref sig .tc := ⟨.hbm, 744, rfl⟩
abbrev main_call0_call5_v164 : Ref sig .tc := ⟨.hbm, 745, rfl⟩
abbrev main_call0_call5_v165 : Ref sig .tc := ⟨.hbm, 746, rfl⟩
abbrev main_call0_call5_c_43 : Ref sig .tc := ⟨.hbm, 747, rfl⟩
abbrev main_call0_call5_v166 : Ref sig .tc := ⟨.hbm, 748, rfl⟩
abbrev main_call0_call5_v167 : Ref sig .tc := ⟨.hbm, 749, rfl⟩
abbrev main_call0_call5_v168 : Ref sig .tc := ⟨.hbm, 750, rfl⟩
abbrev main_call0_call5_v169 : Ref sig .tc := ⟨.hbm, 751, rfl⟩
abbrev main_call0_call5_v170 : Ref sig .tc := ⟨.hbm, 752, rfl⟩
abbrev main_call0_v37_0 : Ref sig .tc := ⟨.hbm, 753, rfl⟩
abbrev main_call0_call5_v172 : Ref sig .tc := ⟨.hbm, 754, rfl⟩
abbrev main_call0_call5_v173 : Ref sig .tc := ⟨.hbm, 755, rfl⟩
abbrev main_call0_call5_c_44 : Ref sig .tc := ⟨.hbm, 756, rfl⟩
abbrev main_call0_call5_v174 : Ref sig .tc := ⟨.hbm, 757, rfl⟩
abbrev main_call0_v37_1 : Ref sig .tc := ⟨.hbm, 758, rfl⟩
abbrev main_call0_v38 : Ref sig .tc := ⟨.hbm, 759, rfl⟩
abbrev main_call0_v39 : Ref sig .tc := ⟨.hbm, 760, rfl⟩
abbrev main_call0_v40 : Ref sig .tc := ⟨.hbm, 761, rfl⟩
abbrev main_call0_v41 : Ref sig .tc := ⟨.hbm, 762, rfl⟩
abbrev main_call0_c_10 : Ref sig .tc := ⟨.hbm, 763, rfl⟩
abbrev main_call0_v42 : Ref sig .tc := ⟨.hbm, 764, rfl⟩
abbrev main_call0_v43 : Ref sig .tc := ⟨.hbm, 765, rfl⟩
abbrev main_call0_v44 : Ref sig .tc := ⟨.hbm, 766, rfl⟩
abbrev main_call0_v45 : Ref sig .tc := ⟨.hbm, 767, rfl⟩
abbrev main_call0_v46 : Ref sig .tc := ⟨.hbm, 768, rfl⟩
abbrev main_call0_c_11 : Ref sig .tc := ⟨.hbm, 769, rfl⟩
abbrev main_call0_v47 : Ref sig .tc := ⟨.hbm, 770, rfl⟩
abbrev main_call0_v48 : Ref sig .tc := ⟨.hbm, 771, rfl⟩
abbrev main_call0_v49 : Ref sig .tc := ⟨.hbm, 772, rfl⟩
abbrev main_call0_c_12 : Ref sig .tc := ⟨.hbm, 773, rfl⟩
abbrev main_call0_v50 : Ref sig .tc := ⟨.hbm, 774, rfl⟩
abbrev main_call0_v51 : Ref sig .tc := ⟨.hbm, 775, rfl⟩
abbrev main_call0_v52 : Ref sig .tc := ⟨.hbm, 776, rfl⟩
abbrev main_call0_v53 : Ref sig .tc := ⟨.hbm, 777, rfl⟩
abbrev main_call0_v54 : Ref sig .tc := ⟨.hbm, 778, rfl⟩
abbrev main_call0_v55 : Ref sig .tc := ⟨.hbm, 779, rfl⟩
abbrev main_call0_v56 : Ref sig .tc := ⟨.hbm, 780, rfl⟩
abbrev main_call0_v57 : Ref sig .tc := ⟨.hbm, 781, rfl⟩
abbrev main_call0_v58 : Ref sig .tc := ⟨.hbm, 782, rfl⟩
abbrev main_call0_v59 : Ref sig .tc := ⟨.hbm, 783, rfl⟩
abbrev main_call0_v60 : Ref sig .tc := ⟨.hbm, 784, rfl⟩
abbrev main_call0_v61 : Ref sig .tc := ⟨.hbm, 785, rfl⟩
abbrev main_call0_v62 : Ref sig .tc := ⟨.hbm, 786, rfl⟩
abbrev main_call0_v63 : Ref sig .tc := ⟨.hbm, 787, rfl⟩
abbrev main_call0_v64 : Ref sig .tc := ⟨.hbm, 788, rfl⟩
abbrev main_v22 : Ref sig .tc := ⟨.hbm, 789, rfl⟩
abbrev main_v23 : Ref sig .tc := ⟨.hbm, 790, rfl⟩
abbrev main_call1_c : Ref sig .tc := ⟨.hbm, 791, rfl⟩
abbrev main_call1_v0 : Ref sig .tc := ⟨.hbm, 792, rfl⟩
abbrev main_call1_v1 : Ref sig .tc := ⟨.hbm, 793, rfl⟩
abbrev main_call1_c_0 : Ref sig .tc := ⟨.hbm, 794, rfl⟩
abbrev main_call1_v2 : Ref sig .tc := ⟨.hbm, 795, rfl⟩
abbrev main_call1_v3 : Ref sig .tc := ⟨.hbm, 796, rfl⟩
abbrev main_call1_v4 : Ref sig .tc := ⟨.hbm, 797, rfl⟩
abbrev main_call1_c_1 : Ref sig .tc := ⟨.hbm, 798, rfl⟩
abbrev main_call1_c_2 : Ref sig .tc := ⟨.hbm, 799, rfl⟩
abbrev main_call1_v5 : Ref sig .tc := ⟨.hbm, 800, rfl⟩
abbrev main_call1_v6 : Ref sig .tc := ⟨.hbm, 801, rfl⟩
abbrev main_call1_v7 : Ref sig .tc := ⟨.hbm, 802, rfl⟩
abbrev main_call1_v8 : Ref sig .tc := ⟨.hbm, 803, rfl⟩
abbrev main_call1_v9 : Ref sig .tc := ⟨.hbm, 804, rfl⟩
abbrev main_call1_v10 : Ref sig .tc := ⟨.hbm, 805, rfl⟩
abbrev main_call1_c_3 : Ref sig .tc := ⟨.hbm, 806, rfl⟩
abbrev main_call1_v11 : Ref sig .tc := ⟨.hbm, 807, rfl⟩
abbrev main_call1_v12 : Ref sig .tc := ⟨.hbm, 808, rfl⟩
abbrev main_call1_v13 : Ref sig .tc := ⟨.hbm, 809, rfl⟩
abbrev main_call1_cst : Ref sig .tc := ⟨.hbm, 810, rfl⟩
abbrev main_call1_v14 : Ref sig .tc := ⟨.hbm, 811, rfl⟩
abbrev main_v24 : Ref sig .tc := ⟨.hbm, 812, rfl⟩
abbrev main_v25 : Ref sig .tc := ⟨.hbm, 813, rfl⟩
abbrev main_v26 : Ref sig .tc := ⟨.hbm, 814, rfl⟩
abbrev main_v27 : Ref sig .tc := ⟨.hbm, 815, rfl⟩
abbrev main_v28 : Ref sig .tc := ⟨.hbm, 816, rfl⟩
abbrev main_v29 : Ref sig .tc := ⟨.hbm, 817, rfl⟩
abbrev main_v30 : Ref sig .tc := ⟨.hbm, 818, rfl⟩
abbrev main_v31 : Ref sig .tc := ⟨.hbm, 819, rfl⟩
abbrev main_v32 : Ref sig .tc := ⟨.hbm, 820, rfl⟩
abbrev main_v33 : Ref sig .tc := ⟨.hbm, 821, rfl⟩
abbrev main_v34 : Ref sig .tc := ⟨.hbm, 822, rfl⟩
abbrev main_v35 : Ref sig .tc := ⟨.hbm, 823, rfl⟩
abbrev main_v36 : Ref sig .tc := ⟨.hbm, 824, rfl⟩
abbrev main_v37 : Ref sig .tc := ⟨.hbm, 825, rfl⟩
abbrev main_v38 : Ref sig .tc := ⟨.hbm, 826, rfl⟩
abbrev main_v39 : Ref sig .tc := ⟨.hbm, 827, rfl⟩
abbrev main_v40 : Ref sig .tc := ⟨.hbm, 828, rfl⟩
abbrev main_v41 : Ref sig .tc := ⟨.hbm, 829, rfl⟩
abbrev main_v42_0 : Ref sig .tc := ⟨.hbm, 830, rfl⟩
abbrev main_v42_1 : Ref sig .tc := ⟨.hbm, 831, rfl⟩
abbrev main_v42_2 : Ref sig .tc := ⟨.hbm, 832, rfl⟩
abbrev main_v42_3 : Ref sig .tc := ⟨.hbm, 833, rfl⟩
abbrev main_v43 : Ref sig .tc := ⟨.hbm, 834, rfl⟩
abbrev main_v44 : Ref sig .tc := ⟨.hbm, 835, rfl⟩
abbrev main_v45 : Ref sig .tc := ⟨.hbm, 836, rfl⟩
abbrev main_v46 : Ref sig .tc := ⟨.hbm, 837, rfl⟩
abbrev main_v47 : Ref sig .tc := ⟨.hbm, 838, rfl⟩
abbrev main_v48 : Ref sig .tc := ⟨.hbm, 839, rfl⟩
abbrev main_v49 : Ref sig .tc := ⟨.hbm, 840, rfl⟩
abbrev main_v50 : Ref sig .tc := ⟨.hbm, 841, rfl⟩
abbrev main_v51 : Ref sig .tc := ⟨.hbm, 842, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_scratch0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c512_i32 : BitVec 32 := 512#32
  let v20 : BitVec 32 := Scalar.addi c0_i32 c512_i32
  let c1_i32 : BitVec 32 := 1#32
  ⟨c0_i32, v20, c1_i32⟩
def k0_off1 (k0_t1 : Fin k0_t1_loop.trips) : Fin 2 → Nat :=
  let c0_i32 : BitVec 32 := 0#32
  let c1_i32 : BitVec 32 := 1#32
  let arg12 : BitVec 32 := Scf.iv c0_i32 c1_i32 k0_t1
  let v30 : Index := Scalar.indexCast arg12
  let c0_10 : Index := 0#32
  ![v30.toNat, 0]
abbrev stage0_0 : Fin 1 → Memref sig .tc .vmem S8x16384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x16384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x16384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x16384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x3 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S512x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S512x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S512x8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S512x8 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== ReferenceIdeal.lean ====
abbrev S8x16384x3 : Shape := ⟨3, ![8, 16384, 3]⟩
abbrev S_ : Shape := ⟨0, ![]⟩
abbrev S8x16384 : Shape := ⟨2, ![8, 16384]⟩
abbrev S1 : Shape := ⟨1, ![1]⟩
abbrev S2 : Shape := ⟨1, ![2]⟩
abbrev S2x1 : Shape := ⟨2, ![2, 1]⟩
abbrev S2x2 : Shape := ⟨2, ![2, 2]⟩
abbrev S1x2 : Shape := ⟨2, ![1, 2]⟩
abbrev S8 : Shape := ⟨1, ![8]⟩
abbrev S8x512 : Shape := ⟨2, ![8, 512]⟩
abbrev S8x1x1 : Shape := ⟨3, ![8, 1, 1]⟩
abbrev S1x1x1 : Shape := ⟨3, ![1, 1, 1]⟩
abbrev S8x1 : Shape := ⟨2, ![8, 1]⟩
abbrev S8x1x3 : Shape := ⟨3, ![8, 1, 3]⟩
abbrev S8x512x1 : Shape := ⟨3, ![8, 512, 1]⟩
abbrev S8x512x3 : Shape := ⟨3, ![8, 512, 3]⟩

abbrev nBuf : Space → Nat
  | .hbm => 859
  | .vmem => 0
  | .smem => 0
  | _ => 0

abbrev hbmTy0_0 (i : Nat) : BufTy := match i % 128 with
  | 0 => ⟨S8x16384x3, .f32⟩
  | 1 => ⟨S_, .f32⟩
  | 2 => ⟨S8x16384, .f32⟩
  | 3 => ⟨S_, .i32⟩
  | 4 => ⟨S_, .i32⟩
  | 5 => ⟨S_, .i32⟩
  | 6 => ⟨S_, .i32⟩
  | 7 => ⟨S1, .i32⟩
  | 8 => ⟨S_, .i32⟩
  | 9 => ⟨S_, .i32⟩
  | 10 => ⟨S_, .i32⟩
  | 11 => ⟨S1, .i32⟩
  | 12 => ⟨S2, .i32⟩
  | 13 => ⟨S_, .i32⟩
  | 14 => ⟨S_, .i32⟩
  | 15 => ⟨S_, .i32⟩
  | 16 => ⟨S_, .i32⟩
  | 17 => ⟨S_, .i32⟩
  | 18 => ⟨S_, .i32⟩
  | 19 => ⟨S_, .i32⟩
  | 20 => ⟨S_, .i1⟩
  | 21 => ⟨S_, .i32⟩
  | 22 => ⟨S_, .i32⟩
  | 23 => ⟨S_, .i32⟩
  | 24 => ⟨S_, .i32⟩
  | 25 => ⟨S_, .i32⟩
  | 26 => ⟨S_, .i32⟩
  | 27 => ⟨S_, .i32⟩
  | 28 => ⟨S_, .i32⟩
  | 29 => ⟨S_, .i32⟩
  | 30 => ⟨S_, .i32⟩
  | 31 => ⟨S1, .i32⟩
  | 32 => ⟨S1, .i32⟩
  | 33 => ⟨S1, .i32⟩
  | 34 => ⟨S_, .i32⟩
  | 35 => ⟨S1, .i32⟩
  | 36 => ⟨S_, .i32⟩
  | 37 => ⟨S2, .i64⟩
  | 38 => ⟨S_, .i64⟩
  | 39 => ⟨S2, .i64⟩
  | 40 => ⟨S2, .i64⟩
  | 41 => ⟨S_, .i64⟩
  | 42 => ⟨S2, .i64⟩
  | 43 => ⟨S2, .i64⟩
  | 44 => ⟨S2, .i32⟩
  | 45 => ⟨S2, .i32⟩
  | 46 => ⟨S_, .i32⟩
  | 47 => ⟨S_, .i32⟩
  | 48 => ⟨S_, .i32⟩
  | 49 => ⟨S2, .i32⟩
  | 50 => ⟨S2, .i32⟩
  | 51 => ⟨S2, .i32⟩
  | 52 => ⟨S2, .i32⟩
  | 53 => ⟨S2, .i32⟩
  | 54 => ⟨S_, .i32⟩
  | 55 => ⟨S2, .i32⟩
  | 56 => ⟨S2, .i32⟩
  | 57 => ⟨S_, .i32⟩
  | 58 => ⟨S2, .i32⟩
  | 59 => ⟨S2, .i32⟩
  | 60 => ⟨S2, .i32⟩
  | 61 => ⟨S2, .i32⟩
  | 62 => ⟨S2, .i32⟩
  | 63 => ⟨S_, .i32⟩
  | 64 => ⟨S2, .i32⟩
  | 65 => ⟨S2, .i32⟩
  | 66 => ⟨S_, .i32⟩
  | 67 => ⟨S2, .i32⟩
  | 68 => ⟨S2, .i32⟩
  | 69 => ⟨S2, .i32⟩
  | 70 => ⟨S2, .i32⟩
  | 71 => ⟨S2, .i32⟩
  | 72 => ⟨S_, .i32⟩
  | 73 => ⟨S2, .i32⟩
  | 74 => ⟨S2, .i32⟩
  | 75 => ⟨S_, .i32⟩
  | 76 => ⟨S2, .i32⟩
  | 77 => ⟨S2, .i32⟩
  | 78 => ⟨S2, .i32⟩
  | 79 => ⟨S2, .i32⟩
  | 80 => ⟨S2, .i32⟩
  | 81 => ⟨S_, .i32⟩
  | 82 => ⟨S2, .i32⟩
  | 83 => ⟨S2, .i32⟩
  | 84 => ⟨S_, .i32⟩
  | 85 => ⟨S2, .i32⟩
  | 86 => ⟨S2, .i32⟩
  | 87 => ⟨S2, .i32⟩
  | 88 => ⟨S2, .i32⟩
  | 89 => ⟨S2, .i32⟩
  | 90 => ⟨S2, .i32⟩
  | 91 => ⟨S2, .i32⟩
  | 92 => ⟨S2, .i32⟩
  | 93 => ⟨S_, .i32⟩
  | 94 => ⟨S2, .i32⟩
  | 95 => ⟨S2, .i32⟩
  | 96 => ⟨S2, .i32⟩
  | 97 => ⟨S_, .i32⟩
  | 98 => ⟨S2, .i32⟩
  | 99 => ⟨S2, .i32⟩
  | 100 => ⟨S_, .i32⟩
  | 101 => ⟨S2, .i32⟩
  | 102 => ⟨S2, .i32⟩
  | 103 => ⟨S2, .i32⟩
  | 104 => ⟨S2, .i32⟩
  | 105 => ⟨S2, .i32⟩
  | 106 => ⟨S_, .i32⟩
  | 107 => ⟨S2, .i32⟩
  | 108 => ⟨S2, .i32⟩
  | 109 => ⟨S_, .i32⟩
  | 110 => ⟨S2, .i32⟩
  | 111 => ⟨S2, .i32⟩
  | 112 => ⟨S2, .i32⟩
  | 113 => ⟨S2, .i32⟩
  | 114 => ⟨S2, .i32⟩
  | 115 => ⟨S_, .i32⟩
  | 116 => ⟨S2, .i32⟩
  | 117 => ⟨S2, .i32⟩
  | 118 => ⟨S_, .i32⟩
  | 119 => ⟨S2, .i32⟩
  | 120 => ⟨S2, .i32⟩
  | 121 => ⟨S2, .i32⟩
  | 122 => ⟨S2, .i32⟩
  | 123 => ⟨S2, .i32⟩
  | 124 => ⟨S_, .i32⟩
  | 125 => ⟨S2, .i32⟩
  | 126 => ⟨S2, .i32⟩
  | 127 => ⟨S_, .i32⟩
  | _ => ⟨S8x16384x3, .f32⟩

abbrev hbmTy0_1 (i : Nat) : BufTy := match i % 128 with
  | 0 => ⟨S2, .i32⟩
  | 1 => ⟨S2, .i32⟩
  | 2 => ⟨S2, .i32⟩
  | 3 => ⟨S2, .i32⟩
  | 4 => ⟨S2, .i32⟩
  | 5 => ⟨S2, .i32⟩
  | 6 => ⟨S2, .i32⟩
  | 7 => ⟨S2, .i32⟩
  | 8 => ⟨S_, .i32⟩
  | 9 => ⟨S2, .i32⟩
  | 10 => ⟨S2, .i32⟩
  | 11 => ⟨S2, .i32⟩
  | 12 => ⟨S_, .i32⟩
  | 13 => ⟨S2, .i32⟩
  | 14 => ⟨S2, .i32⟩
  | 15 => ⟨S_, .i32⟩
  | 16 => ⟨S2, .i32⟩
  | 17 => ⟨S2, .i32⟩
  | 18 => ⟨S2, .i32⟩
  | 19 => ⟨S2, .i32⟩
  | 20 => ⟨S2, .i32⟩
  | 21 => ⟨S_, .i32⟩
  | 22 => ⟨S2, .i32⟩
  | 23 => ⟨S2, .i32⟩
  | 24 => ⟨S_, .i32⟩
  | 25 => ⟨S2, .i32⟩
  | 26 => ⟨S2, .i32⟩
  | 27 => ⟨S2, .i32⟩
  | 28 => ⟨S2, .i32⟩
  | 29 => ⟨S2, .i32⟩
  | 30 => ⟨S_, .i32⟩
  | 31 => ⟨S2, .i32⟩
  | 32 => ⟨S2, .i32⟩
  | 33 => ⟨S_, .i32⟩
  | 34 => ⟨S2, .i32⟩
  | 35 => ⟨S2, .i32⟩
  | 36 => ⟨S2, .i32⟩
  | 37 => ⟨S2, .i32⟩
  | 38 => ⟨S2, .i32⟩
  | 39 => ⟨S_, .i32⟩
  | 40 => ⟨S2, .i32⟩
  | 41 => ⟨S2, .i32⟩
  | 42 => ⟨S_, .i32⟩
  | 43 => ⟨S2, .i32⟩
  | 44 => ⟨S2, .i32⟩
  | 45 => ⟨S2, .i32⟩
  | 46 => ⟨S2, .i32⟩
  | 47 => ⟨S2, .i32⟩
  | 48 => ⟨S2, .i32⟩
  | 49 => ⟨S2, .i32⟩
  | 50 => ⟨S2, .i32⟩
  | 51 => ⟨S_, .i32⟩
  | 52 => ⟨S2, .i32⟩
  | 53 => ⟨S2, .i32⟩
  | 54 => ⟨S2, .i32⟩
  | 55 => ⟨S_, .i32⟩
  | 56 => ⟨S2, .i32⟩
  | 57 => ⟨S2, .i32⟩
  | 58 => ⟨S_, .i32⟩
  | 59 => ⟨S2, .i32⟩
  | 60 => ⟨S2, .i32⟩
  | 61 => ⟨S2, .i32⟩
  | 62 => ⟨S2, .i32⟩
  | 63 => ⟨S2, .i32⟩
  | 64 => ⟨S_, .i32⟩
  | 65 => ⟨S2, .i32⟩
  | 66 => ⟨S2, .i32⟩
  | 67 => ⟨S_, .i32⟩
  | 68 => ⟨S2, .i32⟩
  | 69 => ⟨S2, .i32⟩
  | 70 => ⟨S2, .i32⟩
  | 71 => ⟨S2, .i32⟩
  | 72 => ⟨S2, .i32⟩
  | 73 => ⟨S_, .i32⟩
  | 74 => ⟨S2, .i32⟩
  | 75 => ⟨S2, .i32⟩
  | 76 => ⟨S_, .i32⟩
  | 77 => ⟨S2, .i32⟩
  | 78 => ⟨S2, .i32⟩
  | 79 => ⟨S2, .i32⟩
  | 80 => ⟨S2, .i32⟩
  | 81 => ⟨S2, .i32⟩
  | 82 => ⟨S_, .i32⟩
  | 83 => ⟨S2, .i32⟩
  | 84 => ⟨S2, .i32⟩
  | 85 => ⟨S_, .i32⟩
  | 86 => ⟨S2, .i32⟩
  | 87 => ⟨S2, .i32⟩
  | 88 => ⟨S2, .i32⟩
  | 89 => ⟨S2, .i32⟩
  | 90 => ⟨S2, .i32⟩
  | 91 => ⟨S2, .i32⟩
  | 92 => ⟨S2, .i32⟩
  | 93 => ⟨S2, .i32⟩
  | 94 => ⟨S_, .i32⟩
  | 95 => ⟨S2, .i32⟩
  | 96 => ⟨S2, .i32⟩
  | 97 => ⟨S2, .i32⟩
  | 98 => ⟨S_, .i32⟩
  | 99 => ⟨S2, .i32⟩
  | 100 => ⟨S2, .i32⟩
  | 101 => ⟨S_, .i32⟩
  | 102 => ⟨S2, .i32⟩
  | 103 => ⟨S2, .i32⟩
  | 104 => ⟨S2, .i32⟩
  | 105 => ⟨S2, .i32⟩
  | 106 => ⟨S2, .i32⟩
  | 107 => ⟨S_, .i32⟩
  | 108 => ⟨S2, .i32⟩
  | 109 => ⟨S2, .i32⟩
  | 110 => ⟨S_, .i32⟩
  | 111 => ⟨S2, .i32⟩
  | 112 => ⟨S2, .i32⟩
  | 113 => ⟨S2, .i32⟩
  | 114 => ⟨S2, .i32⟩
  | 115 => ⟨S2, .i32⟩
  | 116 => ⟨S_, .i32⟩
  | 117 => ⟨S2, .i32⟩
  | 118 => ⟨S2, .i32⟩
  | 119 => ⟨S_, .i32⟩
  | 120 => ⟨S2, .i32⟩
  | 121 => ⟨S2, .i32⟩
  | 122 => ⟨S2, .i32⟩
  | 123 => ⟨S2, .i32⟩
  | 124 => ⟨S2, .i32⟩
  | 125 => ⟨S_, .i32⟩
  | 126 => ⟨S2, .i32⟩
  | 127 => ⟨S2, .i32⟩
  | _ => ⟨S8x16384x3, .f32⟩

abbrev hbmTy0_2 (i : Nat) : BufTy := match i % 128 with
  | 0 => ⟨S_, .i32⟩
  | 1 => ⟨S2, .i32⟩
  | 2 => ⟨S2, .i32⟩
  | 3 => ⟨S2, .i32⟩
  | 4 => ⟨S2, .i32⟩
  | 5 => ⟨S2, .i32⟩
  | 6 => ⟨S2, .i32⟩
  | 7 => ⟨S2, .i32⟩
  | 8 => ⟨S2, .i32⟩
  | 9 => ⟨S_, .i32⟩
  | 10 => ⟨S2, .i32⟩
  | 11 => ⟨S2, .i32⟩
  | 12 => ⟨S2x1, .i32⟩
  | 13 => ⟨S2x1, .i32⟩
  | 14 => ⟨S2x2, .i32⟩
  | 15 => ⟨S1x2, .i32⟩
  | 16 => ⟨S2, .i32⟩
  | 17 => ⟨S1x2, .i32⟩
  | 18 => ⟨S2, .i32⟩
  | 19 => ⟨S1, .i32⟩
  | 20 => ⟨S_, .i32⟩
  | 21 => ⟨S1, .i32⟩
  | 22 => ⟨S_, .i32⟩
  | 23 => ⟨S8, .i64⟩
  | 24 => ⟨S_, .i64⟩
  | 25 => ⟨S8, .i64⟩
  | 26 => ⟨S8, .i64⟩
  | 27 => ⟨S_, .i64⟩
  | 28 => ⟨S8, .i64⟩
  | 29 => ⟨S8, .i64⟩
  | 30 => ⟨S8, .i32⟩
  | 31 => ⟨S8, .i32⟩
  | 32 => ⟨S_, .i32⟩
  | 33 => ⟨S_, .i32⟩
  | 34 => ⟨S_, .i32⟩
  | 35 => ⟨S8, .i32⟩
  | 36 => ⟨S8, .i32⟩
  | 37 => ⟨S8, .i32⟩
  | 38 => ⟨S8, .i32⟩
  | 39 => ⟨S8, .i32⟩
  | 40 => ⟨S_, .i32⟩
  | 41 => ⟨S8, .i32⟩
  | 42 => ⟨S8, .i32⟩
  | 43 => ⟨S_, .i32⟩
  | 44 => ⟨S8, .i32⟩
  | 45 => ⟨S8, .i32⟩
  | 46 => ⟨S8, .i32⟩
  | 47 => ⟨S8, .i32⟩
  | 48 => ⟨S8, .i32⟩
  | 49 => ⟨S_, .i32⟩
  | 50 => ⟨S8, .i32⟩
  | 51 => ⟨S8, .i32⟩
  | 52 => ⟨S_, .i32⟩
  | 53 => ⟨S8, .i32⟩
  | 54 => ⟨S8, .i32⟩
  | 55 => ⟨S8, .i32⟩
  | 56 => ⟨S8, .i32⟩
  | 57 => ⟨S8, .i32⟩
  | 58 => ⟨S_, .i32⟩
  | 59 => ⟨S8, .i32⟩
  | 60 => ⟨S8, .i32⟩
  | 61 => ⟨S_, .i32⟩
  | 62 => ⟨S8, .i32⟩
  | 63 => ⟨S8, .i32⟩
  | 64 => ⟨S8, .i32⟩
  | 65 => ⟨S8, .i32⟩
  | 66 => ⟨S8, .i32⟩
  | 67 => ⟨S_, .i32⟩
  | 68 => ⟨S8, .i32⟩
  | 69 => ⟨S8, .i32⟩
  | 70 => ⟨S_, .i32⟩
  | 71 => ⟨S8, .i32⟩
  | 72 => ⟨S8, .i32⟩
  | 73 => ⟨S8, .i32⟩
  | 74 => ⟨S8, .i32⟩
  | 75 => ⟨S8, .i32⟩
  | 76 => ⟨S8, .i32⟩
  | 77 => ⟨S8, .i32⟩
  | 78 => ⟨S8, .i32⟩
  | 79 => ⟨S_, .i32⟩
  | 80 => ⟨S8, .i32⟩
  | 81 => ⟨S8, .i32⟩
  | 82 => ⟨S8, .i32⟩
  | 83 => ⟨S_, .i32⟩
  | 84 => ⟨S8, .i32⟩
  | 85 => ⟨S8, .i32⟩
  | 86 => ⟨S_, .i32⟩
  | 87 => ⟨S8, .i32⟩
  | 88 => ⟨S8, .i32⟩
  | 89 => ⟨S8, .i32⟩
  | 90 => ⟨S8, .i32⟩
  | 91 => ⟨S8, .i32⟩
  | 92 => ⟨S_, .i32⟩
  | 93 => ⟨S8, .i32⟩
  | 94 => ⟨S8, .i32⟩
  | 95 => ⟨S_, .i32⟩
  | 96 => ⟨S8, .i32⟩
  | 97 => ⟨S8, .i32⟩
  | 98 => ⟨S8, .i32⟩
  | 99 => ⟨S8, .i32⟩
  | 100 => ⟨S8, .i32⟩
  | 101 => ⟨S_, .i32⟩
  | 102 => ⟨S8, .i32⟩
  | 103 => ⟨S8, .i32⟩
  | 104 => ⟨S_, .i32⟩
  | 105 => ⟨S8, .i32⟩
  | 106 => ⟨S8, .i32⟩
  | 107 => ⟨S8, .i32⟩
  | 108 => ⟨S8, .i32⟩
  | 109 => ⟨S8, .i32⟩
  | 110 => ⟨S_, .i32⟩
  | 111 => ⟨S8, .i32⟩
  | 112 => ⟨S8, .i32⟩
  | 113 => ⟨S_, .i32⟩
  | 114 => ⟨S8, .i32⟩
  | 115 => ⟨S8, .i32⟩
  | 116 => ⟨S8, .i32⟩
  | 117 => ⟨S8, .i32⟩
  | 118 => ⟨S8, .i32⟩
  | 119 => ⟨S8, .i32⟩
  | 120 => ⟨S8, .i32⟩
  | 121 => ⟨S8, .i32⟩
  | 122 => ⟨S_, .i32⟩
  | 123 => ⟨S8, .i32⟩
  | 124 => ⟨S8, .i32⟩
  | 125 => ⟨S8, .i32⟩
  | 126 => ⟨S_, .i32⟩
  | 127 => ⟨S8, .i32⟩
  | _ => ⟨S8x16384x3, .f32⟩

abbrev hbmTy0_3 (i : Nat) : BufTy := match i % 128 with
  | 0 => ⟨S8, .i32⟩
  | 1 => ⟨S_, .i32⟩
  | 2 => ⟨S8, .i32⟩
  | 3 => ⟨S8, .i32⟩
  | 4 => ⟨S8, .i32⟩
  | 5 => ⟨S8, .i32⟩
  | 6 => ⟨S8, .i32⟩
  | 7 => ⟨S_, .i32⟩
  | 8 => ⟨S8, .i32⟩
  | 9 => ⟨S8, .i32⟩
  | 10 => ⟨S_, .i32⟩
  | 11 => ⟨S8, .i32⟩
  | 12 => ⟨S8, .i32⟩
  | 13 => ⟨S8, .i32⟩
  | 14 => ⟨S8, .i32⟩
  | 15 => ⟨S8, .i32⟩
  | 16 => ⟨S_, .i32⟩
  | 17 => ⟨S8, .i32⟩
  | 18 => ⟨S8, .i32⟩
  | 19 => ⟨S_, .i32⟩
  | 20 => ⟨S8, .i32⟩
  | 21 => ⟨S8, .i32⟩
  | 22 => ⟨S8, .i32⟩
  | 23 => ⟨S8, .i32⟩
  | 24 => ⟨S8, .i32⟩
  | 25 => ⟨S_, .i32⟩
  | 26 => ⟨S8, .i32⟩
  | 27 => ⟨S8, .i32⟩
  | 28 => ⟨S_, .i32⟩
  | 29 => ⟨S8, .i32⟩
  | 30 => ⟨S8, .i32⟩
  | 31 => ⟨S8, .i32⟩
  | 32 => ⟨S8, .i32⟩
  | 33 => ⟨S8, .i32⟩
  | 34 => ⟨S8, .i32⟩
  | 35 => ⟨S8, .i32⟩
  | 36 => ⟨S8, .i32⟩
  | 37 => ⟨S_, .i32⟩
  | 38 => ⟨S8, .i32⟩
  | 39 => ⟨S8, .i32⟩
  | 40 => ⟨S8, .i32⟩
  | 41 => ⟨S_, .i32⟩
  | 42 => ⟨S8, .i32⟩
  | 43 => ⟨S8, .i32⟩
  | 44 => ⟨S_, .i32⟩
  | 45 => ⟨S8, .i32⟩
  | 46 => ⟨S8, .i32⟩
  | 47 => ⟨S8, .i32⟩
  | 48 => ⟨S8, .i32⟩
  | 49 => ⟨S8, .i32⟩
  | 50 => ⟨S_, .i32⟩
  | 51 => ⟨S8, .i32⟩
  | 52 => ⟨S8, .i32⟩
  | 53 => ⟨S_, .i32⟩
  | 54 => ⟨S8, .i32⟩
  | 55 => ⟨S8, .i32⟩
  | 56 => ⟨S8, .i32⟩
  | 57 => ⟨S8, .i32⟩
  | 58 => ⟨S8, .i32⟩
  | 59 => ⟨S_, .i32⟩
  | 60 => ⟨S8, .i32⟩
  | 61 => ⟨S8, .i32⟩
  | 62 => ⟨S_, .i32⟩
  | 63 => ⟨S8, .i32⟩
  | 64 => ⟨S8, .i32⟩
  | 65 => ⟨S8, .i32⟩
  | 66 => ⟨S8, .i32⟩
  | 67 => ⟨S8, .i32⟩
  | 68 => ⟨S_, .i32⟩
  | 69 => ⟨S8, .i32⟩
  | 70 => ⟨S8, .i32⟩
  | 71 => ⟨S_, .i32⟩
  | 72 => ⟨S8, .i32⟩
  | 73 => ⟨S8, .i32⟩
  | 74 => ⟨S8, .i32⟩
  | 75 => ⟨S8, .i32⟩
  | 76 => ⟨S8, .i32⟩
  | 77 => ⟨S8, .i32⟩
  | 78 => ⟨S8, .i32⟩
  | 79 => ⟨S8, .i32⟩
  | 80 => ⟨S_, .i32⟩
  | 81 => ⟨S8, .i32⟩
  | 82 => ⟨S8, .i32⟩
  | 83 => ⟨S8, .i32⟩
  | 84 => ⟨S_, .i32⟩
  | 85 => ⟨S8, .i32⟩
  | 86 => ⟨S8, .i32⟩
  | 87 => ⟨S_, .i32⟩
  | 88 => ⟨S8, .i32⟩
  | 89 => ⟨S8, .i32⟩
  | 90 => ⟨S8, .i32⟩
  | 91 => ⟨S8, .i32⟩
  | 92 => ⟨S8, .i32⟩
  | 93 => ⟨S_, .i32⟩
  | 94 => ⟨S8, .i32⟩
  | 95 => ⟨S8, .i32⟩
  | 96 => ⟨S_, .i32⟩
  | 97 => ⟨S8, .i32⟩
  | 98 => ⟨S8, .i32⟩
  | 99 => ⟨S8, .i32⟩
  | 100 => ⟨S8, .i32⟩
  | 101 => ⟨S8, .i32⟩
  | 102 => ⟨S_, .i32⟩
  | 103 => ⟨S8, .i32⟩
  | 104 => ⟨S8, .i32⟩
  | 105 => ⟨S_, .i32⟩
  | 106 => ⟨S8, .i32⟩
  | 107 => ⟨S8, .i32⟩
  | 108 => ⟨S8, .i32⟩
  | 109 => ⟨S8, .i32⟩
  | 110 => ⟨S8, .i32⟩
  | 111 => ⟨S_, .i32⟩
  | 112 => ⟨S8, .i32⟩
  | 113 => ⟨S8, .i32⟩
  | 114 => ⟨S_, .i32⟩
  | 115 => ⟨S8, .i32⟩
  | 116 => ⟨S8, .i32⟩
  | 117 => ⟨S8, .i32⟩
  | 118 => ⟨S8, .i32⟩
  | 119 => ⟨S8, .i32⟩
  | 120 => ⟨S8, .i32⟩
  | 121 => ⟨S8, .i32⟩
  | 122 => ⟨S8, .i32⟩
  | 123 => ⟨S_, .i32⟩
  | 124 => ⟨S8, .i32⟩
  | 125 => ⟨S8, .i32⟩
  | 126 => ⟨S8, .i32⟩
  | 127 => ⟨S1, .i32⟩
  | _ => ⟨S8x16384x3, .f32⟩

abbrev hbmTy0_4 (i : Nat) : BufTy := match i % 128 with
  | 0 => ⟨S_, .i32⟩
  | 1 => ⟨S1, .i32⟩
  | 2 => ⟨S_, .i32⟩
  | 3 => ⟨S8, .i64⟩
  | 4 => ⟨S_, .i64⟩
  | 5 => ⟨S8, .i64⟩
  | 6 => ⟨S8, .i64⟩
  | 7 => ⟨S_, .i64⟩
  | 8 => ⟨S8, .i64⟩
  | 9 => ⟨S8, .i64⟩
  | 10 => ⟨S8, .i32⟩
  | 11 => ⟨S8, .i32⟩
  | 12 => ⟨S_, .i32⟩
  | 13 => ⟨S_, .i32⟩
  | 14 => ⟨S_, .i32⟩
  | 15 => ⟨S8, .i32⟩
  | 16 => ⟨S8, .i32⟩
  | 17 => ⟨S8, .i32⟩
  | 18 => ⟨S8, .i32⟩
  | 19 => ⟨S8, .i32⟩
  | 20 => ⟨S_, .i32⟩
  | 21 => ⟨S8, .i32⟩
  | 22 => ⟨S8, .i32⟩
  | 23 => ⟨S_, .i32⟩
  | 24 => ⟨S8, .i32⟩
  | 25 => ⟨S8, .i32⟩
  | 26 => ⟨S8, .i32⟩
  | 27 => ⟨S8, .i32⟩
  | 28 => ⟨S8, .i32⟩
  | 29 => ⟨S_, .i32⟩
  | 30 => ⟨S8, .i32⟩
  | 31 => ⟨S8, .i32⟩
  | 32 => ⟨S_, .i32⟩
  | 33 => ⟨S8, .i32⟩
  | 34 => ⟨S8, .i32⟩
  | 35 => ⟨S8, .i32⟩
  | 36 => ⟨S8, .i32⟩
  | 37 => ⟨S8, .i32⟩
  | 38 => ⟨S_, .i32⟩
  | 39 => ⟨S8, .i32⟩
  | 40 => ⟨S8, .i32⟩
  | 41 => ⟨S_, .i32⟩
  | 42 => ⟨S8, .i32⟩
  | 43 => ⟨S8, .i32⟩
  | 44 => ⟨S8, .i32⟩
  | 45 => ⟨S8, .i32⟩
  | 46 => ⟨S8, .i32⟩
  | 47 => ⟨S_, .i32⟩
  | 48 => ⟨S8, .i32⟩
  | 49 => ⟨S8, .i32⟩
  | 50 => ⟨S_, .i32⟩
  | 51 => ⟨S8, .i32⟩
  | 52 => ⟨S8, .i32⟩
  | 53 => ⟨S8, .i32⟩
  | 54 => ⟨S8, .i32⟩
  | 55 => ⟨S8, .i32⟩
  | 56 => ⟨S8, .i32⟩
  | 57 => ⟨S8, .i32⟩
  | 58 => ⟨S8, .i32⟩
  | 59 => ⟨S_, .i32⟩
  | 60 => ⟨S8, .i32⟩
  | 61 => ⟨S8, .i32⟩
  | 62 => ⟨S8, .i32⟩
  | 63 => ⟨S_, .i32⟩
  | 64 => ⟨S8, .i32⟩
  | 65 => ⟨S8, .i32⟩
  | 66 => ⟨S_, .i32⟩
  | 67 => ⟨S8, .i32⟩
  | 68 => ⟨S8, .i32⟩
  | 69 => ⟨S8, .i32⟩
  | 70 => ⟨S8, .i32⟩
  | 71 => ⟨S8, .i32⟩
  | 72 => ⟨S_, .i32⟩
  | 73 => ⟨S8, .i32⟩
  | 74 => ⟨S8, .i32⟩
  | 75 => ⟨S_, .i32⟩
  | 76 => ⟨S8, .i32⟩
  | 77 => ⟨S8, .i32⟩
  | 78 => ⟨S8, .i32⟩
  | 79 => ⟨S8, .i32⟩
  | 80 => ⟨S8, .i32⟩
  | 81 => ⟨S_, .i32⟩
  | 82 => ⟨S8, .i32⟩
  | 83 => ⟨S8, .i32⟩
  | 84 => ⟨S_, .i32⟩
  | 85 => ⟨S8, .i32⟩
  | 86 => ⟨S8, .i32⟩
  | 87 => ⟨S8, .i32⟩
  | 88 => ⟨S8, .i32⟩
  | 89 => ⟨S8, .i32⟩
  | 90 => ⟨S_, .i32⟩
  | 91 => ⟨S8, .i32⟩
  | 92 => ⟨S8, .i32⟩
  | 93 => ⟨S_, .i32⟩
  | 94 => ⟨S8, .i32⟩
  | 95 => ⟨S8, .i32⟩
  | 96 => ⟨S8, .i32⟩
  | 97 => ⟨S8, .i32⟩
  | 98 => ⟨S8, .i32⟩
  | 99 => ⟨S8, .i32⟩
  | 100 => ⟨S8, .i32⟩
  | 101 => ⟨S8, .i32⟩
  | 102 => ⟨S_, .i32⟩
  | 103 => ⟨S8, .i32⟩
  | 104 => ⟨S8, .i32⟩
  | 105 => ⟨S8, .i32⟩
  | 106 => ⟨S_, .i32⟩
  | 107 => ⟨S8, .i32⟩
  | 108 => ⟨S8, .i32⟩
  | 109 => ⟨S_, .i32⟩
  | 110 => ⟨S8, .i32⟩
  | 111 => ⟨S8, .i32⟩
  | 112 => ⟨S8, .i32⟩
  | 113 => ⟨S8, .i32⟩
  | 114 => ⟨S8, .i32⟩
  | 115 => ⟨S_, .i32⟩
  | 116 => ⟨S8, .i32⟩
  | 117 => ⟨S8, .i32⟩
  | 118 => ⟨S_, .i32⟩
  | 119 => ⟨S8, .i32⟩
  | 120 => ⟨S8, .i32⟩
  | 121 => ⟨S8, .i32⟩
  | 122 => ⟨S8, .i32⟩
  | 123 => ⟨S8, .i32⟩
  | 124 => ⟨S_, .i32⟩
  | 125 => ⟨S8, .i32⟩
  | 126 => ⟨S8, .i32⟩
  | 127 => ⟨S_, .i32⟩
  | _ => ⟨S8x16384x3, .f32⟩

abbrev hbmTy0_5 (i : Nat) : BufTy := match i % 128 with
  | 0 => ⟨S8, .i32⟩
  | 1 => ⟨S8, .i32⟩
  | 2 => ⟨S8, .i32⟩
  | 3 => ⟨S8, .i32⟩
  | 4 => ⟨S8, .i32⟩
  | 5 => ⟨S_, .i32⟩
  | 6 => ⟨S8, .i32⟩
  | 7 => ⟨S8, .i32⟩
  | 8 => ⟨S_, .i32⟩
  | 9 => ⟨S8, .i32⟩
  | 10 => ⟨S8, .i32⟩
  | 11 => ⟨S8, .i32⟩
  | 12 => ⟨S8, .i32⟩
  | 13 => ⟨S8, .i32⟩
  | 14 => ⟨S8, .i32⟩
  | 15 => ⟨S8, .i32⟩
  | 16 => ⟨S8, .i32⟩
  | 17 => ⟨S_, .i32⟩
  | 18 => ⟨S8, .i32⟩
  | 19 => ⟨S8, .i32⟩
  | 20 => ⟨S8, .i32⟩
  | 21 => ⟨S_, .i32⟩
  | 22 => ⟨S8, .i32⟩
  | 23 => ⟨S8, .i32⟩
  | 24 => ⟨S_, .i32⟩
  | 25 => ⟨S8, .i32⟩
  | 26 => ⟨S8, .i32⟩
  | 27 => ⟨S8, .i32⟩
  | 28 => ⟨S8, .i32⟩
  | 29 => ⟨S8, .i32⟩
  | 30 => ⟨S_, .i32⟩
  | 31 => ⟨S8, .i32⟩
  | 32 => ⟨S8, .i32⟩
  | 33 => ⟨S_, .i32⟩
  | 34 => ⟨S8, .i32⟩
  | 35 => ⟨S8, .i32⟩
  | 36 => ⟨S8, .i32⟩
  | 37 => ⟨S8, .i32⟩
  | 38 => ⟨S8, .i32⟩
  | 39 => ⟨S_, .i32⟩
  | 40 => ⟨S8, .i32⟩
  | 41 => ⟨S8, .i32⟩
  | 42 => ⟨S_, .i32⟩
  | 43 => ⟨S8, .i32⟩
  | 44 => ⟨S8, .i32⟩
  | 45 => ⟨S8, .i32⟩
  | 46 => ⟨S8, .i32⟩
  | 47 => ⟨S8, .i32⟩
  | 48 => ⟨S_, .i32⟩
  | 49 => ⟨S8, .i32⟩
  | 50 => ⟨S8, .i32⟩
  | 51 => ⟨S_, .i32⟩
  | 52 => ⟨S8, .i32⟩
  | 53 => ⟨S8, .i32⟩
  | 54 => ⟨S8, .i32⟩
  | 55 => ⟨S8, .i32⟩
  | 56 => ⟨S8, .i32⟩
  | 57 => ⟨S8, .i32⟩
  | 58 => ⟨S8, .i32⟩
  | 59 => ⟨S8, .i32⟩
  | 60 => ⟨S_, .i32⟩
  | 61 => ⟨S8, .i32⟩
  | 62 => ⟨S8, .i32⟩
  | 63 => ⟨S8, .i32⟩
  | 64 => ⟨S_, .i32⟩
  | 65 => ⟨S8, .i32⟩
  | 66 => ⟨S8, .i32⟩
  | 67 => ⟨S_, .i32⟩
  | 68 => ⟨S8, .i32⟩
  | 69 => ⟨S8, .i32⟩
  | 70 => ⟨S8, .i32⟩
  | 71 => ⟨S8, .i32⟩
  | 72 => ⟨S8, .i32⟩
  | 73 => ⟨S_, .i32⟩
  | 74 => ⟨S8, .i32⟩
  | 75 => ⟨S8, .i32⟩
  | 76 => ⟨S_, .i32⟩
  | 77 => ⟨S8, .i32⟩
  | 78 => ⟨S8, .i32⟩
  | 79 => ⟨S8, .i32⟩
  | 80 => ⟨S8, .i32⟩
  | 81 => ⟨S8, .i32⟩
  | 82 => ⟨S_, .i32⟩
  | 83 => ⟨S8, .i32⟩
  | 84 => ⟨S8, .i32⟩
  | 85 => ⟨S_, .i32⟩
  | 86 => ⟨S8, .i32⟩
  | 87 => ⟨S8, .i32⟩
  | 88 => ⟨S8, .i32⟩
  | 89 => ⟨S8, .i32⟩
  | 90 => ⟨S8, .i32⟩
  | 91 => ⟨S_, .i32⟩
  | 92 => ⟨S8, .i32⟩
  | 93 => ⟨S8, .i32⟩
  | 94 => ⟨S_, .i32⟩
  | 95 => ⟨S8, .i32⟩
  | 96 => ⟨S8, .i32⟩
  | 97 => ⟨S8, .i32⟩
  | 98 => ⟨S8, .i32⟩
  | 99 => ⟨S8, .i32⟩
  | 100 => ⟨S8, .i32⟩
  | 101 => ⟨S8, .i32⟩
  | 102 => ⟨S8, .i32⟩
  | 103 => ⟨S_, .i32⟩
  | 104 => ⟨S8, .i32⟩
  | 105 => ⟨S8, .i32⟩
  | 106 => ⟨S8, .i32⟩
  | 107 => ⟨S1, .i32⟩
  | 108 => ⟨S1, .i32⟩
  | 109 => ⟨S1, .i1⟩
  | 110 => ⟨S_, .i32⟩
  | 111 => ⟨S1, .i32⟩
  | 112 => ⟨S1, .i32⟩
  | 113 => ⟨S1, .i1⟩
  | 114 => ⟨S1, .i1⟩
  | 115 => ⟨S1, .i1⟩
  | 116 => ⟨S_, .i32⟩
  | 117 => ⟨S1, .i32⟩
  | 118 => ⟨S1, .i32⟩
  | 119 => ⟨S1, .i32⟩
  | 120 => ⟨S_, .i32⟩
  | 121 => ⟨S1, .i32⟩
  | 122 => ⟨S1, .i32⟩
  | 123 => ⟨S1, .i32⟩
  | 124 => ⟨S1, .i32⟩
  | 125 => ⟨S8, .i32⟩
  | 126 => ⟨S8, .i32⟩
  | 127 => ⟨S8, .i32⟩
  | _ => ⟨S8x16384x3, .f32⟩

abbrev hbmTy0_6 (i : Nat) : BufTy := match i % 128 with
  | 0 => ⟨S8, .i32⟩
  | 1 => ⟨S8, .i32⟩
  | 2 => ⟨S8, .i32⟩
  | 3 => ⟨S8, .i32⟩
  | 4 => ⟨S8, .i32⟩
  | 5 => ⟨S8, .i32⟩
  | 6 => ⟨S8, .i32⟩
  | 7 => ⟨S8, .i32⟩
  | 8 => ⟨S8, .i32⟩
  | 9 => ⟨S_, .i32⟩
  | 10 => ⟨S8x512, .i32⟩
  | 11 => ⟨S_, .i32⟩
  | 12 => ⟨S_, .i32⟩
  | 13 => ⟨S8x16384x3, .f32⟩
  | 14 => ⟨S_, .i32⟩
  | 15 => ⟨S_, .i32⟩
  | 16 => ⟨S8x512, .i32⟩
  | 17 => ⟨S8x16384, .f32⟩
  | 18 => ⟨S8, .i32⟩
  | 19 => ⟨S_, .i32⟩
  | 20 => ⟨S_, .i1⟩
  | 21 => ⟨S_, .i32⟩
  | 22 => ⟨S_, .i32⟩
  | 23 => ⟨S_, .i32⟩
  | 24 => ⟨S_, .i1⟩
  | 25 => ⟨S_, .i32⟩
  | 26 => ⟨S_, .i32⟩
  | 27 => ⟨S_, .i32⟩
  | 28 => ⟨S_, .i32⟩
  | 29 => ⟨S1, .i32⟩
  | 30 => ⟨S8x512, .i32⟩
  | 31 => ⟨S8x1x1, .i32⟩
  | 32 => ⟨S_, .i32⟩
  | 33 => ⟨S8x1x1, .i32⟩
  | 34 => ⟨S8x1x1, .i1⟩
  | 35 => ⟨S_, .i32⟩
  | 36 => ⟨S8x1x1, .i32⟩
  | 37 => ⟨S8x1x1, .i32⟩
  | 38 => ⟨S8x1x1, .i32⟩
  | 39 => ⟨S1, .i32⟩
  | 40 => ⟨S_, .i32⟩
  | 41 => ⟨S8x1x1, .i32⟩
  | 42 => ⟨S8x1x1, .i1⟩
  | 43 => ⟨S1x1x1, .i32⟩
  | 44 => ⟨S8x1x1, .i32⟩
  | 45 => ⟨S8x1x1, .i1⟩
  | 46 => ⟨S8x1x1, .i1⟩
  | 47 => ⟨S_, .i1⟩
  | 48 => ⟨S8x1, .i1⟩
  | 49 => ⟨S8x1x3, .f32⟩
  | 50 => ⟨S8x1x3, .i1⟩
  | 51 => ⟨S_, .f32⟩
  | 52 => ⟨S8x1x3, .f32⟩
  | 53 => ⟨S8x1x3, .f32⟩
  | 54 => ⟨S8x16384x3, .f32⟩
  | 55 => ⟨S8x16384x3, .f32⟩
  | 56 => ⟨S8x16384x3, .f32⟩
  | 57 => ⟨S_, .f32⟩
  | 58 => ⟨S8x16384, .f32⟩
  | 59 => ⟨S8x16384, .i1⟩
  | 60 => ⟨S8x16384, .f32⟩
  | 61 => ⟨S8x16384, .i32⟩
  | 62 => ⟨S_, .f32⟩
  | 63 => ⟨S_, .i32⟩
  | 64 => ⟨S8, .f32⟩
  | 65 => ⟨S8, .i32⟩
  | 66 => ⟨S_, .i32⟩
  | 67 => ⟨S_, .i32⟩
  | 68 => ⟨S8x512x1, .i32⟩
  | 69 => ⟨S_, .i32⟩
  | 70 => ⟨S8x512x1, .i32⟩
  | 71 => ⟨S8x512x1, .i1⟩
  | 72 => ⟨S_, .i32⟩
  | 73 => ⟨S8x512x1, .i32⟩
  | 74 => ⟨S8x512x1, .i32⟩
  | 75 => ⟨S8x512x1, .i32⟩
  | 76 => ⟨S1, .i32⟩
  | 77 => ⟨S_, .i32⟩
  | 78 => ⟨S8x512x1, .i32⟩
  | 79 => ⟨S8x512x1, .i1⟩
  | 80 => ⟨S1x1x1, .i32⟩
  | 81 => ⟨S8x512x1, .i32⟩
  | 82 => ⟨S8x512x1, .i1⟩
  | 83 => ⟨S8x512x1, .i1⟩
  | 84 => ⟨S_, .i1⟩
  | 85 => ⟨S8x512, .i1⟩
  | 86 => ⟨S8x512x3, .f32⟩
  | 87 => ⟨S8x512x3, .i1⟩
  | 88 => ⟨S_, .f32⟩
  | 89 => ⟨S8x512x3, .f32⟩
  | 90 => ⟨S8x512x3, .f32⟩
  | _ => ⟨S8x16384x3, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S8x16384x3, .f32⟩

abbrev bufTy : (tb : Table) → Fin (tcTables nBuf tb) → BufTy
  | .hbm, ⟨i, _⟩ => hbmTy i
  | _, _ => ⟨S8x16384x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_c : Ref sig .tc := ⟨.hbm, 3, rfl⟩
abbrev main_c_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_2 : Ref sig .tc := ⟨.hbm, 13, rfl⟩
abbrev main_c_3 : Ref sig .tc := ⟨.hbm, 14, rfl⟩
abbrev main_call0_c : Ref sig .tc := ⟨.hbm, 15, rfl⟩
abbrev main_call0_c_0 : Ref sig .tc := ⟨.hbm, 16, rfl⟩
abbrev main_call0_c_1 : Ref sig .tc := ⟨.hbm, 17, rfl⟩
abbrev main_call0_call0_v0 : Ref sig .tc := ⟨.hbm, 18, rfl⟩
abbrev main_call0_v0 : Ref sig .tc := ⟨.hbm, 19, rfl⟩
abbrev main_call0_v1 : Ref sig .tc := ⟨.hbm, 20, rfl⟩
abbrev main_call0_c_2 : Ref sig .tc := ⟨.hbm, 21, rfl⟩
abbrev main_call0_c_3 : Ref sig .tc := ⟨.hbm, 22, rfl⟩
abbrev main_call0_call1_v0 : Ref sig .tc := ⟨.hbm, 23, rfl⟩
abbrev main_call0_v2 : Ref sig .tc := ⟨.hbm, 24, rfl⟩
abbrev main_call0_v3 : Ref sig .tc := ⟨.hbm, 25, rfl⟩
abbrev main_call0_c_4 : Ref sig .tc := ⟨.hbm, 26, rfl⟩
abbrev main_call0_c_5 : Ref sig .tc := ⟨.hbm, 27, rfl⟩
abbrev main_call0_call2_v0 : Ref sig .tc := ⟨.hbm, 28, rfl⟩
abbrev main_call0_v4 : Ref sig .tc := ⟨.hbm, 29, rfl⟩
abbrev main_call0_v5 : Ref sig .tc := ⟨.hbm, 30, rfl⟩
abbrev main_call0_v6 : Ref sig .tc := ⟨.hbm, 31, rfl⟩
abbrev main_call0_v7 : Ref sig .tc := ⟨.hbm, 32, rfl⟩
abbrev main_call0_call3_v0 : Ref sig .tc := ⟨.hbm, 33, rfl⟩
abbrev main_call0_call3_v1 : Ref sig .tc := ⟨.hbm, 34, rfl⟩
abbrev main_call0_call3_v2 : Ref sig .tc := ⟨.hbm, 35, rfl⟩
abbrev main_call0_call3_v3 : Ref sig .tc := ⟨.hbm, 36, rfl⟩
abbrev main_call0_call3_v4 : Ref sig .tc := ⟨.hbm, 37, rfl⟩
abbrev main_call0_call3_c : Ref sig .tc := ⟨.hbm, 38, rfl⟩
abbrev main_call0_call3_v5 : Ref sig .tc := ⟨.hbm, 39, rfl⟩
abbrev main_call0_call3_v6 : Ref sig .tc := ⟨.hbm, 40, rfl⟩
abbrev main_call0_call3_c_0 : Ref sig .tc := ⟨.hbm, 41, rfl⟩
abbrev main_call0_call3_v7 : Ref sig .tc := ⟨.hbm, 42, rfl⟩
abbrev main_call0_call3_v8 : Ref sig .tc := ⟨.hbm, 43, rfl⟩
abbrev main_call0_call3_v9 : Ref sig .tc := ⟨.hbm, 44, rfl⟩
abbrev main_call0_call3_v10 : Ref sig .tc := ⟨.hbm, 45, rfl⟩
abbrev main_call0_call3_call0_v0 : Ref sig .tc := ⟨.hbm, 46, rfl⟩
abbrev main_call0_call3_call0_c : Ref sig .tc := ⟨.hbm, 47, rfl⟩
abbrev main_call0_call3_call0_v1 : Ref sig .tc := ⟨.hbm, 48, rfl⟩
abbrev main_call0_call3_call0_v2 : Ref sig .tc := ⟨.hbm, 49, rfl⟩
abbrev main_call0_call3_call0_v3 : Ref sig .tc := ⟨.hbm, 50, rfl⟩
abbrev main_call0_call3_call0_v4 : Ref sig .tc := ⟨.hbm, 51, rfl⟩
abbrev main_call0_call3_call0_v5 : Ref sig .tc := ⟨.hbm, 52, rfl⟩
abbrev main_call0_call3_call0_v6 : Ref sig .tc := ⟨.hbm, 53, rfl⟩
abbrev main_call0_call3_call0_c_0 : Ref sig .tc := ⟨.hbm, 54, rfl⟩
abbrev main_call0_call3_call0_v7 : Ref sig .tc := ⟨.hbm, 55, rfl⟩
abbrev main_call0_call3_call0_v8 : Ref sig .tc := ⟨.hbm, 56, rfl⟩
abbrev main_call0_call3_call0_c_1 : Ref sig .tc := ⟨.hbm, 57, rfl⟩
abbrev main_call0_call3_call0_v9 : Ref sig .tc := ⟨.hbm, 58, rfl⟩
abbrev main_call0_call3_call0_v10 : Ref sig .tc := ⟨.hbm, 59, rfl⟩
abbrev main_call0_call3_call0_v11 : Ref sig .tc := ⟨.hbm, 60, rfl⟩
abbrev main_call0_call3_call0_v12 : Ref sig .tc := ⟨.hbm, 61, rfl⟩
abbrev main_call0_call3_call0_v13 : Ref sig .tc := ⟨.hbm, 62, rfl⟩
abbrev main_call0_call3_call0_c_2 : Ref sig .tc := ⟨.hbm, 63, rfl⟩
abbrev main_call0_call3_call0_v14 : Ref sig .tc := ⟨.hbm, 64, rfl⟩
abbrev main_call0_call3_call0_v15 : Ref sig .tc := ⟨.hbm, 65, rfl⟩
abbrev main_call0_call3_call0_c_3 : Ref sig .tc := ⟨.hbm, 66, rfl⟩
abbrev main_call0_call3_call0_v16 : Ref sig .tc := ⟨.hbm, 67, rfl⟩
abbrev main_call0_call3_call0_v17 : Ref sig .tc := ⟨.hbm, 68, rfl⟩
abbrev main_call0_call3_call0_v18 : Ref sig .tc := ⟨.hbm, 69, rfl⟩
abbrev main_call0_call3_call0_v19 : Ref sig .tc := ⟨.hbm, 70, rfl⟩
abbrev main_call0_call3_call0_v20 : Ref sig .tc := ⟨.hbm, 71, rfl⟩
abbrev main_call0_call3_call0_c_4 : Ref sig .tc := ⟨.hbm, 72, rfl⟩
abbrev main_call0_call3_call0_v21 : Ref sig .tc := ⟨.hbm, 73, rfl⟩
abbrev main_call0_call3_call0_v22 : Ref sig .tc := ⟨.hbm, 74, rfl⟩
abbrev main_call0_call3_call0_c_5 : Ref sig .tc := ⟨.hbm, 75, rfl⟩
abbrev main_call0_call3_call0_v23 : Ref sig .tc := ⟨.hbm, 76, rfl⟩
abbrev main_call0_call3_call0_v24 : Ref sig .tc := ⟨.hbm, 77, rfl⟩
abbrev main_call0_call3_call0_v25 : Ref sig .tc := ⟨.hbm, 78, rfl⟩
abbrev main_call0_call3_call0_v26 : Ref sig .tc := ⟨.hbm, 79, rfl⟩
abbrev main_call0_call3_call0_v27 : Ref sig .tc := ⟨.hbm, 80, rfl⟩
abbrev main_call0_call3_call0_c_6 : Ref sig .tc := ⟨.hbm, 81, rfl⟩
abbrev main_call0_call3_call0_v28 : Ref sig .tc := ⟨.hbm, 82, rfl⟩
abbrev main_call0_call3_call0_v29 : Ref sig .tc := ⟨.hbm, 83, rfl⟩
abbrev main_call0_call3_call0_c_7 : Ref sig .tc := ⟨.hbm, 84, rfl⟩
abbrev main_call0_call3_call0_v30 : Ref sig .tc := ⟨.hbm, 85, rfl⟩
abbrev main_call0_call3_call0_v31 : Ref sig .tc := ⟨.hbm, 86, rfl⟩
abbrev main_call0_call3_call0_v32 : Ref sig .tc := ⟨.hbm, 87, rfl⟩
abbrev main_call0_call3_call0_v33 : Ref sig .tc := ⟨.hbm, 88, rfl⟩
abbrev main_call0_call3_call0_v34 : Ref sig .tc := ⟨.hbm, 89, rfl⟩
abbrev main_call0_call3_call0_v35 : Ref sig .tc := ⟨.hbm, 90, rfl⟩
abbrev main_call0_call3_call0_v36 : Ref sig .tc := ⟨.hbm, 91, rfl⟩
abbrev main_call0_call3_call0_v37 : Ref sig .tc := ⟨.hbm, 92, rfl⟩
abbrev main_call0_call3_call0_c_8 : Ref sig .tc := ⟨.hbm, 93, rfl⟩
abbrev main_call0_call3_call0_v38 : Ref sig .tc := ⟨.hbm, 94, rfl⟩
abbrev main_call0_call3_call0_v39 : Ref sig .tc := ⟨.hbm, 95, rfl⟩
abbrev main_call0_call3_call0_v40 : Ref sig .tc := ⟨.hbm, 96, rfl⟩
abbrev main_call0_call3_call0_c_9 : Ref sig .tc := ⟨.hbm, 97, rfl⟩
abbrev main_call0_call3_call0_v41 : Ref sig .tc := ⟨.hbm, 98, rfl⟩
abbrev main_call0_call3_call0_v42 : Ref sig .tc := ⟨.hbm, 99, rfl⟩
abbrev main_call0_call3_call0_c_10 : Ref sig .tc := ⟨.hbm, 100, rfl⟩
abbrev main_call0_call3_call0_v43 : Ref sig .tc := ⟨.hbm, 101, rfl⟩
abbrev main_call0_call3_call0_v44 : Ref sig .tc := ⟨.hbm, 102, rfl⟩
abbrev main_call0_call3_call0_v45 : Ref sig .tc := ⟨.hbm, 103, rfl⟩
abbrev main_call0_call3_call0_v46 : Ref sig .tc := ⟨.hbm, 104, rfl⟩
abbrev main_call0_call3_call0_v47 : Ref sig .tc := ⟨.hbm, 105, rfl⟩
abbrev main_call0_call3_call0_c_11 : Ref sig .tc := ⟨.hbm, 106, rfl⟩
abbrev main_call0_call3_call0_v48 : Ref sig .tc := ⟨.hbm, 107, rfl⟩
abbrev main_call0_call3_call0_v49 : Ref sig .tc := ⟨.hbm, 108, rfl⟩
abbrev main_call0_call3_call0_c_12 : Ref sig .tc := ⟨.hbm, 109, rfl⟩
abbrev main_call0_call3_call0_v50 : Ref sig .tc := ⟨.hbm, 110, rfl⟩
abbrev main_call0_call3_call0_v51 : Ref sig .tc := ⟨.hbm, 111, rfl⟩
abbrev main_call0_call3_call0_v52 : Ref sig .tc := ⟨.hbm, 112, rfl⟩
abbrev main_call0_call3_call0_v53 : Ref sig .tc := ⟨.hbm, 113, rfl⟩
abbrev main_call0_call3_call0_v54 : Ref sig .tc := ⟨.hbm, 114, rfl⟩
abbrev main_call0_call3_call0_c_13 : Ref sig .tc := ⟨.hbm, 115, rfl⟩
abbrev main_call0_call3_call0_v55 : Ref sig .tc := ⟨.hbm, 116, rfl⟩
abbrev main_call0_call3_call0_v56 : Ref sig .tc := ⟨.hbm, 117, rfl⟩
abbrev main_call0_call3_call0_c_14 : Ref sig .tc := ⟨.hbm, 118, rfl⟩
abbrev main_call0_call3_call0_v57 : Ref sig .tc := ⟨.hbm, 119, rfl⟩
abbrev main_call0_call3_call0_v58 : Ref sig .tc := ⟨.hbm, 120, rfl⟩
abbrev main_call0_call3_call0_v59 : Ref sig .tc := ⟨.hbm, 121, rfl⟩
abbrev main_call0_call3_call0_v60 : Ref sig .tc := ⟨.hbm, 122, rfl⟩
abbrev main_call0_call3_call0_v61 : Ref sig .tc := ⟨.hbm, 123, rfl⟩
abbrev main_call0_call3_call0_c_15 : Ref sig .tc := ⟨.hbm, 124, rfl⟩
abbrev main_call0_call3_call0_v62 : Ref sig .tc := ⟨.hbm, 125, rfl⟩
abbrev main_call0_call3_call0_v63 : Ref sig .tc := ⟨.hbm, 126, rfl⟩
abbrev main_call0_call3_call0_c_16 : Ref sig .tc := ⟨.hbm, 127, rfl⟩
abbrev main_call0_call3_call0_v64 : Ref sig .tc := ⟨.hbm, 128, rfl⟩
abbrev main_call0_call3_call0_v65 : Ref sig .tc := ⟨.hbm, 129, rfl⟩
abbrev main_call0_call3_call0_v66 : Ref sig .tc := ⟨.hbm, 130, rfl⟩
abbrev main_call0_call3_call0_v67 : Ref sig .tc := ⟨.hbm, 131, rfl⟩
abbrev main_call0_call3_call0_v68 : Ref sig .tc := ⟨.hbm, 132, rfl⟩
abbrev main_call0_call3_call0_v69 : Ref sig .tc := ⟨.hbm, 133, rfl⟩
abbrev main_call0_call3_call0_v70 : Ref sig .tc := ⟨.hbm, 134, rfl⟩
abbrev main_call0_call3_call0_v71 : Ref sig .tc := ⟨.hbm, 135, rfl⟩
abbrev main_call0_call3_call0_c_17 : Ref sig .tc := ⟨.hbm, 136, rfl⟩
abbrev main_call0_call3_call0_v72 : Ref sig .tc := ⟨.hbm, 137, rfl⟩
abbrev main_call0_call3_call0_v73 : Ref sig .tc := ⟨.hbm, 138, rfl⟩
abbrev main_call0_call3_call0_v74 : Ref sig .tc := ⟨.hbm, 139, rfl⟩
abbrev main_call0_call3_call0_c_18 : Ref sig .tc := ⟨.hbm, 140, rfl⟩
abbrev main_call0_call3_call0_v75 : Ref sig .tc := ⟨.hbm, 141, rfl⟩
abbrev main_call0_call3_call0_v76 : Ref sig .tc := ⟨.hbm, 142, rfl⟩
abbrev main_call0_call3_call0_c_19 : Ref sig .tc := ⟨.hbm, 143, rfl⟩
abbrev main_call0_call3_call0_v77 : Ref sig .tc := ⟨.hbm, 144, rfl⟩
abbrev main_call0_call3_call0_v78 : Ref sig .tc := ⟨.hbm, 145, rfl⟩
abbrev main_call0_call3_call0_v79 : Ref sig .tc := ⟨.hbm, 146, rfl⟩
abbrev main_call0_call3_call0_v80 : Ref sig .tc := ⟨.hbm, 147, rfl⟩
abbrev main_call0_call3_call0_v81 : Ref sig .tc := ⟨.hbm, 148, rfl⟩
abbrev main_call0_call3_call0_c_20 : Ref sig .tc := ⟨.hbm, 149, rfl⟩
abbrev main_call0_call3_call0_v82 : Ref sig .tc := ⟨.hbm, 150, rfl⟩
abbrev main_call0_call3_call0_v83 : Ref sig .tc := ⟨.hbm, 151, rfl⟩
abbrev main_call0_call3_call0_c_21 : Ref sig .tc := ⟨.hbm, 152, rfl⟩
abbrev main_call0_call3_call0_v84 : Ref sig .tc := ⟨.hbm, 153, rfl⟩
abbrev main_call0_call3_call0_v85 : Ref sig .tc := ⟨.hbm, 154, rfl⟩
abbrev main_call0_call3_call0_v86 : Ref sig .tc := ⟨.hbm, 155, rfl⟩
abbrev main_call0_call3_call0_v87 : Ref sig .tc := ⟨.hbm, 156, rfl⟩
abbrev main_call0_call3_call0_v88 : Ref sig .tc := ⟨.hbm, 157, rfl⟩
abbrev main_call0_call3_call0_c_22 : Ref sig .tc := ⟨.hbm, 158, rfl⟩
abbrev main_call0_call3_call0_v89 : Ref sig .tc := ⟨.hbm, 159, rfl⟩
abbrev main_call0_call3_call0_v90 : Ref sig .tc := ⟨.hbm, 160, rfl⟩
abbrev main_call0_call3_call0_c_23 : Ref sig .tc := ⟨.hbm, 161, rfl⟩
abbrev main_call0_call3_call0_v91 : Ref sig .tc := ⟨.hbm, 162, rfl⟩
abbrev main_call0_call3_call0_v92 : Ref sig .tc := ⟨.hbm, 163, rfl⟩
abbrev main_call0_call3_call0_v93 : Ref sig .tc := ⟨.hbm, 164, rfl⟩
abbrev main_call0_call3_call0_v94 : Ref sig .tc := ⟨.hbm, 165, rfl⟩
abbrev main_call0_call3_call0_v95 : Ref sig .tc := ⟨.hbm, 166, rfl⟩
abbrev main_call0_call3_call0_c_24 : Ref sig .tc := ⟨.hbm, 167, rfl⟩
abbrev main_call0_call3_call0_v96 : Ref sig .tc := ⟨.hbm, 168, rfl⟩
abbrev main_call0_call3_call0_v97 : Ref sig .tc := ⟨.hbm, 169, rfl⟩
abbrev main_call0_call3_call0_c_25 : Ref sig .tc := ⟨.hbm, 170, rfl⟩
abbrev main_call0_call3_call0_v98 : Ref sig .tc := ⟨.hbm, 171, rfl⟩
abbrev main_call0_call3_call0_v99 : Ref sig .tc := ⟨.hbm, 172, rfl⟩
abbrev main_call0_call3_call0_v100 : Ref sig .tc := ⟨.hbm, 173, rfl⟩
abbrev main_call0_call3_call0_v101 : Ref sig .tc := ⟨.hbm, 174, rfl⟩
abbrev main_call0_call3_call0_v102 : Ref sig .tc := ⟨.hbm, 175, rfl⟩
abbrev main_call0_call3_call0_v103 : Ref sig .tc := ⟨.hbm, 176, rfl⟩
abbrev main_call0_call3_call0_v104 : Ref sig .tc := ⟨.hbm, 177, rfl⟩
abbrev main_call0_call3_call0_v105 : Ref sig .tc := ⟨.hbm, 178, rfl⟩
abbrev main_call0_call3_call0_c_26 : Ref sig .tc := ⟨.hbm, 179, rfl⟩
abbrev main_call0_call3_call0_v106 : Ref sig .tc := ⟨.hbm, 180, rfl⟩
abbrev main_call0_call3_call0_v107 : Ref sig .tc := ⟨.hbm, 181, rfl⟩
abbrev main_call0_call3_call0_v108 : Ref sig .tc := ⟨.hbm, 182, rfl⟩
abbrev main_call0_call3_call0_c_27 : Ref sig .tc := ⟨.hbm, 183, rfl⟩
abbrev main_call0_call3_call0_v109 : Ref sig .tc := ⟨.hbm, 184, rfl⟩
abbrev main_call0_call3_call0_v110 : Ref sig .tc := ⟨.hbm, 185, rfl⟩
abbrev main_call0_call3_call0_c_28 : Ref sig .tc := ⟨.hbm, 186, rfl⟩
abbrev main_call0_call3_call0_v111 : Ref sig .tc := ⟨.hbm, 187, rfl⟩
abbrev main_call0_call3_call0_v112 : Ref sig .tc := ⟨.hbm, 188, rfl⟩
abbrev main_call0_call3_call0_v113 : Ref sig .tc := ⟨.hbm, 189, rfl⟩
abbrev main_call0_call3_call0_v114 : Ref sig .tc := ⟨.hbm, 190, rfl⟩
abbrev main_call0_call3_call0_v115 : Ref sig .tc := ⟨.hbm, 191, rfl⟩
abbrev main_call0_call3_call0_c_29 : Ref sig .tc := ⟨.hbm, 192, rfl⟩
abbrev main_call0_call3_call0_v116 : Ref sig .tc := ⟨.hbm, 193, rfl⟩
abbrev main_call0_call3_call0_v117 : Ref sig .tc := ⟨.hbm, 194, rfl⟩
abbrev main_call0_call3_call0_c_30 : Ref sig .tc := ⟨.hbm, 195, rfl⟩
abbrev main_call0_call3_call0_v118 : Ref sig .tc := ⟨.hbm, 196, rfl⟩
abbrev main_call0_call3_call0_v119 : Ref sig .tc := ⟨.hbm, 197, rfl⟩
abbrev main_call0_call3_call0_v120 : Ref sig .tc := ⟨.hbm, 198, rfl⟩
abbrev main_call0_call3_call0_v121 : Ref sig .tc := ⟨.hbm, 199, rfl⟩
abbrev main_call0_call3_call0_v122 : Ref sig .tc := ⟨.hbm, 200, rfl⟩
abbrev main_call0_call3_call0_c_31 : Ref sig .tc := ⟨.hbm, 201, rfl⟩
abbrev main_call0_call3_call0_v123 : Ref sig .tc := ⟨.hbm, 202, rfl⟩
abbrev main_call0_call3_call0_v124 : Ref sig .tc := ⟨.hbm, 203, rfl⟩
abbrev main_call0_call3_call0_c_32 : Ref sig .tc := ⟨.hbm, 204, rfl⟩
abbrev main_call0_call3_call0_v125 : Ref sig .tc := ⟨.hbm, 205, rfl⟩
abbrev main_call0_call3_call0_v126 : Ref sig .tc := ⟨.hbm, 206, rfl⟩
abbrev main_call0_call3_call0_v127 : Ref sig .tc := ⟨.hbm, 207, rfl⟩
abbrev main_call0_call3_call0_v128 : Ref sig .tc := ⟨.hbm, 208, rfl⟩
abbrev main_call0_call3_call0_v129 : Ref sig .tc := ⟨.hbm, 209, rfl⟩
abbrev main_call0_call3_call0_c_33 : Ref sig .tc := ⟨.hbm, 210, rfl⟩
abbrev main_call0_call3_call0_v130 : Ref sig .tc := ⟨.hbm, 211, rfl⟩
abbrev main_call0_call3_call0_v131 : Ref sig .tc := ⟨.hbm, 212, rfl⟩
abbrev main_call0_call3_call0_c_34 : Ref sig .tc := ⟨.hbm, 213, rfl⟩
abbrev main_call0_call3_call0_v132 : Ref sig .tc := ⟨.hbm, 214, rfl⟩
abbrev main_call0_call3_call0_v133 : Ref sig .tc := ⟨.hbm, 215, rfl⟩
abbrev main_call0_call3_call0_v134 : Ref sig .tc := ⟨.hbm, 216, rfl⟩
abbrev main_call0_call3_call0_v135 : Ref sig .tc := ⟨.hbm, 217, rfl⟩
abbrev main_call0_call3_call0_v136 : Ref sig .tc := ⟨.hbm, 218, rfl⟩
abbrev main_call0_call3_call0_v137 : Ref sig .tc := ⟨.hbm, 219, rfl⟩
abbrev main_call0_call3_call0_v138 : Ref sig .tc := ⟨.hbm, 220, rfl⟩
abbrev main_call0_call3_call0_v139 : Ref sig .tc := ⟨.hbm, 221, rfl⟩
abbrev main_call0_call3_call0_c_35 : Ref sig .tc := ⟨.hbm, 222, rfl⟩
abbrev main_call0_call3_call0_v140 : Ref sig .tc := ⟨.hbm, 223, rfl⟩
abbrev main_call0_call3_call0_v141 : Ref sig .tc := ⟨.hbm, 224, rfl⟩
abbrev main_call0_call3_call0_v142 : Ref sig .tc := ⟨.hbm, 225, rfl⟩
abbrev main_call0_call3_call0_c_36 : Ref sig .tc := ⟨.hbm, 226, rfl⟩
abbrev main_call0_call3_call0_v143 : Ref sig .tc := ⟨.hbm, 227, rfl⟩
abbrev main_call0_call3_call0_v144 : Ref sig .tc := ⟨.hbm, 228, rfl⟩
abbrev main_call0_call3_call0_c_37 : Ref sig .tc := ⟨.hbm, 229, rfl⟩
abbrev main_call0_call3_call0_v145 : Ref sig .tc := ⟨.hbm, 230, rfl⟩
abbrev main_call0_call3_call0_v146 : Ref sig .tc := ⟨.hbm, 231, rfl⟩
abbrev main_call0_call3_call0_v147 : Ref sig .tc := ⟨.hbm, 232, rfl⟩
abbrev main_call0_call3_call0_v148 : Ref sig .tc := ⟨.hbm, 233, rfl⟩
abbrev main_call0_call3_call0_v149 : Ref sig .tc := ⟨.hbm, 234, rfl⟩
abbrev main_call0_call3_call0_c_38 : Ref sig .tc := ⟨.hbm, 235, rfl⟩
abbrev main_call0_call3_call0_v150 : Ref sig .tc := ⟨.hbm, 236, rfl⟩
abbrev main_call0_call3_call0_v151 : Ref sig .tc := ⟨.hbm, 237, rfl⟩
abbrev main_call0_call3_call0_c_39 : Ref sig .tc := ⟨.hbm, 238, rfl⟩
abbrev main_call0_call3_call0_v152 : Ref sig .tc := ⟨.hbm, 239, rfl⟩
abbrev main_call0_call3_call0_v153 : Ref sig .tc := ⟨.hbm, 240, rfl⟩
abbrev main_call0_call3_call0_v154 : Ref sig .tc := ⟨.hbm, 241, rfl⟩
abbrev main_call0_call3_call0_v155 : Ref sig .tc := ⟨.hbm, 242, rfl⟩
abbrev main_call0_call3_call0_v156 : Ref sig .tc := ⟨.hbm, 243, rfl⟩
abbrev main_call0_call3_call0_c_40 : Ref sig .tc := ⟨.hbm, 244, rfl⟩
abbrev main_call0_call3_call0_v157 : Ref sig .tc := ⟨.hbm, 245, rfl⟩
abbrev main_call0_call3_call0_v158 : Ref sig .tc := ⟨.hbm, 246, rfl⟩
abbrev main_call0_call3_call0_c_41 : Ref sig .tc := ⟨.hbm, 247, rfl⟩
abbrev main_call0_call3_call0_v159 : Ref sig .tc := ⟨.hbm, 248, rfl⟩
abbrev main_call0_call3_call0_v160 : Ref sig .tc := ⟨.hbm, 249, rfl⟩
abbrev main_call0_call3_call0_v161 : Ref sig .tc := ⟨.hbm, 250, rfl⟩
abbrev main_call0_call3_call0_v162 : Ref sig .tc := ⟨.hbm, 251, rfl⟩
abbrev main_call0_call3_call0_v163 : Ref sig .tc := ⟨.hbm, 252, rfl⟩
abbrev main_call0_call3_call0_c_42 : Ref sig .tc := ⟨.hbm, 253, rfl⟩
abbrev main_call0_call3_call0_v164 : Ref sig .tc := ⟨.hbm, 254, rfl⟩
abbrev main_call0_call3_call0_v165 : Ref sig .tc := ⟨.hbm, 255, rfl⟩
abbrev main_call0_call3_call0_c_43 : Ref sig .tc := ⟨.hbm, 256, rfl⟩
abbrev main_call0_call3_call0_v166 : Ref sig .tc := ⟨.hbm, 257, rfl⟩
abbrev main_call0_call3_call0_v167 : Ref sig .tc := ⟨.hbm, 258, rfl⟩
abbrev main_call0_call3_call0_v168 : Ref sig .tc := ⟨.hbm, 259, rfl⟩
abbrev main_call0_call3_call0_v169 : Ref sig .tc := ⟨.hbm, 260, rfl⟩
abbrev main_call0_call3_call0_v170 : Ref sig .tc := ⟨.hbm, 261, rfl⟩
abbrev main_call0_call3_v11_0 : Ref sig .tc := ⟨.hbm, 262, rfl⟩
abbrev main_call0_call3_call0_v172 : Ref sig .tc := ⟨.hbm, 263, rfl⟩
abbrev main_call0_call3_call0_v173 : Ref sig .tc := ⟨.hbm, 264, rfl⟩
abbrev main_call0_call3_call0_c_44 : Ref sig .tc := ⟨.hbm, 265, rfl⟩
abbrev main_call0_call3_call0_v174 : Ref sig .tc := ⟨.hbm, 266, rfl⟩
abbrev main_call0_call3_v11_1 : Ref sig .tc := ⟨.hbm, 267, rfl⟩
abbrev main_call0_call3_v12 : Ref sig .tc := ⟨.hbm, 268, rfl⟩
abbrev main_call0_call3_v13 : Ref sig .tc := ⟨.hbm, 269, rfl⟩
abbrev main_call0_v8 : Ref sig .tc := ⟨.hbm, 270, rfl⟩
abbrev main_call0_v9 : Ref sig .tc := ⟨.hbm, 271, rfl⟩
abbrev main_call0_v10 : Ref sig .tc := ⟨.hbm, 272, rfl⟩
abbrev main_call0_v11 : Ref sig .tc := ⟨.hbm, 273, rfl⟩
abbrev main_call0_v12 : Ref sig .tc := ⟨.hbm, 274, rfl⟩
abbrev main_call0_v13 : Ref sig .tc := ⟨.hbm, 275, rfl⟩
abbrev main_call0_v14 : Ref sig .tc := ⟨.hbm, 276, rfl⟩
abbrev main_call0_v15 : Ref sig .tc := ⟨.hbm, 277, rfl⟩
abbrev main_call0_v16 : Ref sig .tc := ⟨.hbm, 278, rfl⟩
abbrev main_call0_v17 : Ref sig .tc := ⟨.hbm, 279, rfl⟩
abbrev main_call0_c_6 : Ref sig .tc := ⟨.hbm, 280, rfl⟩
abbrev main_call0_v18 : Ref sig .tc := ⟨.hbm, 281, rfl⟩
abbrev main_call0_v19 : Ref sig .tc := ⟨.hbm, 282, rfl⟩
abbrev main_call0_c_7 : Ref sig .tc := ⟨.hbm, 283, rfl⟩
abbrev main_call0_v20 : Ref sig .tc := ⟨.hbm, 284, rfl⟩
abbrev main_call0_v21 : Ref sig .tc := ⟨.hbm, 285, rfl⟩
abbrev main_call0_v22 : Ref sig .tc := ⟨.hbm, 286, rfl⟩
abbrev main_call0_v23 : Ref sig .tc := ⟨.hbm, 287, rfl⟩
abbrev main_call0_call4_v0 : Ref sig .tc := ⟨.hbm, 288, rfl⟩
abbrev main_call0_call4_c : Ref sig .tc := ⟨.hbm, 289, rfl⟩
abbrev main_call0_call4_v1 : Ref sig .tc := ⟨.hbm, 290, rfl⟩
abbrev main_call0_call4_v2 : Ref sig .tc := ⟨.hbm, 291, rfl⟩
abbrev main_call0_call4_v3 : Ref sig .tc := ⟨.hbm, 292, rfl⟩
abbrev main_call0_call4_v4 : Ref sig .tc := ⟨.hbm, 293, rfl⟩
abbrev main_call0_call4_v5 : Ref sig .tc := ⟨.hbm, 294, rfl⟩
abbrev main_call0_call4_v6 : Ref sig .tc := ⟨.hbm, 295, rfl⟩
abbrev main_call0_call4_c_0 : Ref sig .tc := ⟨.hbm, 296, rfl⟩
abbrev main_call0_call4_v7 : Ref sig .tc := ⟨.hbm, 297, rfl⟩
abbrev main_call0_call4_v8 : Ref sig .tc := ⟨.hbm, 298, rfl⟩
abbrev main_call0_call4_c_1 : Ref sig .tc := ⟨.hbm, 299, rfl⟩
abbrev main_call0_call4_v9 : Ref sig .tc := ⟨.hbm, 300, rfl⟩
abbrev main_call0_call4_v10 : Ref sig .tc := ⟨.hbm, 301, rfl⟩
abbrev main_call0_call4_v11 : Ref sig .tc := ⟨.hbm, 302, rfl⟩
abbrev main_call0_call4_v12 : Ref sig .tc := ⟨.hbm, 303, rfl⟩
abbrev main_call0_call4_v13 : Ref sig .tc := ⟨.hbm, 304, rfl⟩
abbrev main_call0_call4_c_2 : Ref sig .tc := ⟨.hbm, 305, rfl⟩
abbrev main_call0_call4_v14 : Ref sig .tc := ⟨.hbm, 306, rfl⟩
abbrev main_call0_call4_v15 : Ref sig .tc := ⟨.hbm, 307, rfl⟩
abbrev main_call0_call4_c_3 : Ref sig .tc := ⟨.hbm, 308, rfl⟩
abbrev main_call0_call4_v16 : Ref sig .tc := ⟨.hbm, 309, rfl⟩
abbrev main_call0_call4_v17 : Ref sig .tc := ⟨.hbm, 310, rfl⟩
abbrev main_call0_call4_v18 : Ref sig .tc := ⟨.hbm, 311, rfl⟩
abbrev main_call0_call4_v19 : Ref sig .tc := ⟨.hbm, 312, rfl⟩
abbrev main_call0_call4_v20 : Ref sig .tc := ⟨.hbm, 313, rfl⟩
abbrev main_call0_call4_c_4 : Ref sig .tc := ⟨.hbm, 314, rfl⟩
abbrev main_call0_call4_v21 : Ref sig .tc := ⟨.hbm, 315, rfl⟩
abbrev main_call0_call4_v22 : Ref sig .tc := ⟨.hbm, 316, rfl⟩
abbrev main_call0_call4_c_5 : Ref sig .tc := ⟨.hbm, 317, rfl⟩
abbrev main_call0_call4_v23 : Ref sig .tc := ⟨.hbm, 318, rfl⟩
abbrev main_call0_call4_v24 : Ref sig .tc := ⟨.hbm, 319, rfl⟩
abbrev main_call0_call4_v25 : Ref sig .tc := ⟨.hbm, 320, rfl⟩
abbrev main_call0_call4_v26 : Ref sig .tc := ⟨.hbm, 321, rfl⟩
abbrev main_call0_call4_v27 : Ref sig .tc := ⟨.hbm, 322, rfl⟩
abbrev main_call0_call4_c_6 : Ref sig .tc := ⟨.hbm, 323, rfl⟩
abbrev main_call0_call4_v28 : Ref sig .tc := ⟨.hbm, 324, rfl⟩
abbrev main_call0_call4_v29 : Ref sig .tc := ⟨.hbm, 325, rfl⟩
abbrev main_call0_call4_c_7 : Ref sig .tc := ⟨.hbm, 326, rfl⟩
abbrev main_call0_call4_v30 : Ref sig .tc := ⟨.hbm, 327, rfl⟩
abbrev main_call0_call4_v31 : Ref sig .tc := ⟨.hbm, 328, rfl⟩
abbrev main_call0_call4_v32 : Ref sig .tc := ⟨.hbm, 329, rfl⟩
abbrev main_call0_call4_v33 : Ref sig .tc := ⟨.hbm, 330, rfl⟩
abbrev main_call0_call4_v34 : Ref sig .tc := ⟨.hbm, 331, rfl⟩
abbrev main_call0_call4_v35 : Ref sig .tc := ⟨.hbm, 332, rfl⟩
abbrev main_call0_call4_v36 : Ref sig .tc := ⟨.hbm, 333, rfl⟩
abbrev main_call0_call4_v37 : Ref sig .tc := ⟨.hbm, 334, rfl⟩
abbrev main_call0_call4_c_8 : Ref sig .tc := ⟨.hbm, 335, rfl⟩
abbrev main_call0_call4_v38 : Ref sig .tc := ⟨.hbm, 336, rfl⟩
abbrev main_call0_call4_v39 : Ref sig .tc := ⟨.hbm, 337, rfl⟩
abbrev main_call0_call4_v40 : Ref sig .tc := ⟨.hbm, 338, rfl⟩
abbrev main_call0_call4_c_9 : Ref sig .tc := ⟨.hbm, 339, rfl⟩
abbrev main_call0_call4_v41 : Ref sig .tc := ⟨.hbm, 340, rfl⟩
abbrev main_call0_call4_v42 : Ref sig .tc := ⟨.hbm, 341, rfl⟩
abbrev main_call0_call4_c_10 : Ref sig .tc := ⟨.hbm, 342, rfl⟩
abbrev main_call0_call4_v43 : Ref sig .tc := ⟨.hbm, 343, rfl⟩
abbrev main_call0_call4_v44 : Ref sig .tc := ⟨.hbm, 344, rfl⟩
abbrev main_call0_call4_v45 : Ref sig .tc := ⟨.hbm, 345, rfl⟩
abbrev main_call0_call4_v46 : Ref sig .tc := ⟨.hbm, 346, rfl⟩
abbrev main_call0_call4_v47 : Ref sig .tc := ⟨.hbm, 347, rfl⟩
abbrev main_call0_call4_c_11 : Ref sig .tc := ⟨.hbm, 348, rfl⟩
abbrev main_call0_call4_v48 : Ref sig .tc := ⟨.hbm, 349, rfl⟩
abbrev main_call0_call4_v49 : Ref sig .tc := ⟨.hbm, 350, rfl⟩
abbrev main_call0_call4_c_12 : Ref sig .tc := ⟨.hbm, 351, rfl⟩
abbrev main_call0_call4_v50 : Ref sig .tc := ⟨.hbm, 352, rfl⟩
abbrev main_call0_call4_v51 : Ref sig .tc := ⟨.hbm, 353, rfl⟩
abbrev main_call0_call4_v52 : Ref sig .tc := ⟨.hbm, 354, rfl⟩
abbrev main_call0_call4_v53 : Ref sig .tc := ⟨.hbm, 355, rfl⟩
abbrev main_call0_call4_v54 : Ref sig .tc := ⟨.hbm, 356, rfl⟩
abbrev main_call0_call4_c_13 : Ref sig .tc := ⟨.hbm, 357, rfl⟩
abbrev main_call0_call4_v55 : Ref sig .tc := ⟨.hbm, 358, rfl⟩
abbrev main_call0_call4_v56 : Ref sig .tc := ⟨.hbm, 359, rfl⟩
abbrev main_call0_call4_c_14 : Ref sig .tc := ⟨.hbm, 360, rfl⟩
abbrev main_call0_call4_v57 : Ref sig .tc := ⟨.hbm, 361, rfl⟩
abbrev main_call0_call4_v58 : Ref sig .tc := ⟨.hbm, 362, rfl⟩
abbrev main_call0_call4_v59 : Ref sig .tc := ⟨.hbm, 363, rfl⟩
abbrev main_call0_call4_v60 : Ref sig .tc := ⟨.hbm, 364, rfl⟩
abbrev main_call0_call4_v61 : Ref sig .tc := ⟨.hbm, 365, rfl⟩
abbrev main_call0_call4_c_15 : Ref sig .tc := ⟨.hbm, 366, rfl⟩
abbrev main_call0_call4_v62 : Ref sig .tc := ⟨.hbm, 367, rfl⟩
abbrev main_call0_call4_v63 : Ref sig .tc := ⟨.hbm, 368, rfl⟩
abbrev main_call0_call4_c_16 : Ref sig .tc := ⟨.hbm, 369, rfl⟩
abbrev main_call0_call4_v64 : Ref sig .tc := ⟨.hbm, 370, rfl⟩
abbrev main_call0_call4_v65 : Ref sig .tc := ⟨.hbm, 371, rfl⟩
abbrev main_call0_call4_v66 : Ref sig .tc := ⟨.hbm, 372, rfl⟩
abbrev main_call0_call4_v67 : Ref sig .tc := ⟨.hbm, 373, rfl⟩
abbrev main_call0_call4_v68 : Ref sig .tc := ⟨.hbm, 374, rfl⟩
abbrev main_call0_call4_v69 : Ref sig .tc := ⟨.hbm, 375, rfl⟩
abbrev main_call0_call4_v70 : Ref sig .tc := ⟨.hbm, 376, rfl⟩
abbrev main_call0_call4_v71 : Ref sig .tc := ⟨.hbm, 377, rfl⟩
abbrev main_call0_call4_c_17 : Ref sig .tc := ⟨.hbm, 378, rfl⟩
abbrev main_call0_call4_v72 : Ref sig .tc := ⟨.hbm, 379, rfl⟩
abbrev main_call0_call4_v73 : Ref sig .tc := ⟨.hbm, 380, rfl⟩
abbrev main_call0_call4_v74 : Ref sig .tc := ⟨.hbm, 381, rfl⟩
abbrev main_call0_call4_c_18 : Ref sig .tc := ⟨.hbm, 382, rfl⟩
abbrev main_call0_call4_v75 : Ref sig .tc := ⟨.hbm, 383, rfl⟩
abbrev main_call0_call4_v76 : Ref sig .tc := ⟨.hbm, 384, rfl⟩
abbrev main_call0_call4_c_19 : Ref sig .tc := ⟨.hbm, 385, rfl⟩
abbrev main_call0_call4_v77 : Ref sig .tc := ⟨.hbm, 386, rfl⟩
abbrev main_call0_call4_v78 : Ref sig .tc := ⟨.hbm, 387, rfl⟩
abbrev main_call0_call4_v79 : Ref sig .tc := ⟨.hbm, 388, rfl⟩
abbrev main_call0_call4_v80 : Ref sig .tc := ⟨.hbm, 389, rfl⟩
abbrev main_call0_call4_v81 : Ref sig .tc := ⟨.hbm, 390, rfl⟩
abbrev main_call0_call4_c_20 : Ref sig .tc := ⟨.hbm, 391, rfl⟩
abbrev main_call0_call4_v82 : Ref sig .tc := ⟨.hbm, 392, rfl⟩
abbrev main_call0_call4_v83 : Ref sig .tc := ⟨.hbm, 393, rfl⟩
abbrev main_call0_call4_c_21 : Ref sig .tc := ⟨.hbm, 394, rfl⟩
abbrev main_call0_call4_v84 : Ref sig .tc := ⟨.hbm, 395, rfl⟩
abbrev main_call0_call4_v85 : Ref sig .tc := ⟨.hbm, 396, rfl⟩
abbrev main_call0_call4_v86 : Ref sig .tc := ⟨.hbm, 397, rfl⟩
abbrev main_call0_call4_v87 : Ref sig .tc := ⟨.hbm, 398, rfl⟩
abbrev main_call0_call4_v88 : Ref sig .tc := ⟨.hbm, 399, rfl⟩
abbrev main_call0_call4_c_22 : Ref sig .tc := ⟨.hbm, 400, rfl⟩
abbrev main_call0_call4_v89 : Ref sig .tc := ⟨.hbm, 401, rfl⟩
abbrev main_call0_call4_v90 : Ref sig .tc := ⟨.hbm, 402, rfl⟩
abbrev main_call0_call4_c_23 : Ref sig .tc := ⟨.hbm, 403, rfl⟩
abbrev main_call0_call4_v91 : Ref sig .tc := ⟨.hbm, 404, rfl⟩
abbrev main_call0_call4_v92 : Ref sig .tc := ⟨.hbm, 405, rfl⟩
abbrev main_call0_call4_v93 : Ref sig .tc := ⟨.hbm, 406, rfl⟩
abbrev main_call0_call4_v94 : Ref sig .tc := ⟨.hbm, 407, rfl⟩
abbrev main_call0_call4_v95 : Ref sig .tc := ⟨.hbm, 408, rfl⟩
abbrev main_call0_call4_c_24 : Ref sig .tc := ⟨.hbm, 409, rfl⟩
abbrev main_call0_call4_v96 : Ref sig .tc := ⟨.hbm, 410, rfl⟩
abbrev main_call0_call4_v97 : Ref sig .tc := ⟨.hbm, 411, rfl⟩
abbrev main_call0_call4_c_25 : Ref sig .tc := ⟨.hbm, 412, rfl⟩
abbrev main_call0_call4_v98 : Ref sig .tc := ⟨.hbm, 413, rfl⟩
abbrev main_call0_call4_v99 : Ref sig .tc := ⟨.hbm, 414, rfl⟩
abbrev main_call0_call4_v100 : Ref sig .tc := ⟨.hbm, 415, rfl⟩
abbrev main_call0_call4_v101 : Ref sig .tc := ⟨.hbm, 416, rfl⟩
abbrev main_call0_call4_v102 : Ref sig .tc := ⟨.hbm, 417, rfl⟩
abbrev main_call0_call4_v103 : Ref sig .tc := ⟨.hbm, 418, rfl⟩
abbrev main_call0_call4_v104 : Ref sig .tc := ⟨.hbm, 419, rfl⟩
abbrev main_call0_call4_v105 : Ref sig .tc := ⟨.hbm, 420, rfl⟩
abbrev main_call0_call4_c_26 : Ref sig .tc := ⟨.hbm, 421, rfl⟩
abbrev main_call0_call4_v106 : Ref sig .tc := ⟨.hbm, 422, rfl⟩
abbrev main_call0_call4_v107 : Ref sig .tc := ⟨.hbm, 423, rfl⟩
abbrev main_call0_call4_v108 : Ref sig .tc := ⟨.hbm, 424, rfl⟩
abbrev main_call0_call4_c_27 : Ref sig .tc := ⟨.hbm, 425, rfl⟩
abbrev main_call0_call4_v109 : Ref sig .tc := ⟨.hbm, 426, rfl⟩
abbrev main_call0_call4_v110 : Ref sig .tc := ⟨.hbm, 427, rfl⟩
abbrev main_call0_call4_c_28 : Ref sig .tc := ⟨.hbm, 428, rfl⟩
abbrev main_call0_call4_v111 : Ref sig .tc := ⟨.hbm, 429, rfl⟩
abbrev main_call0_call4_v112 : Ref sig .tc := ⟨.hbm, 430, rfl⟩
abbrev main_call0_call4_v113 : Ref sig .tc := ⟨.hbm, 431, rfl⟩
abbrev main_call0_call4_v114 : Ref sig .tc := ⟨.hbm, 432, rfl⟩
abbrev main_call0_call4_v115 : Ref sig .tc := ⟨.hbm, 433, rfl⟩
abbrev main_call0_call4_c_29 : Ref sig .tc := ⟨.hbm, 434, rfl⟩
abbrev main_call0_call4_v116 : Ref sig .tc := ⟨.hbm, 435, rfl⟩
abbrev main_call0_call4_v117 : Ref sig .tc := ⟨.hbm, 436, rfl⟩
abbrev main_call0_call4_c_30 : Ref sig .tc := ⟨.hbm, 437, rfl⟩
abbrev main_call0_call4_v118 : Ref sig .tc := ⟨.hbm, 438, rfl⟩
abbrev main_call0_call4_v119 : Ref sig .tc := ⟨.hbm, 439, rfl⟩
abbrev main_call0_call4_v120 : Ref sig .tc := ⟨.hbm, 440, rfl⟩
abbrev main_call0_call4_v121 : Ref sig .tc := ⟨.hbm, 441, rfl⟩
abbrev main_call0_call4_v122 : Ref sig .tc := ⟨.hbm, 442, rfl⟩
abbrev main_call0_call4_c_31 : Ref sig .tc := ⟨.hbm, 443, rfl⟩
abbrev main_call0_call4_v123 : Ref sig .tc := ⟨.hbm, 444, rfl⟩
abbrev main_call0_call4_v124 : Ref sig .tc := ⟨.hbm, 445, rfl⟩
abbrev main_call0_call4_c_32 : Ref sig .tc := ⟨.hbm, 446, rfl⟩
abbrev main_call0_call4_v125 : Ref sig .tc := ⟨.hbm, 447, rfl⟩
abbrev main_call0_call4_v126 : Ref sig .tc := ⟨.hbm, 448, rfl⟩
abbrev main_call0_call4_v127 : Ref sig .tc := ⟨.hbm, 449, rfl⟩
abbrev main_call0_call4_v128 : Ref sig .tc := ⟨.hbm, 450, rfl⟩
abbrev main_call0_call4_v129 : Ref sig .tc := ⟨.hbm, 451, rfl⟩
abbrev main_call0_call4_c_33 : Ref sig .tc := ⟨.hbm, 452, rfl⟩
abbrev main_call0_call4_v130 : Ref sig .tc := ⟨.hbm, 453, rfl⟩
abbrev main_call0_call4_v131 : Ref sig .tc := ⟨.hbm, 454, rfl⟩
abbrev main_call0_call4_c_34 : Ref sig .tc := ⟨.hbm, 455, rfl⟩
abbrev main_call0_call4_v132 : Ref sig .tc := ⟨.hbm, 456, rfl⟩
abbrev main_call0_call4_v133 : Ref sig .tc := ⟨.hbm, 457, rfl⟩
abbrev main_call0_call4_v134 : Ref sig .tc := ⟨.hbm, 458, rfl⟩
abbrev main_call0_call4_v135 : Ref sig .tc := ⟨.hbm, 459, rfl⟩
abbrev main_call0_call4_v136 : Ref sig .tc := ⟨.hbm, 460, rfl⟩
abbrev main_call0_call4_v137 : Ref sig .tc := ⟨.hbm, 461, rfl⟩
abbrev main_call0_call4_v138 : Ref sig .tc := ⟨.hbm, 462, rfl⟩
abbrev main_call0_call4_v139 : Ref sig .tc := ⟨.hbm, 463, rfl⟩
abbrev main_call0_call4_c_35 : Ref sig .tc := ⟨.hbm, 464, rfl⟩
abbrev main_call0_call4_v140 : Ref sig .tc := ⟨.hbm, 465, rfl⟩
abbrev main_call0_call4_v141 : Ref sig .tc := ⟨.hbm, 466, rfl⟩
abbrev main_call0_call4_v142 : Ref sig .tc := ⟨.hbm, 467, rfl⟩
abbrev main_call0_call4_c_36 : Ref sig .tc := ⟨.hbm, 468, rfl⟩
abbrev main_call0_call4_v143 : Ref sig .tc := ⟨.hbm, 469, rfl⟩
abbrev main_call0_call4_v144 : Ref sig .tc := ⟨.hbm, 470, rfl⟩
abbrev main_call0_call4_c_37 : Ref sig .tc := ⟨.hbm, 471, rfl⟩
abbrev main_call0_call4_v145 : Ref sig .tc := ⟨.hbm, 472, rfl⟩
abbrev main_call0_call4_v146 : Ref sig .tc := ⟨.hbm, 473, rfl⟩
abbrev main_call0_call4_v147 : Ref sig .tc := ⟨.hbm, 474, rfl⟩
abbrev main_call0_call4_v148 : Ref sig .tc := ⟨.hbm, 475, rfl⟩
abbrev main_call0_call4_v149 : Ref sig .tc := ⟨.hbm, 476, rfl⟩
abbrev main_call0_call4_c_38 : Ref sig .tc := ⟨.hbm, 477, rfl⟩
abbrev main_call0_call4_v150 : Ref sig .tc := ⟨.hbm, 478, rfl⟩
abbrev main_call0_call4_v151 : Ref sig .tc := ⟨.hbm, 479, rfl⟩
abbrev main_call0_call4_c_39 : Ref sig .tc := ⟨.hbm, 480, rfl⟩
abbrev main_call0_call4_v152 : Ref sig .tc := ⟨.hbm, 481, rfl⟩
abbrev main_call0_call4_v153 : Ref sig .tc := ⟨.hbm, 482, rfl⟩
abbrev main_call0_call4_v154 : Ref sig .tc := ⟨.hbm, 483, rfl⟩
abbrev main_call0_call4_v155 : Ref sig .tc := ⟨.hbm, 484, rfl⟩
abbrev main_call0_call4_v156 : Ref sig .tc := ⟨.hbm, 485, rfl⟩
abbrev main_call0_call4_c_40 : Ref sig .tc := ⟨.hbm, 486, rfl⟩
abbrev main_call0_call4_v157 : Ref sig .tc := ⟨.hbm, 487, rfl⟩
abbrev main_call0_call4_v158 : Ref sig .tc := ⟨.hbm, 488, rfl⟩
abbrev main_call0_call4_c_41 : Ref sig .tc := ⟨.hbm, 489, rfl⟩
abbrev main_call0_call4_v159 : Ref sig .tc := ⟨.hbm, 490, rfl⟩
abbrev main_call0_call4_v160 : Ref sig .tc := ⟨.hbm, 491, rfl⟩
abbrev main_call0_call4_v161 : Ref sig .tc := ⟨.hbm, 492, rfl⟩
abbrev main_call0_call4_v162 : Ref sig .tc := ⟨.hbm, 493, rfl⟩
abbrev main_call0_call4_v163 : Ref sig .tc := ⟨.hbm, 494, rfl⟩
abbrev main_call0_call4_c_42 : Ref sig .tc := ⟨.hbm, 495, rfl⟩
abbrev main_call0_call4_v164 : Ref sig .tc := ⟨.hbm, 496, rfl⟩
abbrev main_call0_call4_v165 : Ref sig .tc := ⟨.hbm, 497, rfl⟩
abbrev main_call0_call4_c_43 : Ref sig .tc := ⟨.hbm, 498, rfl⟩
abbrev main_call0_call4_v166 : Ref sig .tc := ⟨.hbm, 499, rfl⟩
abbrev main_call0_call4_v167 : Ref sig .tc := ⟨.hbm, 500, rfl⟩
abbrev main_call0_call4_v168 : Ref sig .tc := ⟨.hbm, 501, rfl⟩
abbrev main_call0_call4_v169 : Ref sig .tc := ⟨.hbm, 502, rfl⟩
abbrev main_call0_call4_v170 : Ref sig .tc := ⟨.hbm, 503, rfl⟩
abbrev main_call0_v24_0 : Ref sig .tc := ⟨.hbm, 504, rfl⟩
abbrev main_call0_call4_v172 : Ref sig .tc := ⟨.hbm, 505, rfl⟩
abbrev main_call0_call4_v173 : Ref sig .tc := ⟨.hbm, 506, rfl⟩
abbrev main_call0_call4_c_44 : Ref sig .tc := ⟨.hbm, 507, rfl⟩
abbrev main_call0_call4_v174 : Ref sig .tc := ⟨.hbm, 508, rfl⟩
abbrev main_call0_v24_1 : Ref sig .tc := ⟨.hbm, 509, rfl⟩
abbrev main_call0_v25 : Ref sig .tc := ⟨.hbm, 510, rfl⟩
abbrev main_call0_v26 : Ref sig .tc := ⟨.hbm, 511, rfl⟩
abbrev main_call0_v27 : Ref sig .tc := ⟨.hbm, 512, rfl⟩
abbrev main_call0_v28 : Ref sig .tc := ⟨.hbm, 513, rfl⟩
abbrev main_call0_v29 : Ref sig .tc := ⟨.hbm, 514, rfl⟩
abbrev main_call0_v30 : Ref sig .tc := ⟨.hbm, 515, rfl⟩
abbrev main_call0_c_8 : Ref sig .tc := ⟨.hbm, 516, rfl⟩
abbrev main_call0_v31 : Ref sig .tc := ⟨.hbm, 517, rfl⟩
abbrev main_call0_v32 : Ref sig .tc := ⟨.hbm, 518, rfl⟩
abbrev main_call0_c_9 : Ref sig .tc := ⟨.hbm, 519, rfl⟩
abbrev main_call0_v33 : Ref sig .tc := ⟨.hbm, 520, rfl⟩
abbrev main_call0_v34 : Ref sig .tc := ⟨.hbm, 521, rfl⟩
abbrev main_call0_v35 : Ref sig .tc := ⟨.hbm, 522, rfl⟩
abbrev main_call0_v36 : Ref sig .tc := ⟨.hbm, 523, rfl⟩
abbrev main_call0_call5_v0 : Ref sig .tc := ⟨.hbm, 524, rfl⟩
abbrev main_call0_call5_c : Ref sig .tc := ⟨.hbm, 525, rfl⟩
abbrev main_call0_call5_v1 : Ref sig .tc := ⟨.hbm, 526, rfl⟩
abbrev main_call0_call5_v2 : Ref sig .tc := ⟨.hbm, 527, rfl⟩
abbrev main_call0_call5_v3 : Ref sig .tc := ⟨.hbm, 528, rfl⟩
abbrev main_call0_call5_v4 : Ref sig .tc := ⟨.hbm, 529, rfl⟩
abbrev main_call0_call5_v5 : Ref sig .tc := ⟨.hbm, 530, rfl⟩
abbrev main_call0_call5_v6 : Ref sig .tc := ⟨.hbm, 531, rfl⟩
abbrev main_call0_call5_c_0 : Ref sig .tc := ⟨.hbm, 532, rfl⟩
abbrev main_call0_call5_v7 : Ref sig .tc := ⟨.hbm, 533, rfl⟩
abbrev main_call0_call5_v8 : Ref sig .tc := ⟨.hbm, 534, rfl⟩
abbrev main_call0_call5_c_1 : Ref sig .tc := ⟨.hbm, 535, rfl⟩
abbrev main_call0_call5_v9 : Ref sig .tc := ⟨.hbm, 536, rfl⟩
abbrev main_call0_call5_v10 : Ref sig .tc := ⟨.hbm, 537, rfl⟩
abbrev main_call0_call5_v11 : Ref sig .tc := ⟨.hbm, 538, rfl⟩
abbrev main_call0_call5_v12 : Ref sig .tc := ⟨.hbm, 539, rfl⟩
abbrev main_call0_call5_v13 : Ref sig .tc := ⟨.hbm, 540, rfl⟩
abbrev main_call0_call5_c_2 : Ref sig .tc := ⟨.hbm, 541, rfl⟩
abbrev main_call0_call5_v14 : Ref sig .tc := ⟨.hbm, 542, rfl⟩
abbrev main_call0_call5_v15 : Ref sig .tc := ⟨.hbm, 543, rfl⟩
abbrev main_call0_call5_c_3 : Ref sig .tc := ⟨.hbm, 544, rfl⟩
abbrev main_call0_call5_v16 : Ref sig .tc := ⟨.hbm, 545, rfl⟩
abbrev main_call0_call5_v17 : Ref sig .tc := ⟨.hbm, 546, rfl⟩
abbrev main_call0_call5_v18 : Ref sig .tc := ⟨.hbm, 547, rfl⟩
abbrev main_call0_call5_v19 : Ref sig .tc := ⟨.hbm, 548, rfl⟩
abbrev main_call0_call5_v20 : Ref sig .tc := ⟨.hbm, 549, rfl⟩
abbrev main_call0_call5_c_4 : Ref sig .tc := ⟨.hbm, 550, rfl⟩
abbrev main_call0_call5_v21 : Ref sig .tc := ⟨.hbm, 551, rfl⟩
abbrev main_call0_call5_v22 : Ref sig .tc := ⟨.hbm, 552, rfl⟩
abbrev main_call0_call5_c_5 : Ref sig .tc := ⟨.hbm, 553, rfl⟩
abbrev main_call0_call5_v23 : Ref sig .tc := ⟨.hbm, 554, rfl⟩
abbrev main_call0_call5_v24 : Ref sig .tc := ⟨.hbm, 555, rfl⟩
abbrev main_call0_call5_v25 : Ref sig .tc := ⟨.hbm, 556, rfl⟩
abbrev main_call0_call5_v26 : Ref sig .tc := ⟨.hbm, 557, rfl⟩
abbrev main_call0_call5_v27 : Ref sig .tc := ⟨.hbm, 558, rfl⟩
abbrev main_call0_call5_c_6 : Ref sig .tc := ⟨.hbm, 559, rfl⟩
abbrev main_call0_call5_v28 : Ref sig .tc := ⟨.hbm, 560, rfl⟩
abbrev main_call0_call5_v29 : Ref sig .tc := ⟨.hbm, 561, rfl⟩
abbrev main_call0_call5_c_7 : Ref sig .tc := ⟨.hbm, 562, rfl⟩
abbrev main_call0_call5_v30 : Ref sig .tc := ⟨.hbm, 563, rfl⟩
abbrev main_call0_call5_v31 : Ref sig .tc := ⟨.hbm, 564, rfl⟩
abbrev main_call0_call5_v32 : Ref sig .tc := ⟨.hbm, 565, rfl⟩
abbrev main_call0_call5_v33 : Ref sig .tc := ⟨.hbm, 566, rfl⟩
abbrev main_call0_call5_v34 : Ref sig .tc := ⟨.hbm, 567, rfl⟩
abbrev main_call0_call5_v35 : Ref sig .tc := ⟨.hbm, 568, rfl⟩
abbrev main_call0_call5_v36 : Ref sig .tc := ⟨.hbm, 569, rfl⟩
abbrev main_call0_call5_v37 : Ref sig .tc := ⟨.hbm, 570, rfl⟩
abbrev main_call0_call5_c_8 : Ref sig .tc := ⟨.hbm, 571, rfl⟩
abbrev main_call0_call5_v38 : Ref sig .tc := ⟨.hbm, 572, rfl⟩
abbrev main_call0_call5_v39 : Ref sig .tc := ⟨.hbm, 573, rfl⟩
abbrev main_call0_call5_v40 : Ref sig .tc := ⟨.hbm, 574, rfl⟩
abbrev main_call0_call5_c_9 : Ref sig .tc := ⟨.hbm, 575, rfl⟩
abbrev main_call0_call5_v41 : Ref sig .tc := ⟨.hbm, 576, rfl⟩
abbrev main_call0_call5_v42 : Ref sig .tc := ⟨.hbm, 577, rfl⟩
abbrev main_call0_call5_c_10 : Ref sig .tc := ⟨.hbm, 578, rfl⟩
abbrev main_call0_call5_v43 : Ref sig .tc := ⟨.hbm, 579, rfl⟩
abbrev main_call0_call5_v44 : Ref sig .tc := ⟨.hbm, 580, rfl⟩
abbrev main_call0_call5_v45 : Ref sig .tc := ⟨.hbm, 581, rfl⟩
abbrev main_call0_call5_v46 : Ref sig .tc := ⟨.hbm, 582, rfl⟩
abbrev main_call0_call5_v47 : Ref sig .tc := ⟨.hbm, 583, rfl⟩
abbrev main_call0_call5_c_11 : Ref sig .tc := ⟨.hbm, 584, rfl⟩
abbrev main_call0_call5_v48 : Ref sig .tc := ⟨.hbm, 585, rfl⟩
abbrev main_call0_call5_v49 : Ref sig .tc := ⟨.hbm, 586, rfl⟩
abbrev main_call0_call5_c_12 : Ref sig .tc := ⟨.hbm, 587, rfl⟩
abbrev main_call0_call5_v50 : Ref sig .tc := ⟨.hbm, 588, rfl⟩
abbrev main_call0_call5_v51 : Ref sig .tc := ⟨.hbm, 589, rfl⟩
abbrev main_call0_call5_v52 : Ref sig .tc := ⟨.hbm, 590, rfl⟩
abbrev main_call0_call5_v53 : Ref sig .tc := ⟨.hbm, 591, rfl⟩
abbrev main_call0_call5_v54 : Ref sig .tc := ⟨.hbm, 592, rfl⟩
abbrev main_call0_call5_c_13 : Ref sig .tc := ⟨.hbm, 593, rfl⟩
abbrev main_call0_call5_v55 : Ref sig .tc := ⟨.hbm, 594, rfl⟩
abbrev main_call0_call5_v56 : Ref sig .tc := ⟨.hbm, 595, rfl⟩
abbrev main_call0_call5_c_14 : Ref sig .tc := ⟨.hbm, 596, rfl⟩
abbrev main_call0_call5_v57 : Ref sig .tc := ⟨.hbm, 597, rfl⟩
abbrev main_call0_call5_v58 : Ref sig .tc := ⟨.hbm, 598, rfl⟩
abbrev main_call0_call5_v59 : Ref sig .tc := ⟨.hbm, 599, rfl⟩
abbrev main_call0_call5_v60 : Ref sig .tc := ⟨.hbm, 600, rfl⟩
abbrev main_call0_call5_v61 : Ref sig .tc := ⟨.hbm, 601, rfl⟩
abbrev main_call0_call5_c_15 : Ref sig .tc := ⟨.hbm, 602, rfl⟩
abbrev main_call0_call5_v62 : Ref sig .tc := ⟨.hbm, 603, rfl⟩
abbrev main_call0_call5_v63 : Ref sig .tc := ⟨.hbm, 604, rfl⟩
abbrev main_call0_call5_c_16 : Ref sig .tc := ⟨.hbm, 605, rfl⟩
abbrev main_call0_call5_v64 : Ref sig .tc := ⟨.hbm, 606, rfl⟩
abbrev main_call0_call5_v65 : Ref sig .tc := ⟨.hbm, 607, rfl⟩
abbrev main_call0_call5_v66 : Ref sig .tc := ⟨.hbm, 608, rfl⟩
abbrev main_call0_call5_v67 : Ref sig .tc := ⟨.hbm, 609, rfl⟩
abbrev main_call0_call5_v68 : Ref sig .tc := ⟨.hbm, 610, rfl⟩
abbrev main_call0_call5_v69 : Ref sig .tc := ⟨.hbm, 611, rfl⟩
abbrev main_call0_call5_v70 : Ref sig .tc := ⟨.hbm, 612, rfl⟩
abbrev main_call0_call5_v71 : Ref sig .tc := ⟨.hbm, 613, rfl⟩
abbrev main_call0_call5_c_17 : Ref sig .tc := ⟨.hbm, 614, rfl⟩
abbrev main_call0_call5_v72 : Ref sig .tc := ⟨.hbm, 615, rfl⟩
abbrev main_call0_call5_v73 : Ref sig .tc := ⟨.hbm, 616, rfl⟩
abbrev main_call0_call5_v74 : Ref sig .tc := ⟨.hbm, 617, rfl⟩
abbrev main_call0_call5_c_18 : Ref sig .tc := ⟨.hbm, 618, rfl⟩
abbrev main_call0_call5_v75 : Ref sig .tc := ⟨.hbm, 619, rfl⟩
abbrev main_call0_call5_v76 : Ref sig .tc := ⟨.hbm, 620, rfl⟩
abbrev main_call0_call5_c_19 : Ref sig .tc := ⟨.hbm, 621, rfl⟩
abbrev main_call0_call5_v77 : Ref sig .tc := ⟨.hbm, 622, rfl⟩
abbrev main_call0_call5_v78 : Ref sig .tc := ⟨.hbm, 623, rfl⟩
abbrev main_call0_call5_v79 : Ref sig .tc := ⟨.hbm, 624, rfl⟩
abbrev main_call0_call5_v80 : Ref sig .tc := ⟨.hbm, 625, rfl⟩
abbrev main_call0_call5_v81 : Ref sig .tc := ⟨.hbm, 626, rfl⟩
abbrev main_call0_call5_c_20 : Ref sig .tc := ⟨.hbm, 627, rfl⟩
abbrev main_call0_call5_v82 : Ref sig .tc := ⟨.hbm, 628, rfl⟩
abbrev main_call0_call5_v83 : Ref sig .tc := ⟨.hbm, 629, rfl⟩
abbrev main_call0_call5_c_21 : Ref sig .tc := ⟨.hbm, 630, rfl⟩
abbrev main_call0_call5_v84 : Ref sig .tc := ⟨.hbm, 631, rfl⟩
abbrev main_call0_call5_v85 : Ref sig .tc := ⟨.hbm, 632, rfl⟩
abbrev main_call0_call5_v86 : Ref sig .tc := ⟨.hbm, 633, rfl⟩
abbrev main_call0_call5_v87 : Ref sig .tc := ⟨.hbm, 634, rfl⟩
abbrev main_call0_call5_v88 : Ref sig .tc := ⟨.hbm, 635, rfl⟩
abbrev main_call0_call5_c_22 : Ref sig .tc := ⟨.hbm, 636, rfl⟩
abbrev main_call0_call5_v89 : Ref sig .tc := ⟨.hbm, 637, rfl⟩
abbrev main_call0_call5_v90 : Ref sig .tc := ⟨.hbm, 638, rfl⟩
abbrev main_call0_call5_c_23 : Ref sig .tc := ⟨.hbm, 639, rfl⟩
abbrev main_call0_call5_v91 : Ref sig .tc := ⟨.hbm, 640, rfl⟩
abbrev main_call0_call5_v92 : Ref sig .tc := ⟨.hbm, 641, rfl⟩
abbrev main_call0_call5_v93 : Ref sig .tc := ⟨.hbm, 642, rfl⟩
abbrev main_call0_call5_v94 : Ref sig .tc := ⟨.hbm, 643, rfl⟩
abbrev main_call0_call5_v95 : Ref sig .tc := ⟨.hbm, 644, rfl⟩
abbrev main_call0_call5_c_24 : Ref sig .tc := ⟨.hbm, 645, rfl⟩
abbrev main_call0_call5_v96 : Ref sig .tc := ⟨.hbm, 646, rfl⟩
abbrev main_call0_call5_v97 : Ref sig .tc := ⟨.hbm, 647, rfl⟩
abbrev main_call0_call5_c_25 : Ref sig .tc := ⟨.hbm, 648, rfl⟩
abbrev main_call0_call5_v98 : Ref sig .tc := ⟨.hbm, 649, rfl⟩
abbrev main_call0_call5_v99 : Ref sig .tc := ⟨.hbm, 650, rfl⟩
abbrev main_call0_call5_v100 : Ref sig .tc := ⟨.hbm, 651, rfl⟩
abbrev main_call0_call5_v101 : Ref sig .tc := ⟨.hbm, 652, rfl⟩
abbrev main_call0_call5_v102 : Ref sig .tc := ⟨.hbm, 653, rfl⟩
abbrev main_call0_call5_v103 : Ref sig .tc := ⟨.hbm, 654, rfl⟩
abbrev main_call0_call5_v104 : Ref sig .tc := ⟨.hbm, 655, rfl⟩
abbrev main_call0_call5_v105 : Ref sig .tc := ⟨.hbm, 656, rfl⟩
abbrev main_call0_call5_c_26 : Ref sig .tc := ⟨.hbm, 657, rfl⟩
abbrev main_call0_call5_v106 : Ref sig .tc := ⟨.hbm, 658, rfl⟩
abbrev main_call0_call5_v107 : Ref sig .tc := ⟨.hbm, 659, rfl⟩
abbrev main_call0_call5_v108 : Ref sig .tc := ⟨.hbm, 660, rfl⟩
abbrev main_call0_call5_c_27 : Ref sig .tc := ⟨.hbm, 661, rfl⟩
abbrev main_call0_call5_v109 : Ref sig .tc := ⟨.hbm, 662, rfl⟩
abbrev main_call0_call5_v110 : Ref sig .tc := ⟨.hbm, 663, rfl⟩
abbrev main_call0_call5_c_28 : Ref sig .tc := ⟨.hbm, 664, rfl⟩
abbrev main_call0_call5_v111 : Ref sig .tc := ⟨.hbm, 665, rfl⟩
abbrev main_call0_call5_v112 : Ref sig .tc := ⟨.hbm, 666, rfl⟩
abbrev main_call0_call5_v113 : Ref sig .tc := ⟨.hbm, 667, rfl⟩
abbrev main_call0_call5_v114 : Ref sig .tc := ⟨.hbm, 668, rfl⟩
abbrev main_call0_call5_v115 : Ref sig .tc := ⟨.hbm, 669, rfl⟩
abbrev main_call0_call5_c_29 : Ref sig .tc := ⟨.hbm, 670, rfl⟩
abbrev main_call0_call5_v116 : Ref sig .tc := ⟨.hbm, 671, rfl⟩
abbrev main_call0_call5_v117 : Ref sig .tc := ⟨.hbm, 672, rfl⟩
abbrev main_call0_call5_c_30 : Ref sig .tc := ⟨.hbm, 673, rfl⟩
abbrev main_call0_call5_v118 : Ref sig .tc := ⟨.hbm, 674, rfl⟩
abbrev main_call0_call5_v119 : Ref sig .tc := ⟨.hbm, 675, rfl⟩
abbrev main_call0_call5_v120 : Ref sig .tc := ⟨.hbm, 676, rfl⟩
abbrev main_call0_call5_v121 : Ref sig .tc := ⟨.hbm, 677, rfl⟩
abbrev main_call0_call5_v122 : Ref sig .tc := ⟨.hbm, 678, rfl⟩
abbrev main_call0_call5_c_31 : Ref sig .tc := ⟨.hbm, 679, rfl⟩
abbrev main_call0_call5_v123 : Ref sig .tc := ⟨.hbm, 680, rfl⟩
abbrev main_call0_call5_v124 : Ref sig .tc := ⟨.hbm, 681, rfl⟩
abbrev main_call0_call5_c_32 : Ref sig .tc := ⟨.hbm, 682, rfl⟩
abbrev main_call0_call5_v125 : Ref sig .tc := ⟨.hbm, 683, rfl⟩
abbrev main_call0_call5_v126 : Ref sig .tc := ⟨.hbm, 684, rfl⟩
abbrev main_call0_call5_v127 : Ref sig .tc := ⟨.hbm, 685, rfl⟩
abbrev main_call0_call5_v128 : Ref sig .tc := ⟨.hbm, 686, rfl⟩
abbrev main_call0_call5_v129 : Ref sig .tc := ⟨.hbm, 687, rfl⟩
abbrev main_call0_call5_c_33 : Ref sig .tc := ⟨.hbm, 688, rfl⟩
abbrev main_call0_call5_v130 : Ref sig .tc := ⟨.hbm, 689, rfl⟩
abbrev main_call0_call5_v131 : Ref sig .tc := ⟨.hbm, 690, rfl⟩
abbrev main_call0_call5_c_34 : Ref sig .tc := ⟨.hbm, 691, rfl⟩
abbrev main_call0_call5_v132 : Ref sig .tc := ⟨.hbm, 692, rfl⟩
abbrev main_call0_call5_v133 : Ref sig .tc := ⟨.hbm, 693, rfl⟩
abbrev main_call0_call5_v134 : Ref sig .tc := ⟨.hbm, 694, rfl⟩
abbrev main_call0_call5_v135 : Ref sig .tc := ⟨.hbm, 695, rfl⟩
abbrev main_call0_call5_v136 : Ref sig .tc := ⟨.hbm, 696, rfl⟩
abbrev main_call0_call5_v137 : Ref sig .tc := ⟨.hbm, 697, rfl⟩
abbrev main_call0_call5_v138 : Ref sig .tc := ⟨.hbm, 698, rfl⟩
abbrev main_call0_call5_v139 : Ref sig .tc := ⟨.hbm, 699, rfl⟩
abbrev main_call0_call5_c_35 : Ref sig .tc := ⟨.hbm, 700, rfl⟩
abbrev main_call0_call5_v140 : Ref sig .tc := ⟨.hbm, 701, rfl⟩
abbrev main_call0_call5_v141 : Ref sig .tc := ⟨.hbm, 702, rfl⟩
abbrev main_call0_call5_v142 : Ref sig .tc := ⟨.hbm, 703, rfl⟩
abbrev main_call0_call5_c_36 : Ref sig .tc := ⟨.hbm, 704, rfl⟩
abbrev main_call0_call5_v143 : Ref sig .tc := ⟨.hbm, 705, rfl⟩
abbrev main_call0_call5_v144 : Ref sig .tc := ⟨.hbm, 706, rfl⟩
abbrev main_call0_call5_c_37 : Ref sig .tc := ⟨.hbm, 707, rfl⟩
abbrev main_call0_call5_v145 : Ref sig .tc := ⟨.hbm, 708, rfl⟩
abbrev main_call0_call5_v146 : Ref sig .tc := ⟨.hbm, 709, rfl⟩
abbrev main_call0_call5_v147 : Ref sig .tc := ⟨.hbm, 710, rfl⟩
abbrev main_call0_call5_v148 : Ref sig .tc := ⟨.hbm, 711, rfl⟩
abbrev main_call0_call5_v149 : Ref sig .tc := ⟨.hbm, 712, rfl⟩
abbrev main_call0_call5_c_38 : Ref sig .tc := ⟨.hbm, 713, rfl⟩
abbrev main_call0_call5_v150 : Ref sig .tc := ⟨.hbm, 714, rfl⟩
abbrev main_call0_call5_v151 : Ref sig .tc := ⟨.hbm, 715, rfl⟩
abbrev main_call0_call5_c_39 : Ref sig .tc := ⟨.hbm, 716, rfl⟩
abbrev main_call0_call5_v152 : Ref sig .tc := ⟨.hbm, 717, rfl⟩
abbrev main_call0_call5_v153 : Ref sig .tc := ⟨.hbm, 718, rfl⟩
abbrev main_call0_call5_v154 : Ref sig .tc := ⟨.hbm, 719, rfl⟩
abbrev main_call0_call5_v155 : Ref sig .tc := ⟨.hbm, 720, rfl⟩
abbrev main_call0_call5_v156 : Ref sig .tc := ⟨.hbm, 721, rfl⟩
abbrev main_call0_call5_c_40 : Ref sig .tc := ⟨.hbm, 722, rfl⟩
abbrev main_call0_call5_v157 : Ref sig .tc := ⟨.hbm, 723, rfl⟩
abbrev main_call0_call5_v158 : Ref sig .tc := ⟨.hbm, 724, rfl⟩
abbrev main_call0_call5_c_41 : Ref sig .tc := ⟨.hbm, 725, rfl⟩
abbrev main_call0_call5_v159 : Ref sig .tc := ⟨.hbm, 726, rfl⟩
abbrev main_call0_call5_v160 : Ref sig .tc := ⟨.hbm, 727, rfl⟩
abbrev main_call0_call5_v161 : Ref sig .tc := ⟨.hbm, 728, rfl⟩
abbrev main_call0_call5_v162 : Ref sig .tc := ⟨.hbm, 729, rfl⟩
abbrev main_call0_call5_v163 : Ref sig .tc := ⟨.hbm, 730, rfl⟩
abbrev main_call0_call5_c_42 : Ref sig .tc := ⟨.hbm, 731, rfl⟩
abbrev main_call0_call5_v164 : Ref sig .tc := ⟨.hbm, 732, rfl⟩
abbrev main_call0_call5_v165 : Ref sig .tc := ⟨.hbm, 733, rfl⟩
abbrev main_call0_call5_c_43 : Ref sig .tc := ⟨.hbm, 734, rfl⟩
abbrev main_call0_call5_v166 : Ref sig .tc := ⟨.hbm, 735, rfl⟩
abbrev main_call0_call5_v167 : Ref sig .tc := ⟨.hbm, 736, rfl⟩
abbrev main_call0_call5_v168 : Ref sig .tc := ⟨.hbm, 737, rfl⟩
abbrev main_call0_call5_v169 : Ref sig .tc := ⟨.hbm, 738, rfl⟩
abbrev main_call0_call5_v170 : Ref sig .tc := ⟨.hbm, 739, rfl⟩
abbrev main_call0_v37_0 : Ref sig .tc := ⟨.hbm, 740, rfl⟩
abbrev main_call0_call5_v172 : Ref sig .tc := ⟨.hbm, 741, rfl⟩
abbrev main_call0_call5_v173 : Ref sig .tc := ⟨.hbm, 742, rfl⟩
abbrev main_call0_call5_c_44 : Ref sig .tc := ⟨.hbm, 743, rfl⟩
abbrev main_call0_call5_v174 : Ref sig .tc := ⟨.hbm, 744, rfl⟩
abbrev main_call0_v37_1 : Ref sig .tc := ⟨.hbm, 745, rfl⟩
abbrev main_call0_v38 : Ref sig .tc := ⟨.hbm, 746, rfl⟩
abbrev main_call0_v39 : Ref sig .tc := ⟨.hbm, 747, rfl⟩
abbrev main_call0_v40 : Ref sig .tc := ⟨.hbm, 748, rfl⟩
abbrev main_call0_v41 : Ref sig .tc := ⟨.hbm, 749, rfl⟩
abbrev main_call0_c_10 : Ref sig .tc := ⟨.hbm, 750, rfl⟩
abbrev main_call0_v42 : Ref sig .tc := ⟨.hbm, 751, rfl⟩
abbrev main_call0_v43 : Ref sig .tc := ⟨.hbm, 752, rfl⟩
abbrev main_call0_v44 : Ref sig .tc := ⟨.hbm, 753, rfl⟩
abbrev main_call0_v45 : Ref sig .tc := ⟨.hbm, 754, rfl⟩
abbrev main_call0_v46 : Ref sig .tc := ⟨.hbm, 755, rfl⟩
abbrev main_call0_c_11 : Ref sig .tc := ⟨.hbm, 756, rfl⟩
abbrev main_call0_v47 : Ref sig .tc := ⟨.hbm, 757, rfl⟩
abbrev main_call0_v48 : Ref sig .tc := ⟨.hbm, 758, rfl⟩
abbrev main_call0_v49 : Ref sig .tc := ⟨.hbm, 759, rfl⟩
abbrev main_call0_c_12 : Ref sig .tc := ⟨.hbm, 760, rfl⟩
abbrev main_call0_v50 : Ref sig .tc := ⟨.hbm, 761, rfl⟩
abbrev main_call0_v51 : Ref sig .tc := ⟨.hbm, 762, rfl⟩
abbrev main_call0_v52 : Ref sig .tc := ⟨.hbm, 763, rfl⟩
abbrev main_call0_v53 : Ref sig .tc := ⟨.hbm, 764, rfl⟩
abbrev main_call0_v54 : Ref sig .tc := ⟨.hbm, 765, rfl⟩
abbrev main_call0_v55 : Ref sig .tc := ⟨.hbm, 766, rfl⟩
abbrev main_call0_v56 : Ref sig .tc := ⟨.hbm, 767, rfl⟩
abbrev main_call0_v57 : Ref sig .tc := ⟨.hbm, 768, rfl⟩
abbrev main_call0_v58 : Ref sig .tc := ⟨.hbm, 769, rfl⟩
abbrev main_call0_v59 : Ref sig .tc := ⟨.hbm, 770, rfl⟩
abbrev main_call0_v60 : Ref sig .tc := ⟨.hbm, 771, rfl⟩
abbrev main_call0_v61 : Ref sig .tc := ⟨.hbm, 772, rfl⟩
abbrev main_call0_v62 : Ref sig .tc := ⟨.hbm, 773, rfl⟩
abbrev main_call0_v63 : Ref sig .tc := ⟨.hbm, 774, rfl⟩
abbrev main_call0_v64 : Ref sig .tc := ⟨.hbm, 775, rfl⟩
abbrev main_v8 : Ref sig .tc := ⟨.hbm, 776, rfl⟩
abbrev main_c_4 : Ref sig .tc := ⟨.hbm, 777, rfl⟩
abbrev main_v9 : Ref sig .tc := ⟨.hbm, 778, rfl⟩
abbrev main_c_5 : Ref sig .tc := ⟨.hbm, 779, rfl⟩
abbrev main_c_6 : Ref sig .tc := ⟨.hbm, 780, rfl⟩
abbrev main_v10_0 : Ref sig .tc := ⟨.hbm, 781, rfl⟩
abbrev main_v10_1 : Ref sig .tc := ⟨.hbm, 782, rfl⟩
abbrev main_v10_2 : Ref sig .tc := ⟨.hbm, 783, rfl⟩
abbrev main_v10_3 : Ref sig .tc := ⟨.hbm, 784, rfl⟩
abbrev main_v10_4 : Ref sig .tc := ⟨.hbm, 785, rfl⟩
abbrev main_v10_5 : Ref sig .tc := ⟨.hbm, 786, rfl⟩
abbrev main_while0c_c_12 : Ref sig .tc := ⟨.hbm, 787, rfl⟩
abbrev main_while0c_v13 : Ref sig .tc := ⟨.hbm, 788, rfl⟩
abbrev main_while0b_c_12 : Ref sig .tc := ⟨.hbm, 789, rfl⟩
abbrev main_while0b_v13 : Ref sig .tc := ⟨.hbm, 790, rfl⟩
abbrev main_while0b_c_13 : Ref sig .tc := ⟨.hbm, 791, rfl⟩
abbrev main_while0b_v14 : Ref sig .tc := ⟨.hbm, 792, rfl⟩
abbrev main_while0b_c_14 : Ref sig .tc := ⟨.hbm, 793, rfl⟩
abbrev main_while0b_v15 : Ref sig .tc := ⟨.hbm, 794, rfl⟩
abbrev main_while0b_v16 : Ref sig .tc := ⟨.hbm, 795, rfl⟩
abbrev main_while0b_v17 : Ref sig .tc := ⟨.hbm, 796, rfl⟩
abbrev main_while0b_v18 : Ref sig .tc := ⟨.hbm, 797, rfl⟩
abbrev main_while0b_v19 : Ref sig .tc := ⟨.hbm, 798, rfl⟩
abbrev main_while0b_v20 : Ref sig .tc := ⟨.hbm, 799, rfl⟩
abbrev main_while0b_call1_c : Ref sig .tc := ⟨.hbm, 800, rfl⟩
abbrev main_while0b_call1_v0 : Ref sig .tc := ⟨.hbm, 801, rfl⟩
abbrev main_while0b_call1_v1 : Ref sig .tc := ⟨.hbm, 802, rfl⟩
abbrev main_while0b_call1_c_0 : Ref sig .tc := ⟨.hbm, 803, rfl⟩
abbrev main_while0b_call1_v2 : Ref sig .tc := ⟨.hbm, 804, rfl⟩
abbrev main_while0b_call1_v3 : Ref sig .tc := ⟨.hbm, 805, rfl⟩
abbrev main_while0b_call1_v4 : Ref sig .tc := ⟨.hbm, 806, rfl⟩
abbrev main_while0b_call1_c_1 : Ref sig .tc := ⟨.hbm, 807, rfl⟩
abbrev main_while0b_call1_c_2 : Ref sig .tc := ⟨.hbm, 808, rfl⟩
abbrev main_while0b_call1_v5 : Ref sig .tc := ⟨.hbm, 809, rfl⟩
abbrev main_while0b_call1_v6 : Ref sig .tc := ⟨.hbm, 810, rfl⟩
abbrev main_while0b_call1_v7 : Ref sig .tc := ⟨.hbm, 811, rfl⟩
abbrev main_while0b_call1_v8 : Ref sig .tc := ⟨.hbm, 812, rfl⟩
abbrev main_while0b_call1_v9 : Ref sig .tc := ⟨.hbm, 813, rfl⟩
abbrev main_while0b_call1_v10 : Ref sig .tc := ⟨.hbm, 814, rfl⟩
abbrev main_while0b_call1_c_3 : Ref sig .tc := ⟨.hbm, 815, rfl⟩
abbrev main_while0b_call1_v11 : Ref sig .tc := ⟨.hbm, 816, rfl⟩
abbrev main_while0b_call1_v12 : Ref sig .tc := ⟨.hbm, 817, rfl⟩
abbrev main_while0b_call1_v13 : Ref sig .tc := ⟨.hbm, 818, rfl⟩
abbrev main_while0b_call1_cst : Ref sig .tc := ⟨.hbm, 819, rfl⟩
abbrev main_while0b_call1_v14 : Ref sig .tc := ⟨.hbm, 820, rfl⟩
abbrev main_while0b_v21 : Ref sig .tc := ⟨.hbm, 821, rfl⟩
abbrev main_while0b_v22 : Ref sig .tc := ⟨.hbm, 822, rfl⟩
abbrev main_while0b_v23 : Ref sig .tc := ⟨.hbm, 823, rfl⟩
abbrev main_while0b_v24 : Ref sig .tc := ⟨.hbm, 824, rfl⟩
abbrev main_while0b_cst_15 : Ref sig .tc := ⟨.hbm, 825, rfl⟩
abbrev main_while0b_v25 : Ref sig .tc := ⟨.hbm, 826, rfl⟩
abbrev main_while0b_v26 : Ref sig .tc := ⟨.hbm, 827, rfl⟩
abbrev main_while0b_v27 : Ref sig .tc := ⟨.hbm, 828, rfl⟩
abbrev main_while0b_call3_v0 : Ref sig .tc := ⟨.hbm, 829, rfl⟩
abbrev main_while0b_call3_cst : Ref sig .tc := ⟨.hbm, 830, rfl⟩
abbrev main_while0b_call3_c : Ref sig .tc := ⟨.hbm, 831, rfl⟩
abbrev main_while0b_call3_v1_0 : Ref sig .tc := ⟨.hbm, 832, rfl⟩
abbrev main_while0b_v28 : Ref sig .tc := ⟨.hbm, 833, rfl⟩
abbrev main_while0b_c_16 : Ref sig .tc := ⟨.hbm, 834, rfl⟩
abbrev main_while0b_v29 : Ref sig .tc := ⟨.hbm, 835, rfl⟩
abbrev main_v11 : Ref sig .tc := ⟨.hbm, 836, rfl⟩
abbrev main_call4_c : Ref sig .tc := ⟨.hbm, 837, rfl⟩
abbrev main_call4_v0 : Ref sig .tc := ⟨.hbm, 838, rfl⟩
abbrev main_call4_v1 : Ref sig .tc := ⟨.hbm, 839, rfl⟩
abbrev main_call4_c_0 : Ref sig .tc := ⟨.hbm, 840, rfl⟩
abbrev main_call4_v2 : Ref sig .tc := ⟨.hbm, 841, rfl⟩
abbrev main_call4_v3 : Ref sig .tc := ⟨.hbm, 842, rfl⟩
abbrev main_call4_v4 : Ref sig .tc := ⟨.hbm, 843, rfl⟩
abbrev main_call4_c_1 : Ref sig .tc := ⟨.hbm, 844, rfl⟩
abbrev main_call4_c_2 : Ref sig .tc := ⟨.hbm, 845, rfl⟩
abbrev main_call4_v5 : Ref sig .tc := ⟨.hbm, 846, rfl⟩
abbrev main_call4_v6 : Ref sig .tc := ⟨.hbm, 847, rfl⟩
abbrev main_call4_v7 : Ref sig .tc := ⟨.hbm, 848, rfl⟩
abbrev main_call4_v8 : Ref sig .tc := ⟨.hbm, 849, rfl⟩
abbrev main_call4_v9 : Ref sig .tc := ⟨.hbm, 850, rfl⟩
abbrev main_call4_v10 : Ref sig .tc := ⟨.hbm, 851, rfl⟩
abbrev main_call4_c_3 : Ref sig .tc := ⟨.hbm, 852, rfl⟩
abbrev main_call4_v11 : Ref sig .tc := ⟨.hbm, 853, rfl⟩
abbrev main_call4_v12 : Ref sig .tc := ⟨.hbm, 854, rfl⟩
abbrev main_call4_v13 : Ref sig .tc := ⟨.hbm, 855, rfl⟩
abbrev main_call4_cst : Ref sig .tc := ⟨.hbm, 856, rfl⟩
abbrev main_call4_v14 : Ref sig .tc := ⟨.hbm, 857, rfl⟩
abbrev main_v12 : Ref sig .tc := ⟨.hbm, 858, rfl⟩

abbrev nD : Nat := 1
abbrev τ : Topo := Topo.v7x

variable {F : FTy → Type} [FloatOps F]

abbrev main_while0_count : Scf.Loop 32 := ⟨0#32, 512#32, 1#32⟩
-- ==== Proof.Owned.lean ====
module

public import Idealize.ShloMosaic.Lib.WritesUnit
public import Idealize.ShloMosaic.Lib.Memref
public import Idealize.ShloMosaic.Lib.Tactic

@[expose] public section

noncomputable section

namespace Cert.Owned

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- Contents `X` with the rectangle of sizes `size` at `off` replaced by `w`. -/
def overlay {s : Shape} {α : Type} (off size : Fin s.rank → ℕ)
    (w : ((a : Fin s.rank) → Fin (size a)) → α) (X : s.Idx → α) : s.Idx → α :=
  fun y => if h : ∀ a, off a ≤ (y a).val ∧ (y a).val < off a + size a then
    w (Rect.unitLocal (s := s) (off := off) (size := size) y h) else X y

variable {nD : Nat} {τ : Topo} {sig : RefSig} {Val : EltTy → Type}
variable {Ix : Type} [DecidableEq Ix] {Name : Type} [DecidableEq Name] {U : Type} [URA U] {Lvl : Type} [Preorder Lvl]
variable {Λ : Labels} {defs : Defs nD τ sig Val Λ} (𝒱 : Variants) (c : Thread nD τ) (bd : Option 𝒱.V) (E : Set Name)
variable {s : Shape} {e : EltTy} {α : Type} {Q : α → sProp (MT nD τ sig Ix Val Name U Lvl)}

/-- A load from an owned memref continues at its contents read through the rectangle. -/
theorem load {cs : CoreSpace} {m : Memref sig c.2.kind cs s e} {r : LoadRect s} {hl : m.view.LoadsAt r}
    {k : (r.shape.Idx → Val e) → Prog (TpuEff nD τ sig Val Λ c.2) α} {q : PosShare TreeShare} (X : s.Idx → Val e) :
    owns c m q X
      ⊢ iprop((owns c m q X -∗ wp frame (wpE defs 𝒱 c bd) E (k (fun j => X (r.idx j))) Q)
        -∗ wp frame (wpE defs 𝒱 c bd) E (.op (.load m r hl) k) Q) := by
  unfold owns
  iintro ⟨%f, %hf, H⟩ Hk
  subst hf
  iapply (wp_load 𝒱 c bd E (m := m) (m.view.setOn_subset_set r.set)) $$ H
  iintro H
  iapply Hk
  iexists f
  isplitr
  · ipureintro; rfl
  · iexact H

/-- A store of a whole unit-stride rectangle into an owned memref lays the payload over its contents. -/
theorem store {cs : CoreSpace} {m : Memref sig c.2.kind cs s e} {off size : Fin s.rank → ℕ}
    {inb : ∀ a, off a + size a ≤ s.size a} {w : (Rect.unit off size inb).shape.Idx → Val e}
    {hx : (m.access (Rect.unit off size inb)).Stores Finset.univ}
    {hm : Finset.univ = Finset.univ ∨ ∀ a, (Rect.unit off size inb).stride a = 1}
    {k : PUnit → Prog (TpuEff nD τ sig Val Λ c.2) α} (X : s.Idx → Val e) :
    owns c m fullShare X
      ⊢ iprop((owns c m fullShare (overlay off size w X) -∗ wp frame (wpE defs 𝒱 c bd) E (k ⟨⟩) Q)
        -∗ wp frame (wpE defs 𝒱 c bd) E (.op (.store m (Rect.unit off size inb) w Finset.univ hx hm) k) Q) := by
  unfold owns
  iintro ⟨%f, %hf, H⟩ Hk
  subst hf
  iapply (wp_store_writes₀ 𝒱 c bd E (m := m) (r := Rect.unit off size inb) (w := w) (m.view.set_slice_subset (Rect.unit off size inb))) $$ H
  iintro H
  iapply Hk
  iexists _
  isplitr
  · ipureintro
    rotate_right
    · exact m.view.writes Val f [⟨Rect.unit off size inb, w⟩]
    funext y
    exact View.read_writes_cons_unit m.view f inb w [] y rfl
  · iexact H

end Cert.Owned
-- ==== Proof.KNice.lean ====
module

public import proofs.«01_k».proof.Proof.Gen.KernelIdeal.Skeleton

@[expose] public section

set_option maxRecDepth 65536

noncomputable section

namespace Cert.KernelIdeal.Gen

open Idealize.ShloMosaic Idealize.SL.Sem

variable {F : FTy → Type} [FloatOps F]

/-- A slice read as a vector of its own shape. -/
def cst (x : FVec F S8x128 .f32) : FVec F S8x128 .f32 := shapeCast S8x128 x shapeCasts_S8x128_S8x128

/-- The new distance of a slice: the squared distance to the current point, lowered by the old one. -/
def ndist (cx cy cz x y z d : FVec F S8x128 .f32) : FVec F S8x128 .f32 :=
  minimumf (addf (addf (mulf (subf x cx) (subf x cx)) (mulf (subf y cy) (subf y cy)))
    (mulf (subf z cz) (subf z cz))) d

theorem inb_slice (v : ℕ) (hv : v < 128) :
    ∀ a, (![0, 128 * v] : Fin 2 → Nat) a + S8x128.size a ≤ S8x16384.size a := by
  intro a
  fin_cases a
  · show 0 + 8 ≤ 8
    omega
  · show 128 * v + 128 ≤ 16384
    omega

/-- Columns `128 v … 128 v + 127` of an array of 16384 columns. -/
abbrev sliceRect (v : ℕ) (hv : v < 128) :=
  Rect.unit (s := S8x16384) ![0, 128 * v] S8x128.size (inb_slice v hv)

/-- One slice: its coordinates and numbers read, its distances lowered and stored; then `K`. -/
def sliceK (arg0 arg1 arg2 arg3 arg11 : Memref sig .tc .vmem S8x16384 .f32)
    (cx cy cz : FVec F S8x128 .f32) (v : ℕ) (hv : v < 128) {β : Type}
    (K : FVec F S8x128 .f32 → FVec F S8x128 .f32 → FVec F S8x128 .f32 → FVec F S8x128 .f32 → FVec F S8x128 .f32 → Prog (TpuEff nD τ sig (Elt F) Λ₀ .tc) β) : Prog (TpuEff nD τ sig (Elt F) Λ₀ .tc) β := do
  let x : Vec F S8x128 .f32 ← Prog.lift (.load arg0 (sliceRect v hv).toLoadRect (View.loadsAt_vmem h_S8x128))
  let y : Vec F S8x128 .f32 ← Prog.lift (.load arg1 (sliceRect v hv).toLoadRect (View.loadsAt_vmem h_S8x128))
  let z : Vec F S8x128 .f32 ← Prog.lift (.load arg2 (sliceRect v hv).toLoadRect (View.loadsAt_vmem h_S8x128))
  let i : Vec F S8x128 .f32 ← Prog.lift (.load arg3 (sliceRect v hv).toLoadRect (View.loadsAt_vmem h_S8x128))
  let d : Vec F S8x128 .f32 ← Prog.lift (.load arg11 (sliceRect v hv).toLoadRect (View.loadsAt_vmem h_S8x128))
  let _d : Vec F S8x128 .f32 ← Prog.lift (.load arg11 (sliceRect v hv).toLoadRect (View.loadsAt_vmem h_S8x128))
  Prog.lift (.store arg11 (sliceRect v hv) (cst (ndist cx cy cz (cst x) (cst y) (cst z) d))
    Finset.univ (View.stores_vmem_bits_univ h_S8x128 rfl) (.inl rfl))
  K (ndist cx cy cz (cst x) (cst y) (cst z) d) (cst i) (cst x) (cst y) (cst z)

/-- The slices from number `126 - 2 r'` on, two by two, each pair feeding the two running bests. -/
def pairsK (arg0 arg1 arg2 arg3 arg11 : Memref sig .tc .vmem S8x16384 .f32)
    (cx cy cz : FVec F S8x128 .f32) {β : Type} : (r : ℕ) → (a1 a2 a3 a4 a5 b1 b2 b3 b4 b5 : FVec F S8x128 .f32) →
    (K : FVec F S8x128 .f32 → FVec F S8x128 .f32 → FVec F S8x128 .f32 → FVec F S8x128 .f32 → FVec F S8x128 .f32 → FVec F S8x128 .f32 → FVec F S8x128 .f32 → FVec F S8x128 .f32 → FVec F S8x128 .f32 → FVec F S8x128 .f32 → Prog (TpuEff nD τ sig (Elt F) Λ₀ .tc) β) → Prog (TpuEff nD τ sig (Elt F) Λ₀ .tc) β
  | 0, a1, a2, a3, a4, a5, b1, b2, b3, b4, b5, K => K a1 a2 a3 a4 a5 b1 b2 b3 b4 b5
  | r + 1, a1, a2, a3, a4, a5, b1, b2, b3, b4, b5, K =>
    sliceK arg0 arg1 arg2 arg3 arg11 cx cy cz (126 - 2 * r) (by omega) fun d i x y z =>
    sliceK arg0 arg1 arg2 arg3 arg11 cx cy cz (126 - 2 * r + 1) (by omega) fun d' i' x' y' z' =>
    pairsK arg0 arg1 arg2 arg3 arg11 cx cy cz r
      (select (cmpf .ogt d a1) d a1) (select (cmpf .ogt d a1) i a2) (select (cmpf .ogt d a1) x a3)
      (select (cmpf .ogt d a1) y a4) (select (cmpf .ogt d a1) z a5)
      (select (cmpf .ogt d' b1) d' b1) (select (cmpf .ogt d' b1) i' b2)
      (select (cmpf .ogt d' b1) x' b3) (select (cmpf .ogt d' b1) y' b4)
      (select (cmpf .ogt d' b1) z' b5) K

/-- The four output rows of trip `k`: the chosen number and its coordinates, each turned into a row; then `K`. -/
def rowsK (arg7 arg8 arg9 arg10 : Memref sig .tc .vmem S512x8 .f32) (k : Fin k0_t1_loop.trips)
    (far cx cy cz : FVec F S8x128 .f32) {β : Type}
    (K : Prog (TpuEff nD τ sig (Elt F) Λ₀ .tc) β) : Prog (TpuEff nD τ sig (Elt F) Λ₀ .tc) β := do
  let _o : Vec F S1x8 .f32 ← Prog.lift (.load arg7 (Rect.unit (s := S512x8) (k0_off1 k) S1x8.size (k0_off1_inb k)).toLoadRect (View.loadsAt_vmem h_S1x8))
  Prog.lift (.store arg7 (Rect.unit (s := S512x8) (k0_off1 k) S1x8.size (k0_off1_inb k)) (k0_pay8 far) Finset.univ (View.stores_vmem_bits_univ h_S1x8 rfl) (.inl rfl))
  let _o : Vec F S1x8 .f32 ← Prog.lift (.load arg8 (Rect.unit (s := S512x8) (k0_off1 k) S1x8.size (k0_off1_inb k)).toLoadRect (View.loadsAt_vmem h_S1x8))
  Prog.lift (.store arg8 (Rect.unit (s := S512x8) (k0_off1 k) S1x8.size (k0_off1_inb k)) (k0_pay8 cx) Finset.univ (View.stores_vmem_bits_univ h_S1x8 rfl) (.inl rfl))
  let _o : Vec F S1x8 .f32 ← Prog.lift (.load arg9 (Rect.unit (s := S512x8) (k0_off1 k) S1x8.size (k0_off1_inb k)).toLoadRect (View.loadsAt_vmem h_S1x8))
  Prog.lift (.store arg9 (Rect.unit (s := S512x8) (k0_off1 k) S1x8.size (k0_off1_inb k)) (k0_pay8 cy) Finset.univ (View.stores_vmem_bits_univ h_S1x8 rfl) (.inl rfl))
  let _o : Vec F S1x8 .f32 ← Prog.lift (.load arg10 (Rect.unit (s := S512x8) (k0_off1 k) S1x8.size (k0_off1_inb k)).toLoadRect (View.loadsAt_vmem h_S1x8))
  Prog.lift (.store arg10 (Rect.unit (s := S512x8) (k0_off1 k) S1x8.size (k0_off1_inb k)) (k0_pay8 cz) Finset.univ (View.stores_vmem_bits_univ h_S1x8 rfl) (.inl rfl))
  K

/-- Where the second running best beats the first: larger, or equal with the smaller number. -/
def beats (a1 a2 b1 b2 : FVec F S8x128 .f32) : IVec S8x128 1 :=
  ori (cmpf .ogt b1 a1) (andi (cmpf .oeq b1 a1) (cmpf .olt b2 a2))

/-- The largest value of each row. -/
def rowMax (v : FVec F S8x128 .f32) : FVec F S8x1 .f32 :=
  shapeCast S8x1 (multiReduction .maximumf [1] S8 v 0xFF800000#32 reduces_S8x128_S8 (.inl rfl) rfl) shapeCasts_S8_S8x1

/-- The first lane of each row at the row's largest value. -/
def firstLane (v : FVec F S8x128 .f32) (tri : Vec F S128x128 .f32) : IVec S8x128 1 :=
  andi (cmpf .oeq v (broadcastTo S8x128 (rowMax v) broadcasts_S8x1_S8x128))
    (cmpf .oeq
      (matmul dot_S8x128_S128x128_S8x128_1_0_0_1_n_n none
        (sitofp .f32 (extui 32 (cmpf .oeq v (broadcastTo S8x128 (rowMax v) broadcasts_S8x1_S8x128)) natLt_1_32))
        (shapeCast S128x128 tri shapeCasts_S128x128_S128x128) (constant S8x128 .f32 0x00000000#32))
      (broadcast S8x128 (Scalar.ofBits .f32 0x3F800000#32)))

/-- The value of `v` at the marked lane of each row, over the whole row; unmarked lanes count as the word `w`. -/
def pick (f : IVec S8x128 1) (w : BitVec 32) (v : FVec F S8x128 .f32) : FVec F S8x128 .f32 :=
  broadcastTo S8x128 (shapeCast S8x1 (rowMax (select f v (broadcast S8x128 (Scalar.ofBits .f32 w)))) shapeCasts_S8x1_S8x1) broadcasts_S8x1_S8x128

/-- What a trip yields from the two running bests and the matrix of ones above the diagonal. -/
def chosen (a1 a2 a3 a4 a5 b1 b2 b3 b4 b5 : FVec F S8x128 .f32) (tri : Vec F S128x128 .f32) :
    FVec F S8x128 .f32 × FVec F S8x128 .f32 × FVec F S8x128 .f32 × FVec F S8x128 .f32 :=
  (pick (firstLane (select (beats a1 a2 b1 b2) b1 a1) tri) 0xBF800000#32 (select (beats a1 a2 b1 b2) b2 a2),
   pick (firstLane (select (beats a1 a2 b1 b2) b1 a1) tri) 0xFF800000#32 (select (beats a1 a2 b1 b2) b3 a3),
   pick (firstLane (select (beats a1 a2 b1 b2) b1 a1) tri) 0xFF800000#32 (select (beats a1 a2 b1 b2) b4 a4),
   pick (firstLane (select (beats a1 a2 b1 b2) b1 a1) tri) 0xFF800000#32 (select (beats a1 a2 b1 b2) b5 a5))

/-- One trip of the kernel's loop: the output rows, the first two slices, the other sixty-three pairs, the choice. -/
def tripK (arg0 arg1 arg2 arg3 : Memref sig .tc .vmem S8x16384 .f32) (arg4 : Memref sig .tc .vmem S128x128 .f32)
    (arg7 arg8 arg9 arg10 : Memref sig .tc .vmem S512x8 .f32) (arg11 : Memref sig .tc .vmem S8x16384 .f32)
    (k : Fin k0_t1_loop.trips) (far cx cy cz : FVec F S8x128 .f32) :
    Prog (TpuEff nD τ sig (Elt F) Λ₀ .tc) (FVec F S8x128 .f32 × FVec F S8x128 .f32 × FVec F S8x128 .f32 × FVec F S8x128 .f32) :=
  rowsK arg7 arg8 arg9 arg10 k far cx cy cz <|
  sliceK arg0 arg1 arg2 arg3 arg11 cx cy cz 0 (by omega) fun a1 a2 a3 a4 a5 =>
  sliceK arg0 arg1 arg2 arg3 arg11 cx cy cz 1 (by omega) fun b1 b2 b3 b4 b5 =>
  pairsK arg0 arg1 arg2 arg3 arg11 cx cy cz 63 a1 a2 a3 a4 a5 b1 b2 b3 b4 b5
    fun a1 a2 a3 a4 a5 b1 b2 b3 b4 b5 => do
      let tri : Vec F S128x128 .f32 ← Prog.lift (.load arg4 (Rect.unit (s := S128x128) ![0, 0] S128x128.size inb_S128x128_S128x128_0_0).toLoadRect (View.loadsAt_vmem h_S128x128))
      pure (chosen a1 a2 a3 a4 a5 b1 b2 b3 b4 b5 tri)

set_option maxRecDepth 1000000 in
theorem body_eq (arg0 : Memref sig .tc .vmem S8x16384 .f32) (harg0 : arg0.IsWhole) (arg1 : Memref sig .tc .vmem S8x16384 .f32) (harg1 : arg1.IsWhole) (arg2 : Memref sig .tc .vmem S8x16384 .f32) (harg2 : arg2.IsWhole) (arg3 : Memref sig .tc .vmem S8x16384 .f32) (harg3 : arg3.IsWhole) (arg4 : Memref sig .tc .vmem S128x128 .f32) (harg4 : arg4.IsWhole) (arg5 : Memref sig .tc .vmem S8x1 .f32) (harg5 : arg5.IsWhole) (arg6 : Memref sig .tc .vmem S8x3 .f32) (harg6 : arg6.IsWhole) (arg7 : Memref sig .tc .vmem S512x8 .f32) (harg7 : arg7.IsWhole) (arg8 : Memref sig .tc .vmem S512x8 .f32) (harg8 : arg8.IsWhole) (arg9 : Memref sig .tc .vmem S512x8 .f32) (harg9 : arg9.IsWhole) (arg10 : Memref sig .tc .vmem S512x8 .f32) (harg10 : arg10.IsWhole) (arg11 : Memref sig .tc .vmem S8x16384 .f32) (harg11 : arg11.IsWhole) (k : Fin k0_t1_loop.trips) (far cx cy cz : FVec F S8x128 .f32) :
    k0_t1_body (F := F) arg0 harg0 arg1 harg1 arg2 harg2 arg3 harg3 arg4 harg4 arg5 harg5 arg6 harg6 arg7 harg7 arg8 harg8 arg9 harg9 arg10 harg10 arg11 harg11 k (far, cx, cy, cz) = tripK arg0 arg1 arg2 arg3 arg4 arg7 arg8 arg9 arg10 arg11 k far cx cy cz := rfl

end Cert.KernelIdeal.Gen
-- ==== Proof.KRun.lean ====
module

public import proofs.«01_k».proof.Proof.KNice
public import proofs.«01_k».proof.Proof.Gen.KernelIdeal.Frame
public import proofs.«01_k».proof.Proof.Owned

@[expose] public section

set_option maxRecDepth 65536

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Owned (overlay)

variable {F : FTy → Type} [FloatOps F]

local notation "𝕄" => MT nD τ sig Unit (Elt F) ℕ (UR sig nD τ) ℕ

/-- Columns `128 v … 128 v + 127` of the array `X`. -/
def cols (v : ℕ) (hv : v < 128) (X : FVec F S8x16384 .f32) : FVec F S8x128 .f32 :=
  fun j => X ((sliceRect v hv).toLoadRect.idx j)

/-- The columns of slice `v` replaced by `w`. -/
def putCols (v : ℕ) (w : FVec F S8x128 .f32) (X : FVec F S8x16384 .f32) : FVec F S8x16384 .f32 :=
  overlay (s := S8x16384) ![0, 128 * v] S8x128.size w X

/-- The coordinates and numbers of all points, by column. -/
structure Pts (F : FTy → Type) [FloatOps F] where
  x : FVec F S8x16384 .f32
  y : FVec F S8x16384 .f32
  z : FVec F S8x16384 .f32
  i : FVec F S8x16384 .f32

/-- The centroid of each row, the same in every lane. -/
structure Ctr (F : FTy → Type) [FloatOps F] where
  x : FVec F S8x128 .f32
  y : FVec F S8x128 .f32
  z : FVec F S8x128 .f32

/-- A running best of each lane: distance, number, coordinates. -/
structure Best (F : FTy → Type) [FloatOps F] where
  d : FVec F S8x128 .f32
  i : FVec F S8x128 .f32
  x : FVec F S8x128 .f32
  y : FVec F S8x128 .f32
  z : FVec F S8x128 .f32

/-- Slice `v` as a candidate: its new distances, its numbers and coordinates. -/
def cand (P : Pts F) (C : Ctr F) (D : FVec F S8x16384 .f32) (v : ℕ) (hv : v < 128) : Best F where
  d := ndist C.x C.y C.z (cst (cols v hv P.x)) (cst (cols v hv P.y)) (cst (cols v hv P.z)) (cols v hv D)
  i := cst (cols v hv P.i)
  x := cst (cols v hv P.x)
  y := cst (cols v hv P.y)
  z := cst (cols v hv P.z)

/-- The distances after slice `v` stored its own. -/
def after (P : Pts F) (C : Ctr F) (D : FVec F S8x16384 .f32) (v : ℕ) (hv : v < 128) : FVec F S8x16384 .f32 :=
  putCols v (cst (cand P C D v hv).d) D

/-- The running best `a` updated by the candidate `n`, lane by lane where the candidate is farther. -/
def better (n a : Best F) : Best F where
  d := select (cmpf .ogt n.d a.d) n.d a.d
  i := select (cmpf .ogt n.d a.d) n.i a.i
  x := select (cmpf .ogt n.d a.d) n.x a.x
  y := select (cmpf .ogt n.d a.d) n.y a.y
  z := select (cmpf .ogt n.d a.d) n.z a.z

/-- The last `r` pairs of slices: distances and the two running bests after them. -/
def pairsV (P : Pts F) (C : Ctr F) : ℕ → FVec F S8x16384 .f32 → Best F → Best F → FVec F S8x16384 .f32 × Best F × Best F
  | 0, D, A, B => (D, A, B)
  | r + 1, D, A, B =>
    pairsV P C r (after P C (after P C D (126 - 2 * r) (by omega)) (126 - 2 * r + 1) (by omega))
      (better (cand P C D (126 - 2 * r) (by omega)) A)
      (better (cand P C (after P C D (126 - 2 * r) (by omega)) (126 - 2 * r + 1) (by omega)) B)

section Triples

variable (c : Dev nD) (E : Set ℕ)
  (arg0 arg1 arg2 arg3 : Memref sig .tc .vmem S8x16384 .f32) (arg4 : Memref sig .tc .vmem S128x128 .f32)
  (arg7 arg8 arg9 arg10 : Memref sig .tc .vmem S512x8 .f32) (arg11 : Memref sig .tc .vmem S8x16384 .f32)

/-- The points and the distances, held in their buffers. -/
def held (P : Pts F) (D : FVec F S8x16384 .f32) : sProp 𝕄 :=
  iprop(owns (c : Thread nD τ) arg0 fullShare P.x ∗ owns (c : Thread nD τ) arg1 fullShare P.y
    ∗ owns (c : Thread nD τ) arg2 fullShare P.z ∗ owns (c : Thread nD τ) arg3 fullShare P.i
    ∗ owns (c : Thread nD τ) arg11 fullShare D)

/-- The four output buffers at given contents. -/
def outs (O : FVec F S512x8 .f32 × FVec F S512x8 .f32 × FVec F S512x8 .f32 × FVec F S512x8 .f32) : sProp 𝕄 :=
  iprop(owns (c : Thread nD τ) arg7 fullShare O.1 ∗ owns (c : Thread nD τ) arg8 fullShare O.2.1
    ∗ owns (c : Thread nD τ) arg9 fullShare O.2.2.1 ∗ owns (c : Thread nD τ) arg10 fullShare O.2.2.2)

/-- A slice's code continues at its candidate, its new distances stored. -/
theorem sliceK_wp (P : Pts F) (C : Ctr F) (D : FVec F S8x16384 .f32) (v : ℕ) (hv : v < 128) {β : Type}
    (K : FVec F S8x128 .f32 → FVec F S8x128 .f32 → FVec F S8x128 .f32 → FVec F S8x128 .f32 → FVec F S8x128 .f32 → Prog (TpuEff nD τ sig (Elt F) Λ₀ .tc) β)
    (Q : β → sProp 𝕄) :
    held c arg0 arg1 arg2 arg3 arg11 P D
      ⊢ iprop((held c arg0 arg1 arg2 arg3 arg11 P (after P C D v hv) -∗
          wp frame (wpE (defs₀ (F := F)) Variants.none (c : Thread nD τ) none) E
            (K (cand P C D v hv).d (cand P C D v hv).i (cand P C D v hv).x (cand P C D v hv).y (cand P C D v hv).z) Q)
        -∗ wp frame (wpE (defs₀ (F := F)) Variants.none (c : Thread nD τ) none) E
            (sliceK arg0 arg1 arg2 arg3 arg11 C.x C.y C.z v hv K) Q) := by
  unfold held sliceK
  iintro ⟨H0, H1, H2, H3, HD⟩ Hk
  iapply (Cert.Owned.load Variants.none (c : Thread nD τ) none E (m := arg0) P.x) $$ H0; iintro H0
  iapply (Cert.Owned.load Variants.none (c : Thread nD τ) none E (m := arg1) P.y) $$ H1; iintro H1
  iapply (Cert.Owned.load Variants.none (c : Thread nD τ) none E (m := arg2) P.z) $$ H2; iintro H2
  iapply (Cert.Owned.load Variants.none (c : Thread nD τ) none E (m := arg3) P.i) $$ H3; iintro H3
  iapply (Cert.Owned.load Variants.none (c : Thread nD τ) none E (m := arg11) D) $$ HD; iintro HD
  iapply (Cert.Owned.load Variants.none (c : Thread nD τ) none E (m := arg11) D) $$ HD; iintro HD
  iapply (Cert.Owned.store Variants.none (c : Thread nD τ) none E (m := arg11) D) $$ HD; iintro HD
  iapply Hk
  isplitl [H0]; · iexact H0
  isplitl [H1]; · iexact H1
  isplitl [H2]; · iexact H2
  isplitl [H3]; · iexact H3
  iexact HD

/-- The pairs' code continues at the running bests `pairsV` names. -/
theorem pairsK_wp (P : Pts F) (C : Ctr F) {β : Type} (Q : β → sProp 𝕄)
    (K : FVec F S8x128 .f32 → FVec F S8x128 .f32 → FVec F S8x128 .f32 → FVec F S8x128 .f32 → FVec F S8x128 .f32 → FVec F S8x128 .f32 → FVec F S8x128 .f32 → FVec F S8x128 .f32 → FVec F S8x128 .f32 → FVec F S8x128 .f32 → Prog (TpuEff nD τ sig (Elt F) Λ₀ .tc) β) :
    ∀ (r : ℕ) (D : FVec F S8x16384 .f32) (A B : Best F),
    held c arg0 arg1 arg2 arg3 arg11 P D
      ⊢ iprop((held c arg0 arg1 arg2 arg3 arg11 P (pairsV P C r D A B).1 -∗
          wp frame (wpE (defs₀ (F := F)) Variants.none (c : Thread nD τ) none) E
            (K (pairsV P C r D A B).2.1.d (pairsV P C r D A B).2.1.i (pairsV P C r D A B).2.1.x (pairsV P C r D A B).2.1.y (pairsV P C r D A B).2.1.z
              (pairsV P C r D A B).2.2.d (pairsV P C r D A B).2.2.i (pairsV P C r D A B).2.2.x (pairsV P C r D A B).2.2.y (pairsV P C r D A B).2.2.z) Q)
        -∗ wp frame (wpE (defs₀ (F := F)) Variants.none (c : Thread nD τ) none) E
            (pairsK arg0 arg1 arg2 arg3 arg11 C.x C.y C.z r A.d A.i A.x A.y A.z B.d B.i B.x B.y B.z K) Q)
  | 0, D, A, B => by
    iintro H Hk
    iapply Hk
    iexact H
  | r + 1, D, A, B => by
    unfold pairsK
    iintro H Hk
    iapply (sliceK_wp c E arg0 arg1 arg2 arg3 arg11 P C D (126 - 2 * r) _) $$ H; iintro H
    iapply (sliceK_wp c E arg0 arg1 arg2 arg3 arg11 P C _ (126 - 2 * r + 1) _) $$ H; iintro H
    iapply (pairsK_wp P C Q K r _ (better (cand P C D (126 - 2 * r) (by omega)) A)
      (better (cand P C (after P C D (126 - 2 * r) (by omega)) (126 - 2 * r + 1) (by omega)) B)) $$ H
    iexact Hk

/-- Row `k` of an output replaced by the row made of `v`. -/
def putRow (k : Fin k0_t1_loop.trips) (v : FVec F S8x128 .f32) (O : FVec F S512x8 .f32) : FVec F S512x8 .f32 :=
  overlay (s := S512x8) (k0_off1 k) S1x8.size (k0_pay8 v) O

/-- The rows' code continues with row `k` of each output stored. -/
theorem rowsK_wp (k : Fin k0_t1_loop.trips) (far : FVec F S8x128 .f32) (C : Ctr F) {β : Type}
    (K : Prog (TpuEff nD τ sig (Elt F) Λ₀ .tc) β) (Q : β → sProp 𝕄)
    (O : FVec F S512x8 .f32 × FVec F S512x8 .f32 × FVec F S512x8 .f32 × FVec F S512x8 .f32) :
    outs c arg7 arg8 arg9 arg10 O
      ⊢ iprop((outs c arg7 arg8 arg9 arg10 (putRow k far O.1, putRow k C.x O.2.1, putRow k C.y O.2.2.1, putRow k C.z O.2.2.2) -∗
          wp frame (wpE (defs₀ (F := F)) Variants.none (c : Thread nD τ) none) E K Q)
        -∗ wp frame (wpE (defs₀ (F := F)) Variants.none (c : Thread nD τ) none) E
            (rowsK arg7 arg8 arg9 arg10 k far C.x C.y C.z K) Q) := by
  unfold outs rowsK
  iintro ⟨H7, H8, H9, H10⟩ Hk
  iapply (Cert.Owned.load Variants.none (c : Thread nD τ) none E (m := arg7) O.1) $$ H7; iintro H7
  iapply (Cert.Owned.store Variants.none (c : Thread nD τ) none E (m := arg7) O.1) $$ H7; iintro H7
  iapply (Cert.Owned.load Variants.none (c : Thread nD τ) none E (m := arg8) O.2.1) $$ H8; iintro H8
  iapply (Cert.Owned.store Variants.none (c : Thread nD τ) none E (m := arg8) O.2.1) $$ H8; iintro H8
  iapply (Cert.Owned.load Variants.none (c : Thread nD τ) none E (m := arg9) O.2.2.1) $$ H9; iintro H9
  iapply (Cert.Owned.store Variants.none (c : Thread nD τ) none E (m := arg9) O.2.2.1) $$ H9; iintro H9
  iapply (Cert.Owned.load Variants.none (c : Thread nD τ) none E (m := arg10) O.2.2.2) $$ H10; iintro H10
  iapply (Cert.Owned.store Variants.none (c : Thread nD τ) none E (m := arg10) O.2.2.2) $$ H10; iintro H10
  iapply Hk
  isplitl [H7]; · iexact H7
  isplitl [H8]; · iexact H8
  isplitl [H9]; · iexact H9
  iexact H10

/-- What one trip carries: the chosen number and its coordinates, and the distances. -/
structure Carry (F : FTy → Type) [FloatOps F] where
  far : FVec F S8x128 .f32
  ctr : Ctr F
  D : FVec F S8x16384 .f32

/-- All the slices of one trip, from the distances `D`. -/
def sweep (P : Pts F) (C : Ctr F) (D : FVec F S8x16384 .f32) : FVec F S8x16384 .f32 × Best F × Best F :=
  pairsV P C 63 (after P C (after P C D 0 (by omega)) 1 (by omega)) (cand P C D 0 (by omega))
    (cand P C (after P C D 0 (by omega)) 1 (by omega))

/-- What the choice yields from the two running bests. -/
def choose (A B : Best F) (tri : FVec F S128x128 .f32) :=
  chosen A.d A.i A.x A.y A.z B.d B.i B.x B.y B.z tri

/-- One trip on what is carried. -/
def stepV (P : Pts F) (tri : FVec F S128x128 .f32) (S : Carry F) : Carry F where
  far := (choose (sweep P S.ctr S.D).2.1 (sweep P S.ctr S.D).2.2 tri).1
  ctr := ⟨(choose (sweep P S.ctr S.D).2.1 (sweep P S.ctr S.D).2.2 tri).2.1,
    (choose (sweep P S.ctr S.D).2.1 (sweep P S.ctr S.D).2.2 tri).2.2.1,
    (choose (sweep P S.ctr S.D).2.1 (sweep P S.ctr S.D).2.2 tri).2.2.2⟩
  D := (sweep P S.ctr S.D).1

/-- What the loop carries in its vectors. -/
def Carry.vecs (S : Carry F) : FVec F S8x128 .f32 × FVec F S8x128 .f32 × FVec F S8x128 .f32 × FVec F S8x128 .f32 :=
  (S.far, S.ctr.x, S.ctr.y, S.ctr.z)

/-- The whole of the unit rectangle at zero reads the array itself. -/
theorem read_full (T : FVec F S128x128 .f32) :
    (fun j => T ((Rect.unit (s := S128x128) ![0, 0] S128x128.size inb_S128x128_S128x128_0_0).toLoadRect.idx j)) = T := by
  funext j
  congr 1
  funext a
  refine Fin.ext ?_
  fin_cases a
  · show 0 + 1 * (j 0).val = (j 0).val
    omega
  · show 0 + 1 * (j 1).val = (j 1).val
    omega

/-- The choice from the sweep's two running bests is what the next trip carries. -/
theorem chosen_eq (P : Pts F) (T : FVec F S128x128 .f32) (S : Carry F) (W : FVec F S8x16384 .f32 × Best F × Best F)
    (hW : W = sweep P S.ctr S.D) :
    chosen W.2.1.d W.2.1.i W.2.1.x W.2.1.y W.2.1.z W.2.2.d W.2.2.i W.2.2.x W.2.2.y W.2.2.z T = (stepV P T S).vecs := by
  subst hW
  rfl

/-- A returned value continues. -/
theorem ret_then {E : Type → Type} {α β : Type} (a : α) (k : α → Prog E β) : (Prog.ret a).bind k = k a := rfl

/-- Trip `k`'s code takes the buffers and the carried vectors to the next ones, its output rows stored. -/
theorem tripK_wp (P : Pts F) (T : FVec F S128x128 .f32) (S : Carry F) (k : Fin k0_t1_loop.trips)
    (O : FVec F S512x8 .f32 × FVec F S512x8 .f32 × FVec F S512x8 .f32 × FVec F S512x8 .f32)
    (Q : FVec F S8x128 .f32 × FVec F S8x128 .f32 × FVec F S8x128 .f32 × FVec F S8x128 .f32 → sProp 𝕄) :
    iprop(held c arg0 arg1 arg2 arg3 arg11 P S.D ∗ owns (c : Thread nD τ) arg4 fullShare T ∗ outs c arg7 arg8 arg9 arg10 O)
      ⊢ iprop((iprop(held c arg0 arg1 arg2 arg3 arg11 P (stepV P T S).D ∗ owns (c : Thread nD τ) arg4 fullShare T
            ∗ outs c arg7 arg8 arg9 arg10 (putRow k S.far O.1, putRow k S.ctr.x O.2.1, putRow k S.ctr.y O.2.2.1, putRow k S.ctr.z O.2.2.2))
          -∗ Q (stepV P T S).vecs)
        -∗ wp frame (wpE (defs₀ (F := F)) Variants.none (c : Thread nD τ) none) E
            (tripK arg0 arg1 arg2 arg3 arg4 arg7 arg8 arg9 arg10 arg11 k S.far S.ctr.x S.ctr.y S.ctr.z) Q) := by
  unfold tripK
  iintro ⟨H, H4, HO⟩ Hk
  iapply (rowsK_wp c E arg7 arg8 arg9 arg10 k S.far S.ctr) $$ HO; iintro HO
  iapply (sliceK_wp c E arg0 arg1 arg2 arg3 arg11 P S.ctr S.D 0 _) $$ H; iintro H
  iapply (sliceK_wp c E arg0 arg1 arg2 arg3 arg11 P S.ctr _ 1 _) $$ H; iintro H
  iapply (pairsK_wp c E arg0 arg1 arg2 arg3 arg11 P S.ctr Q _ 63 _ (cand P S.ctr S.D 0 _)
    (cand P S.ctr (after P S.ctr S.D 0 _) 1 _)) $$ H; iintro H
  iapply (Cert.Owned.load Variants.none (c : Thread nD τ) none E (m := arg4) T) $$ H4; iintro H4
  rw [read_full]
  rw [ret_then, chosen_eq P T S (pairsV P S.ctr 63 _ _ _) rfl]
  sl_step
  iapply Hk
  isplitl [H]; · iexact H
  isplitl [H4]; · iexact H4
  iexact HO

end Triples

end Cert.KernelIdeal.Gen
-- ==== Proof.KBody.lean ====
module

public import proofs.«01_k».proof.Proof.KRun
public import Idealize.ShloMosaic.Lib.Pointwise.Index

@[expose] public section

set_option maxRecDepth 65536

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Owned (overlay)

variable {F : FTy → Type} [FloatOps F]

local notation "𝕄" => MT nD τ sig Unit (Elt F) ℕ (UR sig nD τ) ℕ

/-- What is carried into trip `k`. -/
def carryAt (P : Pts F) (T : FVec F S128x128 .f32) (S : Carry F) : ℕ → Carry F
  | 0 => S
  | k + 1 => stepV P T (carryAt P T S k)

/-- What is carried into the first trip: the first number and centroid over the lanes, the first distances. -/
def startV (x5 : FVec F S8x1 .f32) (x6 : FVec F S8x3 .f32) : Carry F where
  far := k0_pay2 (fun j => x5 ((Rect.unit (s := S8x1) ![0, 0] S8x1.size inb_S8x1_S8x1_0_0).toLoadRect.idx j))
  ctr := ⟨k0_pay3 (fun j => x6 ((Rect.unit (s := S8x3) ![0, 0] S8x1.size inb_S8x3_S8x1_0_0).toLoadRect.idx j)),
    k0_pay4 (fun j => x6 ((Rect.unit (s := S8x3) ![0, 1] S8x1.size inb_S8x3_S8x1_0_1).toLoadRect.idx j)),
    k0_pay5 (fun j => x6 ((Rect.unit (s := S8x3) ![0, 2] S8x1.size inb_S8x3_S8x1_0_2).toLoadRect.idx j))⟩
  D := k0_pay1

/-- The output whose row `k` is the row made of `g k`. -/
def rowsV (g : ℕ → FVec F S8x128 .f32) : FVec F S512x8 .f32 :=
  fun y => k0_pay8 (g (y 0).val) (ix2 (n0 := 1) (n1 := 8) 0 (y 1))

theorem trips_eq : k0_t1_loop.trips = 512 := by decide

/-- Trip `k` stores row `k`. -/
theorem off1_eq (k : Fin k0_t1_loop.trips) : k0_off1 k = ![k.val, 0] := by
  have hk : k.val < 512 := trips_eq ▸ k.isLt
  unfold k0_off1
  dsimp only
  congr 1
  rw [Scf.iv_eq_ofInt]
  simp [Scalar.indexCast]
  omega

/-- Storing row `k` extends the rows already at their final contents. -/
theorem putRow_rows (g : ℕ → FVec F S8x128 .f32) (k : Fin k0_t1_loop.trips) (O : FVec F S512x8 .f32)
    (hO : ∀ y : S512x8.Idx, (y 0).val < k.val → O y = rowsV g y) :
    ∀ y : S512x8.Idx, (y 0).val < k.val + 1 → putRow k (g k.val) O y = rowsV g y := by
  intro y hy
  unfold putRow overlay
  split
  · next h =>
    have h0 : (y 0).val = k.val := by
      have := h 0
      rw [off1_eq k] at this
      have h1 : k.val ≤ (y 0).val := this.1
      omega
    unfold rowsV
    rw [h0]
    congr 1
    funext a
    refine Fin.ext ?_
    rw [Rect.unitLocal_val, off1_eq k]
    fin_cases a
    · show (y 0).val - k.val = 0
      omega
    · show (y 1).val - 0 = (y 1).val
      omega
  · next h =>
    apply hO
    by_contra hc
    apply h
    intro a
    rw [off1_eq k]
    fin_cases a
    · show k.val ≤ (y 0).val ∧ (y 0).val < k.val + 1
      omega
    · show 0 ≤ (y 1).val ∧ (y 1).val < 0 + 8
      have : (y 1).val < 8 := (y 1).isLt
      omega

/-- Laying a payload over the whole array leaves the payload. -/
theorem overlay_whole (w X : FVec F S8x16384 .f32) : overlay (s := S8x16384) ![0, 0] S8x16384.size w X = w := by
  funext y
  unfold overlay
  rw [dif_pos]
  · congr 1
    funext a
    refine Fin.ext ?_
    rw [Rect.unitLocal_val]
    fin_cases a
    · show (y 0).val - 0 = (y 0).val
      omega
    · show (y 1).val - 0 = (y 1).val
      omega
  · intro a
    fin_cases a
    · show 0 ≤ (y 0).val ∧ (y 0).val < 0 + 8
      have : (y 0).val < 8 := (y 0).isLt
      omega
    · show 0 ≤ (y 1).val ∧ (y 1).val < 0 + 16384
      have : (y 1).val < 16384 := (y 1).isLt
      omega

/-- The four outputs' final contents, from what the trips carry. -/
def outsV (P : Pts F) (T : FVec F S128x128 .f32) (S : Carry F) :
    FVec F S512x8 .f32 × FVec F S512x8 .f32 × FVec F S512x8 .f32 × FVec F S512x8 .f32 :=
  (rowsV (fun k => (carryAt P T S k).far), rowsV (fun k => (carryAt P T S k).ctr.x),
    rowsV (fun k => (carryAt P T S k).ctr.y), rowsV (fun k => (carryAt P T S k).ctr.z))

/-- The outputs whose first `k` rows are final. -/
def filled (P : Pts F) (T : FVec F S128x128 .f32) (S : Carry F) (k : ℕ)
    (O : FVec F S512x8 .f32 × FVec F S512x8 .f32 × FVec F S512x8 .f32 × FVec F S512x8 .f32) : Prop :=
  (∀ y : S512x8.Idx, (y 0).val < k → O.1 y = (outsV P T S).1 y) ∧
  (∀ y : S512x8.Idx, (y 0).val < k → O.2.1 y = (outsV P T S).2.1 y) ∧
  (∀ y : S512x8.Idx, (y 0).val < k → O.2.2.1 y = (outsV P T S).2.2.1 y) ∧
  (∀ y : S512x8.Idx, (y 0).val < k → O.2.2.2 y = (outsV P T S).2.2.2 y)

theorem filled_zero (P : Pts F) (T : FVec F S128x128 .f32) (S : Carry F)
    (O : FVec F S512x8 .f32 × FVec F S512x8 .f32 × FVec F S512x8 .f32 × FVec F S512x8 .f32) : filled P T S 0 O :=
  ⟨fun _ h => absurd h (Nat.not_lt_zero _), fun _ h => absurd h (Nat.not_lt_zero _),
    fun _ h => absurd h (Nat.not_lt_zero _), fun _ h => absurd h (Nat.not_lt_zero _)⟩

theorem filled_succ (P : Pts F) (T : FVec F S128x128 .f32) (S : Carry F) (k : Fin k0_t1_loop.trips)
    (O : FVec F S512x8 .f32 × FVec F S512x8 .f32 × FVec F S512x8 .f32 × FVec F S512x8 .f32) (h : filled P T S k.val O) :
    filled P T S (k.val + 1) (putRow k (carryAt P T S k.val).far O.1, putRow k (carryAt P T S k.val).ctr.x O.2.1,
      putRow k (carryAt P T S k.val).ctr.y O.2.2.1, putRow k (carryAt P T S k.val).ctr.z O.2.2.2) :=
  ⟨putRow_rows (fun k => (carryAt P T S k).far) k O.1 h.1, putRow_rows (fun k => (carryAt P T S k).ctr.x) k O.2.1 h.2.1,
    putRow_rows (fun k => (carryAt P T S k).ctr.y) k O.2.2.1 h.2.2.1,
    putRow_rows (fun k => (carryAt P T S k).ctr.z) k O.2.2.2 h.2.2.2⟩

theorem filled_all (P : Pts F) (T : FVec F S128x128 .f32) (S : Carry F)
    (O : FVec F S512x8 .f32 × FVec F S512x8 .f32 × FVec F S512x8 .f32 × FVec F S512x8 .f32)
    (h : filled P T S k0_t1_loop.trips O) : O = outsV P T S := by
  have hy : ∀ y : S512x8.Idx, (y 0).val < k0_t1_loop.trips := fun y => by
    rw [trips_eq]; exact (y 0).isLt
  exact Prod.ext (funext fun y => h.1 y (hy y)) (Prod.ext (funext fun y => h.2.1 y (hy y))
    (Prod.ext (funext fun y => h.2.2.1 y (hy y)) (funext fun y => h.2.2.2 y (hy y))))

/-- The kernel's body on whole buffers: the inputs stay, the outputs end at `outsV`. -/
theorem body_wp (c : Dev nD) (arg0 : Memref sig .tc .vmem S8x16384 .f32) (harg0 : arg0.IsWhole) (arg1 : Memref sig .tc .vmem S8x16384 .f32) (harg1 : arg1.IsWhole) (arg2 : Memref sig .tc .vmem S8x16384 .f32) (harg2 : arg2.IsWhole) (arg3 : Memref sig .tc .vmem S8x16384 .f32) (harg3 : arg3.IsWhole) (arg4 : Memref sig .tc .vmem S128x128 .f32) (harg4 : arg4.IsWhole) (arg5 : Memref sig .tc .vmem S8x1 .f32) (harg5 : arg5.IsWhole) (arg6 : Memref sig .tc .vmem S8x3 .f32) (harg6 : arg6.IsWhole) (arg7 : Memref sig .tc .vmem S512x8 .f32) (harg7 : arg7.IsWhole) (arg8 : Memref sig .tc .vmem S512x8 .f32) (harg8 : arg8.IsWhole) (arg9 : Memref sig .tc .vmem S512x8 .f32) (harg9 : arg9.IsWhole) (arg10 : Memref sig .tc .vmem S512x8 .f32) (harg10 : arg10.IsWhole) (arg11 : Memref sig .tc .vmem S8x16384 .f32) (harg11 : arg11.IsWhole)
    (P : Pts F) (T : FVec F S128x128 .f32) (x5 : FVec F S8x1 .f32) (x6 : FVec F S8x3 .f32) (d : FVec F S8x16384 .f32)
    (O : FVec F S512x8 .f32 × FVec F S512x8 .f32 × FVec F S512x8 .f32 × FVec F S512x8 .f32)
    (E : Set ℕ) (Q : PUnit → sProp 𝕄) :
    iprop(held c arg0 arg1 arg2 arg3 arg11 P d ∗ owns (c : Thread nD τ) arg4 fullShare T
        ∗ owns (c : Thread nD τ) arg5 fullShare x5 ∗ owns (c : Thread nD τ) arg6 fullShare x6
        ∗ outs c arg7 arg8 arg9 arg10 O)
      ⊢ iprop((iprop(held c arg0 arg1 arg2 arg3 arg11 P (carryAt P T (startV x5 x6) k0_t1_loop.trips).D ∗ owns (c : Thread nD τ) arg4 fullShare T
            ∗ owns (c : Thread nD τ) arg5 fullShare x5 ∗ owns (c : Thread nD τ) arg6 fullShare x6
            ∗ outs c arg7 arg8 arg9 arg10 (outsV P T (startV x5 x6))) -∗ Q ⟨⟩)
        -∗ wp frame (wpE (defs₀ (F := F)) Variants.none (c : Thread nD τ) none) E
          (cc0__fps_body arg0 harg0 arg1 harg1 arg2 harg2 arg3 harg3 arg4 harg4 arg5 harg5 arg6 harg6 arg7 harg7 arg8 harg8 arg9 harg9 arg10 harg10 arg11 harg11) Q) := by
  rw [cc0__fps_body_eq_skeleton]
  unfold cc0__fps_body_skel
  iintro ⟨H, H4, H5, H6, HO⟩ Hk
  unfold held
  icases H with ⟨H0, H1, H2, H3, HD⟩
  iapply (Cert.Owned.load Variants.none (c : Thread nD τ) none E (m := arg11) d) $$ HD; iintro HD
  iapply (Cert.Owned.store Variants.none (c : Thread nD τ) none E (m := arg11) d) $$ HD; iintro HD
  iapply (Cert.Owned.load Variants.none (c : Thread nD τ) none E (m := arg5) x5) $$ H5; iintro H5
  iapply (Cert.Owned.load Variants.none (c : Thread nD τ) none E (m := arg6) x6) $$ H6; iintro H6
  iapply (Cert.Owned.load Variants.none (c : Thread nD τ) none E (m := arg6) x6) $$ H6; iintro H6
  iapply (Cert.Owned.load Variants.none (c : Thread nD τ) none E (m := arg6) x6) $$ H6; iintro H6
  iapply (Scf.wp_for_bind frame (wpE (defs₀ (F := F)) Variants.none (c : Thread nD τ) none) E
    k0_t1_loop.lb k0_t1_loop.ub k0_t1_loop.st k0_t1_ok (startV x5 x6).vecs _
    (fun k acc => iprop(∃ O, ⌜acc = (carryAt P T (startV x5 x6) k).vecs ∧ filled P T (startV x5 x6) k O⌝
      ∗ (held c arg0 arg1 arg2 arg3 arg11 P (carryAt P T (startV x5 x6) k).D ∗ owns (c : Thread nD τ) arg4 fullShare T
        ∗ outs c arg7 arg8 arg9 arg10 O)))
    (fun k acc => by
      iintro ⟨%O, %hO, H⟩
      obtain ⟨rfl, hf⟩ := hO
      unfold Carry.vecs
      rw [body_eq]
      iapply (tripK_wp c E arg0 arg1 arg2 arg3 arg4 arg7 arg8 arg9 arg10 arg11 P T (carryAt P T (startV x5 x6) k) k O) $$ H
      iintro H
      iexists _
      isplitr
      swap
      · iexact H
      · ipureintro
        exact ⟨rfl, filled_succ P T (startV x5 x6) k O hf⟩)) $$ [H0 H1 H2 H3 HD H4 HO]
  · iexists O
    isplitr
    · ipureintro
      exact ⟨rfl, filled_zero P T _ O⟩
    isplitl [H0 H1 H2 H3 HD]
    · unfold held
      isplitl [H0]; · iexact H0
      isplitl [H1]; · iexact H1
      isplitl [H2]; · iexact H2
      isplitl [H3]; · iexact H3
      rw [overlay_whole]
      iexact HD
    isplitl [H4]; · iexact H4
    iexact HO
  · iintro %acc ⟨%O', %hO, H, H4, HO⟩
    obtain ⟨rfl, hf⟩ := hO
    obtain rfl := filled_all P T (startV x5 x6) O' hf
    unfold Carry.vecs
    dsimp only
    sl_step
    iapply Hk
    isplitl [H]; · unfold held; iexact H
    isplitl [H4]; · iexact H4
    isplitl [H5]; · iexact H5
    isplitl [H6]; · iexact H6
    iexact HO

end Cert.KernelIdeal.Gen
-- ==== Proof.KFrame.lean ====
module

public import proofs.«01_k».proof.Proof.KBody
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each window's current staging memref at point `t`, spelled as the pipeline passes it (`bodyAt0`), and its wholeness. -/
abbrev ms0_0 (t : Fin cfg0.N) : Memref sig .tc .vmem S8x16384 .f32 := win0_0.stage (cfg0.slots t 0)
abbrev hs0_0 (t : Fin cfg0.N) : (ms0_0 t).IsWhole := hstage0_0 0
abbrev ms0_1 (t : Fin cfg0.N) : Memref sig .tc .vmem S8x16384 .f32 := win0_1.stage (cfg0.slots t 1)
abbrev hs0_1 (t : Fin cfg0.N) : (ms0_1 t).IsWhole := hstage0_1 0
abbrev ms0_2 (t : Fin cfg0.N) : Memref sig .tc .vmem S8x16384 .f32 := win0_2.stage (cfg0.slots t 2)
abbrev hs0_2 (t : Fin cfg0.N) : (ms0_2 t).IsWhole := hstage0_2 0
abbrev ms0_3 (t : Fin cfg0.N) : Memref sig .tc .vmem S8x16384 .f32 := win0_3.stage (cfg0.slots t 3)
abbrev hs0_3 (t : Fin cfg0.N) : (ms0_3 t).IsWhole := hstage0_3 0
abbrev ms0_4 (t : Fin cfg0.N) : Memref sig .tc .vmem S128x128 .f32 := win0_4.stage (cfg0.slots t 4)
abbrev hs0_4 (t : Fin cfg0.N) : (ms0_4 t).IsWhole := hstage0_4 0
abbrev ms0_5 (t : Fin cfg0.N) : Memref sig .tc .vmem S8x1 .f32 := win0_5.stage (cfg0.slots t 5)
abbrev hs0_5 (t : Fin cfg0.N) : (ms0_5 t).IsWhole := hstage0_5 0
abbrev ms0_6 (t : Fin cfg0.N) : Memref sig .tc .vmem S8x3 .f32 := win0_6.stage (cfg0.slots t 6)
abbrev hs0_6 (t : Fin cfg0.N) : (ms0_6 t).IsWhole := hstage0_6 0
abbrev ms0_7 (t : Fin cfg0.N) : Memref sig .tc .vmem S512x8 .f32 := win0_7.stage (cfg0.slots t 7)
abbrev hs0_7 (t : Fin cfg0.N) : (ms0_7 t).IsWhole := hstage0_7 0
abbrev ms0_8 (t : Fin cfg0.N) : Memref sig .tc .vmem S512x8 .f32 := win0_8.stage (cfg0.slots t 8)
abbrev hs0_8 (t : Fin cfg0.N) : (ms0_8 t).IsWhole := hstage0_8 0
abbrev ms0_9 (t : Fin cfg0.N) : Memref sig .tc .vmem S512x8 .f32 := win0_9.stage (cfg0.slots t 9)
abbrev hs0_9 (t : Fin cfg0.N) : (ms0_9 t).IsWhole := hstage0_9 0
abbrev ms0_10 (t : Fin cfg0.N) : Memref sig .tc .vmem S512x8 .f32 := win0_10.stage (cfg0.slots t 10)
abbrev hs0_10 (t : Fin cfg0.N) : (ms0_10 t).IsWhole := hstage0_10 0
/-- The scratch operands: whole scoped buffers of the kernel's own, passed beside the windows. -/
abbrev scM0_0 : Memref sig .tc .vmem S8x16384 .f32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- What the outputs' staging buffers hold after the body at point `t`, from the input blocks. -/
def outsAt0 (c : Dev nD) (t : Fin cfg0.N) : FVec F S512x8 .f32 × FVec F S512x8 .f32 × FVec F S512x8 .f32 × FVec F S512x8 .f32 :=
  outsV ⟨iblk m c 0 t, iblk m c 1 t, iblk m c 2 t, iblk m c 3 t⟩ (iblk m c 4 t) (startV (iblk m c 5 t) (iblk m c 6 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt0 m c t).1
    | ⟨8, _⟩ => (outsAt0 m c t).2.1
    | ⟨9, _⟩ => (outsAt0 m c t).2.2.1
    | ⟨10, _⟩ => (outsAt0 m c t).2.2.2
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (outsAt0 m c t).1 := by dsimp only [dats]
theorem after0_8 (c : Dev nD) (t : Fin cfg0.N) : (dats m 0 c).after 8 t = (outsAt0 m c t).2.1 := by dsimp only [dats]
theorem after0_9 (c : Dev nD) (t : Fin cfg0.N) : (dats m 0 c).after 9 t = (outsAt0 m c t).2.2.1 := by dsimp only [dats]
theorem after0_10 (c : Dev nD) (t : Fin cfg0.N) : (dats m 0 c).after 10 t = (outsAt0 m c t).2.2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t))

set_option maxHeartbeats 1200000 in
/-- The body at any point: the inputs' memrefs hold their blocks, so the body's triple applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10]
  rw [show (dats m 0 c).Φ t.castSucc = Pipeline.ΦA spec0 c from rfl, PhiA0_eq]
  iintro ⟨⟨⟨%ds, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (body_wp c _ _ _ _ _ _ _ _ _ _ _ _ _ _ _ _ _ _ _ _ _ _ _ _
    ⟨iblk m c 0 t, iblk m c 1 t, iblk m c 2 t, iblk m c 3 t⟩ (iblk m c 4 t) (iblk m c 5 t) (iblk m c 6 t) ds
    ((dats m 0 c).before 7 t d7, (dats m 0 c).before 8 t d8, (dats m 0 c).before 9 t d9, (dats m 0 c).before 10 t d10)
    Set.univ _) $$ [H0 H1 H2 H3 HS0 H4 H5 H6 H7 H8 H9 H10]
  · unfold held outs
    isplitl [H0 H1 H2 H3 HS0]
    · isplitl [H0]; · iexact H0
      isplitl [H1]; · iexact H1
      isplitl [H2]; · iexact H2
      isplitl [H3]; · iexact H3
      iexact HS0
    isplitl [H4]; · iexact H4
    isplitl [H5]; · iexact H5
    isplitl [H6]; · iexact H6
    isplitl [H7]; · iexact H7
    isplitl [H8]; · iexact H8
    isplitl [H9]; · iexact H9
    iexact H10
  · unfold held outs
    iintro ⟨⟨H0, H1, H2, H3, HS0⟩, H4, H5, H6, H7, H8, H9, H10⟩
    isplitl [HS0 Hg]
    · isplitl [HS0]
      · iexists _; iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_around`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (unchanged m ρ) ((θ_run defs _ _).mono (fun _ h => h.2) (run_main_quiescent m ρ))

end Cert.KernelIdeal.Gen

end
-- ==== Proof.Sim.lean ====
/- Two printed straight lines that run the same operations on buffers numbered alike: run from contents that agree on those
   buffers, they end at contents that agree on them. -/
module

public import Idealize.ShloMosaic.Lib.Pipeline.Regions
public import Idealize.ShloMosaic.Lib.StableHlo.RunLoop
public import Idealize.ShloMosaic.Lib.StableHlo.RunRead

@[expose] public section

noncomputable section

namespace Cert.Sim

open Idealize.ShloMosaic Idealize.ShloMosaic.TcCoe Idealize.ShloMosaic.StableHlo
open Idealize.SL Idealize.SL.Sem

variable {nD nD' : ℕ} {τ τ' : Topo} {sig sig' : RefSig} {Val : EltTy → Type} {Λ Λ' : Labels}

/-- A reference is a device buffer with number at least `lo` and below `n`. -/
def inside (lo n : ℕ) (r : Ref sig .tc) : Bool := r.space == .hbm && Nat.ble lo r.idx.val && Nat.blt r.idx.val n

/-- The second reference is a device buffer with the first's number and `d` more. -/
def paired (d : ℕ) (r : Ref sig .tc) (r' : Ref sig' .tc) : Bool := r'.space == .hbm && r'.idx.val == r.idx.val + d

/-- References in the same space with the same number are the same. -/
theorem ref_ext {r s : Ref sig .tc} (hs : r.space = s.space) (hi : r.idx.val = s.idx.val) : r = s := by
  cases r with | mk sp i h => cases s with | mk sp' i' h' =>
  cases hs
  have : i = i' := Fin.ext hi
  cases this; rfl

/-- The contents agree on the buffers numbered from `lo` up to `n` on one side, and `d` more on the other. -/
def Agree (lo d n : ℕ) (V : Valuation τ sig Val) (V' : Valuation τ' sig' Val) : Prop :=
  ∀ (T : BufTy) (a : TRef sig T) (a' : TRef sig' T), inside lo n a.ref = true → paired d a.ref a'.ref = true →
    a.ofBuf (V (Proc.devRef .tc a.ref)) = a'.ofBuf (V' (Proc.devRef .tc a'.ref))

/-- Operations that touch buffers of tensor values only, determine what they write, and write device buffers numbered from
    `n` only. -/
def Above (n : ℕ) (ops : List (HloOp τ sig Val)) : Prop :=
  ∀ op ∈ ops, op.bufs ⊆ tcRefs τ sig ∧ op.fresh = ∅ ∧
    ∀ b ∈ op.writes, ∃ r : Ref sig .tc, b = Proc.devRef .tc r ∧ r.space = .hbm ∧ n ≤ r.idx.val

/-- A device buffer numbered below `n` keeps its contents over such operations. -/
theorem Above.keeps {n : ℕ} {ops : List (HloOp τ sig Val)} (h : Above n ops) (V : Valuation τ sig Val)
    {r : Ref sig .tc} (hr : r.idx.val < n) :
    after ops V (Proc.devRef .tc r) = V (Proc.devRef .tc r) := by
  refine after_of_forall_not_mem ops V fun op ho hm => ?_
  obtain ⟨s, he, -, hn⟩ := (h op ho).2.2 _ hm
  have := Proc.devRef_injective _ he
  subst this; omega

/-- The two programs are straight lines that keep the agreement: from contents that agree up to `n` they come to contents
    that agree up to `k`. -/
def Sim (lo d n k : ℕ) (p : Prog (TpuEff nD τ sig Val Λ .tc) PUnit) (q : Prog (TpuEff nD' τ' sig' Val Λ' .tc) PUnit) : Prop :=
  n ≤ k ∧ ∃ (l : List (HloOp τ sig Val)) (l' : List (HloOp τ' sig' Val)), p = seq l ∧ q = seq l' ∧ Above n l ∧
    ∀ V V', Agree lo d n V V' → Agree lo d k (after l V) (after l' V')

/-- Nothing run keeps the agreement. -/
theorem Sim.nil {lo d n : ℕ} : Sim (nD := nD) (nD' := nD') (τ := τ) (τ' := τ') (sig := sig) (sig' := sig') (Val := Val) (Λ := Λ) (Λ' := Λ')
    lo d n n (pure ⟨⟩) (pure ⟨⟩) :=
  ⟨le_rfl, [], [], rfl, rfl, fun _ h => absurd h List.not_mem_nil, fun _ _ h => h⟩

/-- One part after another. -/
theorem Sim.bind {lo d n k j : ℕ} {p p₁ : Prog (TpuEff nD τ sig Val Λ .tc) PUnit} {q q₁ : Prog (TpuEff nD' τ' sig' Val Λ' .tc) PUnit}
    (h : Sim lo d n k p q) (h₁ : Sim lo d k j p₁ q₁) : Sim lo d n j (p >>= fun _ => p₁) (q >>= fun _ => q₁) := by
  obtain ⟨hn, l, l', rfl, rfl, ha, hs⟩ := h
  obtain ⟨hk, m, m', rfl, rfl, hb, ht⟩ := h₁
  refine ⟨hn.trans hk, l ++ m, l' ++ m', (seq_append _ _).symm, (seq_append _ _).symm, fun op ho => ?_, fun V V' hV => ?_⟩
  · rcases List.mem_append.mp ho with h | h
    · exact ha op h
    · exact ⟨(hb op h).1, (hb op h).2.1, fun b hm =>
        let ⟨r, h1, h2, h3⟩ := (hb op h).2.2 b hm; ⟨r, h1, h2, hn.trans h3⟩⟩
  · rw [after_append, after_append]; exact ht _ _ (hs _ _ hV)

/-- One operation on each side, which write paired buffers at the bound and leave them equal. -/
theorem Sim.one {lo d n : ℕ} {op : HloOp τ sig Val} {op' : HloOp τ' sig' Val} {T : BufTy} (y : TRef sig T) (y' : TRef sig' T)
    (hb : op.bufs ⊆ tcRefs τ sig) (hf : op.fresh = ∅)
    (hw : op.writes = {Proc.devRef .tc y.ref}) (hw' : op'.writes = {Proc.devRef .tc y'.ref})
    (hy : (Nat.beq n y.ref.idx.val && inside lo (y.ref.idx.val + 1) y.ref && paired d y.ref y'.ref) = true)
    (hv : ∀ V V', Agree lo d n V V' →
      y.ofBuf (op.result V (Proc.devRef .tc y.ref)) = y'.ofBuf (op'.result V' (Proc.devRef .tc y'.ref))) :
    Sim (nD := nD) (nD' := nD') (Λ := Λ) (Λ' := Λ') lo d n (y.ref.idx.val + 1)
      (hlo rfl op fun _ => .ret ⟨⟩) (hlo rfl op' fun _ => .ret ⟨⟩) := by
  simp only [inside, paired, Bool.and_eq_true, beq_iff_eq, Nat.ble_eq, Nat.beq_eq] at hy
  obtain ⟨⟨hn, ⟨hsp, hlo⟩, -⟩, hsp', hd⟩ := hy
  refine ⟨by omega, [op], [op'], rfl, rfl, ?_, ?_⟩
  · intro o ho
    cases List.mem_singleton.mp ho
    refine ⟨hb, hf, fun b hm => ⟨y.ref, ?_, hsp, hn.le⟩⟩
    rw [hw] at hm; exact Finset.mem_singleton.mp hm
  · intro V V' hV U a a' ha hp
    simp only [inside, paired, Bool.and_eq_true, beq_iff_eq, Nat.ble_eq, Nat.blt_eq] at ha hp
    simp only [after_cons, after_nil]
    by_cases he : a.ref = y.ref
    · have he' : a'.ref = y'.ref := ref_ext (hp.1.trans hsp'.symm) (by rw [hp.2, hd, he])
      obtain ⟨r, e, h1, h2⟩ := a; obtain ⟨r', e', h1', h2'⟩ := a'
      obtain ⟨s, f, g1, g2⟩ := y; obtain ⟨s', f', g1', g2'⟩ := y'
      simp only at he he'
      subst he; subst he'
      have : U = T := e.symm.trans f
      subst this
      exact hv V V' hV
    · have hlt : a.ref.idx.val ≠ y.ref.idx.val := fun h => he (ref_ext (ha.1.1.trans hsp.symm) h)
      have he' : a'.ref ≠ y'.ref := fun h => hlt (by have := hp.2; rw [h] at this; omega)
      rw [HloOp.result_of_not_mem, HloOp.result_of_not_mem]
      · refine hV U a a' ?_ ?_
        · simp only [inside, Bool.and_eq_true, beq_iff_eq, Nat.ble_eq, Nat.blt_eq]
          exact ⟨ha.1, by omega⟩
        · simp only [paired, Bool.and_eq_true, beq_iff_eq]; exact hp
      · rw [hw', Finset.mem_singleton]; exact devRef_ne_of_ne he'
      · rw [hw, Finset.mem_singleton]; exact devRef_ne_of_ne he

section Builders

variable {lo d n : ℕ} {T A B C : BufTy}

/-- The value read at a typed reference. -/
abbrev get (a : TRef sig T) (V : Valuation τ sig Val) : T.Contents Val := a.ofBuf (V (Proc.devRef .tc a.ref))

/-- What a typed reference was given is what it reads back. -/
theorem ofBuf_toBuf (a : TRef sig T) (v : T.Contents Val) : a.ofBuf (a.toBuf v) = v := by
  obtain ⟨r, e, -, -⟩ := a; subst e; rfl

theorem Sim.nullary (y : TRef sig T) (y' : TRef sig' T) (v : T.Contents Val)
    (hy : (Nat.beq n y.ref.idx.val && inside lo (y.ref.idx.val + 1) y.ref && paired d y.ref y'.ref) = true) :
    Sim (nD := nD) (nD' := nD') (τ := τ) (τ' := τ') (Λ := Λ) (Λ' := Λ') lo d n (y.ref.idx.val + 1)
      (hlo rfl (y.nullary v) fun _ => .ret ⟨⟩) (hlo rfl (y'.nullary v) fun _ => .ret ⟨⟩) :=
  Sim.one y y' (nullary_bufs_sub ..) rfl rfl rfl hy fun V V' _ => by
    rw [nullary_result, nullary_result, ofBuf_toBuf, ofBuf_toBuf]

theorem Sim.unary (a : TRef sig A) (a' : TRef sig' A) (y : TRef sig T) (y' : TRef sig' T) (f : A.Contents Val → T.Contents Val)
    (hy : (Nat.beq n y.ref.idx.val && inside lo (y.ref.idx.val + 1) y.ref && paired d y.ref y'.ref) = true)
    (ha : (inside lo n a.ref && paired d a.ref a'.ref) = true) :
    Sim (nD := nD) (nD' := nD') (τ := τ) (τ' := τ') (Λ := Λ) (Λ' := Λ') lo d n (y.ref.idx.val + 1)
      (hlo rfl (a.unary y f) fun _ => .ret ⟨⟩) (hlo rfl (a'.unary y' f) fun _ => .ret ⟨⟩) := by
  simp only [Bool.and_eq_true] at ha
  exact Sim.one y y' (unary_bufs_sub ..) rfl rfl rfl hy fun V V' hV => by
    rw [unary_result, unary_result, ofBuf_toBuf, ofBuf_toBuf, hV _ a a' ha.1 ha.2]

theorem Sim.binary (a : TRef sig A) (a' : TRef sig' A) (b : TRef sig B) (b' : TRef sig' B) (y : TRef sig T) (y' : TRef sig' T)
    (f : A.Contents Val → B.Contents Val → T.Contents Val)
    (hy : (Nat.beq n y.ref.idx.val && inside lo (y.ref.idx.val + 1) y.ref && paired d y.ref y'.ref) = true)
    (ha : (inside lo n a.ref && paired d a.ref a'.ref) = true) (hb : (inside lo n b.ref && paired d b.ref b'.ref) = true) :
    Sim (nD := nD) (nD' := nD') (τ := τ) (τ' := τ') (Λ := Λ) (Λ' := Λ') lo d n (y.ref.idx.val + 1)
      (hlo rfl (a.binary b y f) fun _ => .ret ⟨⟩) (hlo rfl (a'.binary b' y' f) fun _ => .ret ⟨⟩) := by
  simp only [Bool.and_eq_true] at ha hb
  exact Sim.one y y' (binary_bufs_sub ..) rfl rfl rfl hy fun V V' hV => by
    rw [binary_result, binary_result, ofBuf_toBuf, ofBuf_toBuf, hV _ a a' ha.1 ha.2, hV _ b b' hb.1 hb.2]

theorem Sim.ternary (c : TRef sig C) (c' : TRef sig' C) (a : TRef sig A) (a' : TRef sig' A) (b : TRef sig B) (b' : TRef sig' B)
    (y : TRef sig T) (y' : TRef sig' T) (f : C.Contents Val → A.Contents Val → B.Contents Val → T.Contents Val)
    (hy : (Nat.beq n y.ref.idx.val && inside lo (y.ref.idx.val + 1) y.ref && paired d y.ref y'.ref) = true)
    (hc : (inside lo n c.ref && paired d c.ref c'.ref) = true)
    (ha : (inside lo n a.ref && paired d a.ref a'.ref) = true) (hb : (inside lo n b.ref && paired d b.ref b'.ref) = true) :
    Sim (nD := nD) (nD' := nD') (τ := τ) (τ' := τ') (Λ := Λ) (Λ' := Λ') lo d n (y.ref.idx.val + 1)
      (hlo rfl (c.ternary a b y f) fun _ => .ret ⟨⟩) (hlo rfl (c'.ternary a' b' y' f) fun _ => .ret ⟨⟩) := by
  simp only [Bool.and_eq_true] at ha hb hc
  exact Sim.one y y' (ternary_bufs_sub ..) rfl rfl rfl hy fun V V' hV => by
    rw [ternary_result, ternary_result, ofBuf_toBuf, ofBuf_toBuf, hV _ c c' hc.1 hc.2, hV _ a a' ha.1 ha.2, hV _ b b' hb.1 hb.2]

/-- What a reshape leaves at its result, at the values' own types. -/
theorem reshape_get (a : TRef sig A) (y : TRef sig T) (he : A.elt = T.elt) (hn : A.shape.ShapeCasts T.shape) (V : Valuation τ sig Val) :
    get y ((a.reshape y he hn : HloOp τ sig Val).result V) = fun i => he ▸ shapeCast T.shape (get a V) hn i := by
  obtain ⟨r, e, h1, h2⟩ := a; obtain ⟨s, f, g1, g2⟩ := y
  subst e; subst f
  exact reshape_result ..

theorem Sim.reshape (a : TRef sig A) (a' : TRef sig' A) (y : TRef sig T) (y' : TRef sig' T)
    (he : A.elt = T.elt) (hn : A.shape.ShapeCasts T.shape)
    (hy : (Nat.beq n y.ref.idx.val && inside lo (y.ref.idx.val + 1) y.ref && paired d y.ref y'.ref) = true)
    (ha : (inside lo n a.ref && paired d a.ref a'.ref) = true) :
    Sim (nD := nD) (nD' := nD') (τ := τ) (τ' := τ') (Λ := Λ) (Λ' := Λ') (Val := Val) lo d n (y.ref.idx.val + 1)
      (hlo rfl (a.reshape y he hn) fun _ => .ret ⟨⟩) (hlo rfl (a'.reshape y' he hn) fun _ => .ret ⟨⟩) := by
  simp only [Bool.and_eq_true] at ha
  refine Sim.one y y' (reshape_bufs_sub ..) rfl rfl rfl hy fun V V' hV => ?_
  have h := hV _ a a' ha.1 ha.2
  refine (reshape_get a y he hn V).trans (Eq.trans ?_ (reshape_get a' y' he hn V').symm)
  rw [get, get, h]

end Builders

/-- A straight line has one list of operations. -/
theorem seq_inj [∀ e, Nonempty (Val e)] {l l' : List (HloOp τ sig Val)}
    (h : (seq l : Prog (TpuEff nD τ sig Val Λ .tc) PUnit) = seq l') : l = l' := by
  induction l generalizing l' with
  | nil => cases l' with
    | nil => rfl
    | cons a l' => exact absurd h (by intro h; cases h)
  | cons a l ih => cases l' with
    | nil => exact absurd h (by intro h; cases h)
    | cons b l' =>
      have h' : (Prog.op (.hloBegin rfl a) fun _ => .op (.hloEnd rfl a.writes) fun _ => seq l : Prog (TpuEff nD τ sig Val Λ .tc) PUnit)
          = Prog.op (.hloBegin rfl b) fun _ => .op (.hloEnd rfl b.writes) fun _ => seq l' := h
      injection h' with _ he hk
      injection he with hab
      subst hab
      have hk := congrFun hk ⟨⟩
      injection hk with _ _ hk
      have hk := congrFun hk (fun _ _ => Classical.arbitrary _)
      rw [ih hk]

end Cert.Sim
-- ==== Proof.Seed.lean ====
/- The first points: the kernel's program and the reference draw them by the same operations, so they are equal. -/
module

public import proofs.«01_k».proof.Proof.Sim
public import proofs.«01_k».proof.Proof.Gen.KernelIdeal.Frame
public import proofs.«01_k».proof.Proof.Gen.ReferenceIdeal

@[expose] public section

set_option maxRecDepth 16384

noncomputable section

namespace Cert.Seed

open Idealize.ShloMosaic Idealize.ShloMosaic.TcCoe Idealize.ShloMosaic.StableHlo
open Idealize.SL Idealize.SL.Sem Cert.Sim

variable {F : FTy → Type} [FloatOps F]

set_option maxHeartbeats 40000000 in
/-- The two programs' random draws are straight lines of the same operations, on buffers 13 apart. -/
theorem draw_sim : Sim 12 13 15 777
    (ReferenceIdeal.fn_randint.body (F := F) (.of ReferenceIdeal.main_v7) (.of ReferenceIdeal.main_c_2) (.of ReferenceIdeal.main_c_3) ReferenceIdeal.main_call0)
    (KernelIdeal.fn_randint.body (F := F) (.of KernelIdeal.main_v21) (.of KernelIdeal.main_c_2) (.of KernelIdeal.main_c_3) KernelIdeal.main_call0) := by
  unfold ReferenceIdeal.fn_randint.body KernelIdeal.fn_randint.body
  repeat first
    | with_reducible exact Sim.nil
    | with_reducible apply Sim.bind
    | (with_reducible apply Sim.unary) <;> rfl
    | (with_reducible apply Sim.binary) <;> rfl
    | (with_reducible apply Sim.nullary) <;> rfl
    | (with_reducible apply Sim.ternary) <;> rfl
    | (with_reducible apply Sim.reshape) <;> rfl
    | unfold ReferenceIdeal.fn_clip.body KernelIdeal.fn_clip.body
    | unfold ReferenceIdeal.fn_clip_0.body KernelIdeal.fn_clip_0.body
    | unfold ReferenceIdeal.fn_threefry_split.body KernelIdeal.fn_threefry_split.body
    | unfold ReferenceIdeal.fn_threefry2x32.body KernelIdeal.fn_threefry2x32.body
    | unfold ReferenceIdeal.fn_threefry2x32_1.body KernelIdeal.fn_threefry2x32_1.body
    | unfold ReferenceIdeal.fn_randint.body_part0 KernelIdeal.fn_randint.body_part0
    | unfold ReferenceIdeal.fn_randint.body_part1 KernelIdeal.fn_randint.body_part1
    | unfold ReferenceIdeal.fn_threefry2x32.body_part0 KernelIdeal.fn_threefry2x32.body_part0
    | unfold ReferenceIdeal.fn_threefry2x32.body_part1 KernelIdeal.fn_threefry2x32.body_part1
    | unfold ReferenceIdeal.fn_threefry2x32.body_part2 KernelIdeal.fn_threefry2x32.body_part2
    | unfold ReferenceIdeal.fn_threefry2x32.body_part3 KernelIdeal.fn_threefry2x32.body_part3
    | unfold ReferenceIdeal.fn_threefry2x32_1.body_part0 KernelIdeal.fn_threefry2x32_1.body_part0
    | unfold ReferenceIdeal.fn_threefry2x32_1.body_part1 KernelIdeal.fn_threefry2x32_1.body_part1
    | unfold ReferenceIdeal.fn_threefry2x32_1.body_part2 KernelIdeal.fn_threefry2x32_1.body_part2
    | unfold ReferenceIdeal.fn_threefry2x32_1.body_part3 KernelIdeal.fn_threefry2x32_1.body_part3
  exact Sim.nil

/-- The reference's draw is a straight line of operations on buffers from number 15 on; where the two programs' keys and
    bounds agree, it and the kernel program's draw leave the same numbers. -/
theorem draw_line : ∃ l : List (HloOp ReferenceIdeal.τ ReferenceIdeal.sig (Elt F)),
    ReferenceIdeal.fn_randint.body (F := F) (.of ReferenceIdeal.main_v7) (.of ReferenceIdeal.main_c_2) (.of ReferenceIdeal.main_c_3) ReferenceIdeal.main_call0
      = seq l ∧ Above 15 l ∧
    ∀ V V', Agree 12 13 15 V V' → Agree 12 13 777 (after l V) (after KernelIdeal.Gen.hostOps0_1 V') := by
  obtain ⟨-, l, l', hl, hl', ha, hs⟩ := draw_sim (F := F)
  have hk : KernelIdeal.fn_randint.body (F := F) (.of KernelIdeal.main_v21) (.of KernelIdeal.main_c_2) (.of KernelIdeal.main_c_3) KernelIdeal.main_call0
      = seq KernelIdeal.Gen.hostOps0_1 := by chain_rfl
  rw [seq_inj (hl'.symm.trans hk)] at hs
  exact ⟨l, hl, ha, hs⟩

end Cert.Seed
-- ==== Proof.RRun.lean ====
/- The reference's run: its operations as stretches, the counted loop of 512 trips, and what every buffer holds at its end. -/
module

public import proofs.«01_k».proof.Proof.Seed
public import Idealize.ShloMosaic.Lib.Scf.ExitTest
public import Idealize.ShloMosaic.Lib.Scf.Counter

@[expose] public section

set_option maxRecDepth 10000

noncomputable section

namespace Cert.Ref

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

/-- The starting distances, the key and the bounds of the draw. -/
abbrev keyOps : List (HloOp τ sig (Elt F)) :=
  [ nullary main_cst (constant S_ .f32 0x501502F9#32),
    unary main_cst main_v0 (broadcastInDim S8x16384 ![] bcast_S_S8x16384 : (⟨S_, .f32⟩ : BufTy).Contents (Elt F) → (⟨S8x16384, .f32⟩ : BufTy).Contents (Elt F)),
    nullary main_c (constantI S_ 32 1#32),
    nullary main_c_0 (constantI S_ 32 32#32),
    binary main_c main_c_0 main_v1 (Host.shrui : (⟨S_, .i32⟩ : BufTy).Contents (Elt F) → (⟨S_, .i32⟩ : BufTy).Contents (Elt F) → (⟨S_, .i32⟩ : BufTy).Contents (Elt F)),
    unary main_v1 main_v2 (id : (⟨S_, .i32⟩ : BufTy).Contents (Elt F) → (⟨S_, .i32⟩ : BufTy).Contents (Elt F)),
    unary main_v2 main_v3 (broadcastInDim S1 ![] bcast_S_S1 : (⟨S_, .i32⟩ : BufTy).Contents (Elt F) → (⟨S1, .i32⟩ : BufTy).Contents (Elt F)),
    nullary main_c_1 (constantI S_ 32 4294967295#32),
    binary main_c main_c_1 main_v4 (andi : (⟨S_, .i32⟩ : BufTy).Contents (Elt F) → (⟨S_, .i32⟩ : BufTy).Contents (Elt F) → (⟨S_, .i32⟩ : BufTy).Contents (Elt F)),
    unary main_v4 main_v5 (id : (⟨S_, .i32⟩ : BufTy).Contents (Elt F) → (⟨S_, .i32⟩ : BufTy).Contents (Elt F)),
    unary main_v5 main_v6 (broadcastInDim S1 ![] bcast_S_S1 : (⟨S_, .i32⟩ : BufTy).Contents (Elt F) → (⟨S1, .i32⟩ : BufTy).Contents (Elt F)),
    binary main_v3 main_v6 main_v7 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    nullary main_c_2 (constantI S_ 32 0#32),
    nullary main_c_3 (constantI S_ 32 16384#32) ]

theorem keyOps_sub : (keyOps : List (HloOp τ sig (Elt F))).Forall fun op => op.bufs ⊆ tcRefs τ sig :=
  ⟨nullary_bufs_sub .., unary_bufs_sub .., nullary_bufs_sub .., nullary_bufs_sub .., binary_bufs_sub .., unary_bufs_sub .., unary_bufs_sub .., nullary_bufs_sub .., binary_bufs_sub .., unary_bufs_sub .., unary_bufs_sub .., binary_bufs_sub .., nullary_bufs_sub .., nullary_bufs_sub ..⟩

theorem keyOps_fresh : (keyOps : List (HloOp τ sig (Elt F))).Forall fun op => op.fresh = ∅ :=
  forall_fresh_of_map rfl

/-- What `keyOps` writes, in order. -/
abbrev keyOps_W : List (Ref sig .tc) := [main_cst, main_v0, main_c, main_c_0, main_v1, main_v2, main_v3, main_c_1, main_v4, main_v5, main_v6, main_v7, main_c_2, main_c_3]

theorem keyOps_writes : (keyOps : List (HloOp τ sig (Elt F))).Forall fun op => op.writes ⊆ (keyOps_W.map (Proc.devRef (τ := τ) .tc)).toFinset :=
  forall_writes_sub_of_map rfl

/-- The loop enters with the counter at zero, no index stored, the distances and the first points. -/
abbrev enterOps : List (HloOp τ sig (Elt F)) :=
  [ nullary main_c_4 (constantI S_ 32 0#32),
    unary main_c_4 main_v9 (broadcastInDim S8x512 ![] bcast_S_S8x512 : (⟨S_, .i32⟩ : BufTy).Contents (Elt F) → (⟨S8x512, .i32⟩ : BufTy).Contents (Elt F)),
    nullary main_c_5 (constantI S_ 32 0#32),
    nullary main_c_6 (constantI S_ 32 0#32),
    unary main_arg0 main_v10_0 id,
    unary main_c_6 main_v10_1 id,
    unary main_c_5 main_v10_2 id,
    unary main_v9 main_v10_3 id,
    unary main_v0 main_v10_4 id,
    unary main_v8 main_v10_5 id ]

theorem enterOps_sub : (enterOps : List (HloOp τ sig (Elt F))).Forall fun op => op.bufs ⊆ tcRefs τ sig :=
  ⟨nullary_bufs_sub .., unary_bufs_sub .., nullary_bufs_sub .., nullary_bufs_sub .., unary_bufs_sub .., unary_bufs_sub .., unary_bufs_sub .., unary_bufs_sub .., unary_bufs_sub .., unary_bufs_sub ..⟩

theorem enterOps_fresh : (enterOps : List (HloOp τ sig (Elt F))).Forall fun op => op.fresh = ∅ :=
  forall_fresh_of_map rfl

/-- What `enterOps` writes, in order. -/
abbrev enterOps_W : List (Ref sig .tc) := [main_c_4, main_v9, main_c_5, main_c_6, main_v10_0, main_v10_1, main_v10_2, main_v10_3, main_v10_4, main_v10_5]

theorem enterOps_writes : (enterOps : List (HloOp τ sig (Elt F))).Forall fun op => op.writes ⊆ (enterOps_W.map (Proc.devRef (τ := τ) .tc)).toFinset :=
  forall_writes_sub_of_map rfl

/-- The current indices are stored at the counter; then they get trailing axes. -/
abbrev storeOps : List (HloOp τ sig (Elt F)) :=
  [ nullary main_while0b_c_12 (constantI S_ 32 1#32),
    binary main_v10_2 main_while0b_c_12 main_while0b_v13 (addi : (⟨S_, .i32⟩ : BufTy).Contents (Elt F) → (⟨S_, .i32⟩ : BufTy).Contents (Elt F) → (⟨S_, .i32⟩ : BufTy).Contents (Elt F)),
    nullary main_while0b_c_13 (constantI S_ 32 0#32),
    binary main_v10_2 main_while0b_c_13 main_while0b_v14 (cmpi .slt : (⟨S_, .i32⟩ : BufTy).Contents (Elt F) → (⟨S_, .i32⟩ : BufTy).Contents (Elt F) → (⟨S_, .i1⟩ : BufTy).Contents (Elt F)),
    nullary main_while0b_c_14 (constantI S_ 32 512#32),
    binary main_v10_2 main_while0b_c_14 main_while0b_v15 (addi : (⟨S_, .i32⟩ : BufTy).Contents (Elt F) → (⟨S_, .i32⟩ : BufTy).Contents (Elt F) → (⟨S_, .i32⟩ : BufTy).Contents (Elt F)),
    ternary main_while0b_v14 main_while0b_v15 main_v10_2 main_while0b_v16 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unary main_while0b_v16 main_while0b_v17 (id : (⟨S_, .i32⟩ : BufTy).Contents (Elt F) → (⟨S_, .i32⟩ : BufTy).Contents (Elt F)),
    unary main_while0b_v17 main_while0b_v18 (broadcastInDim S1 ![] bcast_S_S1 : (⟨S_, .i32⟩ : BufTy).Contents (Elt F) → (⟨S1, .i32⟩ : BufTy).Contents (Elt F)),
    ternary main_v10_3 main_while0b_v18 main_v10_5 main_while0b_v19 ((fun x i u => Host.scatter scatter_S8x512_S1_S8_0_1_1_0 (fun _ b => b) x i u) : (⟨S8x512, .i32⟩ : BufTy).Contents (Elt F) → (⟨S1, .i32⟩ : BufTy).Contents (Elt F) → (⟨S8, .i32⟩ : BufTy).Contents (Elt F) → (⟨S8x512, .i32⟩ : BufTy).Contents (Elt F)),
    unary main_v10_5 main_while0b_v20 (broadcastInDim S8x1x1 ![0] bcast_S8_S8x1x1_0 : (⟨S8, .i32⟩ : BufTy).Contents (Elt F) → (⟨S8x1x1, .i32⟩ : BufTy).Contents (Elt F)) ]

theorem storeOps_sub : (storeOps : List (HloOp τ sig (Elt F))).Forall fun op => op.bufs ⊆ tcRefs τ sig :=
  ⟨nullary_bufs_sub .., binary_bufs_sub .., nullary_bufs_sub .., binary_bufs_sub .., nullary_bufs_sub .., binary_bufs_sub .., ternary_bufs_sub .., unary_bufs_sub .., unary_bufs_sub .., ternary_bufs_sub .., unary_bufs_sub ..⟩

theorem storeOps_fresh : (storeOps : List (HloOp τ sig (Elt F))).Forall fun op => op.fresh = ∅ :=
  forall_fresh_of_map rfl

/-- What `storeOps` writes, in order. -/
abbrev storeOps_W : List (Ref sig .tc) := [main_while0b_c_12, main_while0b_v13, main_while0b_c_13, main_while0b_v14, main_while0b_c_14, main_while0b_v15, main_while0b_v16, main_while0b_v17, main_while0b_v18, main_while0b_v19, main_while0b_v20]

theorem storeOps_writes : (storeOps : List (HloOp τ sig (Elt F))).Forall fun op => op.writes ⊆ (storeOps_W.map (Proc.devRef (τ := τ) .tc)).toFinset :=
  forall_writes_sub_of_map rfl

/-- The points at the current indices. -/
abbrev centreOps : List (HloOp τ sig (Elt F)) :=
  [ TRef.nullary (.of main_while0b_call1_c : TRef sig ⟨S_, .i32⟩) (constantI S_ 32 0#32),
    TRef.unary (.of main_while0b_call1_c : TRef sig ⟨S_, .i32⟩) (.of main_while0b_call1_v0 : TRef sig ⟨S8x1x1, .i32⟩) (broadcastInDim S8x1x1 ![] bcast_S_S8x1x1),
    TRef.binary (.of main_while0b_v20 : TRef sig ⟨S8x1x1, .i32⟩) (.of main_while0b_call1_v0 : TRef sig ⟨S8x1x1, .i32⟩) (.of main_while0b_call1_v1 : TRef sig ⟨S8x1x1, .i1⟩) (cmpi .slt),
    TRef.nullary (.of main_while0b_call1_c_0 : TRef sig ⟨S_, .i32⟩) (constantI S_ 32 16384#32),
    TRef.unary (.of main_while0b_call1_c_0 : TRef sig ⟨S_, .i32⟩) (.of main_while0b_call1_v2 : TRef sig ⟨S8x1x1, .i32⟩) (broadcastInDim S8x1x1 ![] bcast_S_S8x1x1),
    TRef.binary (.of main_while0b_v20 : TRef sig ⟨S8x1x1, .i32⟩) (.of main_while0b_call1_v2 : TRef sig ⟨S8x1x1, .i32⟩) (.of main_while0b_call1_v3 : TRef sig ⟨S8x1x1, .i32⟩) addi,
    TRef.ternary (.of main_while0b_call1_v1 : TRef sig ⟨S8x1x1, .i1⟩) (.of main_while0b_call1_v3 : TRef sig ⟨S8x1x1, .i32⟩) (.of main_while0b_v20 : TRef sig ⟨S8x1x1, .i32⟩) (.of main_while0b_call1_v4 : TRef sig ⟨S8x1x1, .i32⟩) select,
    TRef.nullary (.of main_while0b_call1_c_1 : TRef sig ⟨S1, .i32⟩) (constantI S1 32 16383#32),
    TRef.nullary (.of main_while0b_call1_c_2 : TRef sig ⟨S_, .i32⟩) (constantI S_ 32 0#32),
    TRef.unary (.of main_while0b_call1_c_2 : TRef sig ⟨S_, .i32⟩) (.of main_while0b_call1_v5 : TRef sig ⟨S8x1x1, .i32⟩) (broadcastInDim S8x1x1 ![] bcast_S_S8x1x1),
    TRef.binary (.of main_while0b_call1_v4 : TRef sig ⟨S8x1x1, .i32⟩) (.of main_while0b_call1_v5 : TRef sig ⟨S8x1x1, .i32⟩) (.of main_while0b_call1_v6 : TRef sig ⟨S8x1x1, .i1⟩) (cmpi .sge),
    TRef.unary (.of main_while0b_call1_c_1 : TRef sig ⟨S1, .i32⟩) (.of main_while0b_call1_v7 : TRef sig ⟨S1x1x1, .i32⟩) (broadcastInDim S1x1x1 ![2] bcast_S1_S1x1x1_2),
    TRef.unary (.of main_while0b_call1_v7 : TRef sig ⟨S1x1x1, .i32⟩) (.of main_while0b_call1_v8 : TRef sig ⟨S8x1x1, .i32⟩) (broadcastInDim S8x1x1 ![0, 1, 2] bcast_S1x1x1_S8x1x1_0_1_2),
    TRef.binary (.of main_while0b_call1_v4 : TRef sig ⟨S8x1x1, .i32⟩) (.of main_while0b_call1_v8 : TRef sig ⟨S8x1x1, .i32⟩) (.of main_while0b_call1_v9 : TRef sig ⟨S8x1x1, .i1⟩) (cmpi .sle),
    TRef.binary (.of main_while0b_call1_v6 : TRef sig ⟨S8x1x1, .i1⟩) (.of main_while0b_call1_v9 : TRef sig ⟨S8x1x1, .i1⟩) (.of main_while0b_call1_v10 : TRef sig ⟨S8x1x1, .i1⟩) andi,
    TRef.nullary (.of main_while0b_call1_c_3 : TRef sig ⟨S_, .i1⟩) (constantI S_ 1 1#1),
    TRef.binary (.of main_while0b_call1_v10 : TRef sig ⟨S8x1x1, .i1⟩) (.of main_while0b_call1_c_3 : TRef sig ⟨S_, .i1⟩) (.of main_while0b_call1_v11 : TRef sig ⟨S8x1, .i1⟩) (fun x v => Host.reduce IntOp.andi x v reducesTo_S8x1x1_S8x1_d2 h_S_),
    TRef.binary (.of main_v10_0 : TRef sig ⟨S8x16384x3, .f32⟩) (.of main_while0b_call1_v4 : TRef sig ⟨S8x1x1, .i32⟩) (.of main_while0b_call1_v12 : TRef sig ⟨S8x1x3, .f32⟩) (fun x i => Host.gather gather_S8x16384x3_S8x1x1_S8x1x3_2_1_0_0_1_2_113 x i),
    TRef.unary (.of main_while0b_call1_v11 : TRef sig ⟨S8x1, .i1⟩) (.of main_while0b_call1_v13 : TRef sig ⟨S8x1x3, .i1⟩) (broadcastInDim S8x1x3 ![0, 1] bcast_S8x1_S8x1x3_0_1),
    TRef.nullary (.of main_while0b_call1_cst : TRef sig ⟨S_, .f32⟩) (constant S_ .f32 0x7FC00000#32),
    TRef.unary (.of main_while0b_call1_cst : TRef sig ⟨S_, .f32⟩) (.of main_while0b_call1_v14 : TRef sig ⟨S8x1x3, .f32⟩) (broadcastInDim S8x1x3 ![] bcast_S_S8x1x3),
    TRef.ternary (.of main_while0b_call1_v13 : TRef sig ⟨S8x1x3, .i1⟩) (.of main_while0b_call1_v12 : TRef sig ⟨S8x1x3, .f32⟩) (.of main_while0b_call1_v14 : TRef sig ⟨S8x1x3, .f32⟩) (.of main_while0b_v21 : TRef sig ⟨S8x1x3, .f32⟩) select ]

theorem centreOps_sub : (centreOps : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

theorem centreOps_fresh : (centreOps : List (HloOp τ sig (Elt F))).Forall fun op => op.fresh = ∅ :=
  forall_fresh_of_map rfl

/-- What `centreOps` writes, in order. -/
abbrev centreOps_W : List (Ref sig .tc) := [main_while0b_call1_c, main_while0b_call1_v0, main_while0b_call1_v1, main_while0b_call1_c_0, main_while0b_call1_v2, main_while0b_call1_v3, main_while0b_call1_v4, main_while0b_call1_c_1, main_while0b_call1_c_2, main_while0b_call1_v5, main_while0b_call1_v6, main_while0b_call1_v7, main_while0b_call1_v8, main_while0b_call1_v9, main_while0b_call1_v10, main_while0b_call1_c_3, main_while0b_call1_v11, main_while0b_call1_v12, main_while0b_call1_v13, main_while0b_call1_cst, main_while0b_call1_v14, main_while0b_v21]

theorem centreOps_writes : (centreOps : List (HloOp τ sig (Elt F))).Forall fun op => op.writes ⊆ (centreOps_W.map (Proc.devRef (τ := τ) .tc)).toFinset :=
  forall_writes_sub_of_map rfl

/-- The squared distances to the current points, and which are below the least so far. -/
abbrev distOps : List (HloOp τ sig (Elt F)) :=
  [ unary main_while0b_v21 main_while0b_v22 (broadcastInDim S8x16384x3 ![0, 1, 2] bcast_S8x1x3_S8x16384x3_0_1_2 : (⟨S8x1x3, .f32⟩ : BufTy).Contents (Elt F) → (⟨S8x16384x3, .f32⟩ : BufTy).Contents (Elt F)),
    binary main_v10_0 main_while0b_v22 main_while0b_v23 (subf : (⟨S8x16384x3, .f32⟩ : BufTy).Contents (Elt F) → (⟨S8x16384x3, .f32⟩ : BufTy).Contents (Elt F) → (⟨S8x16384x3, .f32⟩ : BufTy).Contents (Elt F)),
    binary main_while0b_v23 main_while0b_v23 main_while0b_v24 (mulf : (⟨S8x16384x3, .f32⟩ : BufTy).Contents (Elt F) → (⟨S8x16384x3, .f32⟩ : BufTy).Contents (Elt F) → (⟨S8x16384x3, .f32⟩ : BufTy).Contents (Elt F)),
    nullary main_while0b_cst_15 (constant S_ .f32 0x00000000#32),
    binary main_while0b_v24 main_while0b_cst_15 main_while0b_v25 ((fun x v => Host.reduceAdd x v reducesTo_S8x16384x3_S8x16384_d2 h_S_) : (⟨S8x16384x3, .f32⟩ : BufTy).Contents (Elt F) → (⟨S_, .f32⟩ : BufTy).Contents (Elt F) → (⟨S8x16384, .f32⟩ : BufTy).Contents (Elt F)),
    binary main_while0b_v25 main_v10_4 main_while0b_v26 (cmpf .olt : (⟨S8x16384, .f32⟩ : BufTy).Contents (Elt F) → (⟨S8x16384, .f32⟩ : BufTy).Contents (Elt F) → (⟨S8x16384, .i1⟩ : BufTy).Contents (Elt F)) ]

theorem distOps_sub : (distOps : List (HloOp τ sig (Elt F))).Forall fun op => op.bufs ⊆ tcRefs τ sig :=
  ⟨unary_bufs_sub .., binary_bufs_sub .., binary_bufs_sub .., nullary_bufs_sub .., binary_bufs_sub .., binary_bufs_sub ..⟩

theorem distOps_fresh : (distOps : List (HloOp τ sig (Elt F))).Forall fun op => op.fresh = ∅ :=
  forall_fresh_of_map rfl

/-- What `distOps` writes, in order. -/
abbrev distOps_W : List (Ref sig .tc) := [main_while0b_v22, main_while0b_v23, main_while0b_v24, main_while0b_cst_15, main_while0b_v25, main_while0b_v26]

theorem distOps_writes : (distOps : List (HloOp τ sig (Elt F))).Forall fun op => op.writes ⊆ (distOps_W.map (Proc.devRef (τ := τ) .tc)).toFinset :=
  forall_writes_sub_of_map rfl

/-- The least distances so far. -/
abbrev nearOps : List (HloOp τ sig (Elt F)) :=
  [ TRef.ternary (.of main_while0b_v26 : TRef sig ⟨S8x16384, .i1⟩) (.of main_while0b_v25 : TRef sig ⟨S8x16384, .f32⟩) (.of main_v10_4 : TRef sig ⟨S8x16384, .f32⟩) (.of main_while0b_v27 : TRef sig ⟨S8x16384, .f32⟩) select ]

theorem nearOps_sub : (nearOps : List (HloOp τ sig (Elt F))).Forall fun op => op.bufs ⊆ tcRefs τ sig :=
  ternary_bufs_sub ..

theorem nearOps_fresh : (nearOps : List (HloOp τ sig (Elt F))).Forall fun op => op.fresh = ∅ :=
  forall_fresh_of_map rfl

/-- What `nearOps` writes, in order. -/
abbrev nearOps_W : List (Ref sig .tc) := [main_while0b_v27]

theorem nearOps_writes : (nearOps : List (HloOp τ sig (Elt F))).Forall fun op => op.writes ⊆ (nearOps_W.map (Proc.devRef (τ := τ) .tc)).toFinset :=
  forall_writes_sub_of_map rfl

/-- The index of the largest. -/
abbrev farOps : List (HloOp τ sig (Elt F)) :=
  [ TRef.nullary (.of main_while0b_call3_v0 : TRef sig ⟨S8x16384, .i32⟩) (iotaInDim S8x16384 32 1),
    TRef.nullary (.of main_while0b_call3_cst : TRef sig ⟨S_, .f32⟩) (constant S_ .f32 0xFF800000#32),
    TRef.nullary (.of main_while0b_call3_c : TRef sig ⟨S_, .i32⟩) (constantI S_ 32 0#32),
    TRef.quaternary (.of main_while0b_v27 : TRef sig ⟨S8x16384, .f32⟩) (.of main_while0b_call3_v0 : TRef sig ⟨S8x16384, .i32⟩) (.of main_while0b_call3_cst : TRef sig ⟨S_, .f32⟩) (.of main_while0b_call3_c : TRef sig ⟨S_, .i32⟩) (.of main_while0b_call3_v1_0 : TRef sig ⟨S8, .f32⟩) (fun x y u v j => (Host.argReduce reducer_argmax_f32_i32 x y u v reducesTo_S8x16384_S8_d1 h_S_ j).1),
    TRef.quaternary (.of main_while0b_v27 : TRef sig ⟨S8x16384, .f32⟩) (.of main_while0b_call3_v0 : TRef sig ⟨S8x16384, .i32⟩) (.of main_while0b_call3_cst : TRef sig ⟨S_, .f32⟩) (.of main_while0b_call3_c : TRef sig ⟨S_, .i32⟩) (.of main_while0b_v28 : TRef sig ⟨S8, .i32⟩) (fun x y u v j => (Host.argReduce reducer_argmax_f32_i32 x y u v reducesTo_S8x16384_S8_d1 h_S_ j).2) ]

theorem farOps_sub : (farOps : List (HloOp τ sig (Elt F))).Forall fun op => op.bufs ⊆ tcRefs τ sig :=
  ⟨nullary_bufs_sub .., nullary_bufs_sub .., nullary_bufs_sub .., quaternary_bufs_sub .., quaternary_bufs_sub ..⟩

theorem farOps_fresh : (farOps : List (HloOp τ sig (Elt F))).Forall fun op => op.fresh = ∅ :=
  forall_fresh_of_map rfl

/-- What `farOps` writes, in order. -/
abbrev farOps_W : List (Ref sig .tc) := [main_while0b_call3_v0, main_while0b_call3_cst, main_while0b_call3_c, main_while0b_call3_v1_0, main_while0b_v28]

theorem farOps_writes : (farOps : List (HloOp τ sig (Elt F))).Forall fun op => op.writes ⊆ (farOps_W.map (Proc.devRef (τ := τ) .tc)).toFinset :=
  forall_writes_sub_of_map rfl

/-- The counter goes up, and the carried buffers take the new values. -/
abbrev carryOps : List (HloOp τ sig (Elt F)) :=
  [ nullary main_while0b_c_16 (constantI S_ 32 1#32),
    binary main_v10_1 main_while0b_c_16 main_while0b_v29 (addi : (⟨S_, .i32⟩ : BufTy).Contents (Elt F) → (⟨S_, .i32⟩ : BufTy).Contents (Elt F) → (⟨S_, .i32⟩ : BufTy).Contents (Elt F)),
    unary main_while0b_v29 main_v10_1 id,
    unary main_while0b_v13 main_v10_2 id,
    unary main_while0b_v19 main_v10_3 id,
    unary main_while0b_v27 main_v10_4 id,
    unary main_while0b_v28 main_v10_5 id ]

theorem carryOps_sub : (carryOps : List (HloOp τ sig (Elt F))).Forall fun op => op.bufs ⊆ tcRefs τ sig :=
  ⟨nullary_bufs_sub .., binary_bufs_sub .., unary_bufs_sub .., unary_bufs_sub .., unary_bufs_sub .., unary_bufs_sub .., unary_bufs_sub ..⟩

theorem carryOps_fresh : (carryOps : List (HloOp τ sig (Elt F))).Forall fun op => op.fresh = ∅ :=
  forall_fresh_of_map rfl

/-- What `carryOps` writes, in order. -/
abbrev carryOps_W : List (Ref sig .tc) := [main_while0b_c_16, main_while0b_v29, main_v10_1, main_v10_2, main_v10_3, main_v10_4, main_v10_5]

theorem carryOps_writes : (carryOps : List (HloOp τ sig (Elt F))).Forall fun op => op.writes ⊆ (carryOps_W.map (Proc.devRef (τ := τ) .tc)).toFinset :=
  forall_writes_sub_of_map rfl

/-- The stored indices get a trailing axis. -/
abbrev wideOps : List (HloOp τ sig (Elt F)) :=
  [ unary main_v10_3 main_v11 (broadcastInDim S8x512x1 ![0, 1] bcast_S8x512_S8x512x1_0_1 : (⟨S8x512, .i32⟩ : BufTy).Contents (Elt F) → (⟨S8x512x1, .i32⟩ : BufTy).Contents (Elt F)) ]

theorem wideOps_sub : (wideOps : List (HloOp τ sig (Elt F))).Forall fun op => op.bufs ⊆ tcRefs τ sig :=
  unary_bufs_sub ..

theorem wideOps_fresh : (wideOps : List (HloOp τ sig (Elt F))).Forall fun op => op.fresh = ∅ :=
  forall_fresh_of_map rfl

/-- What `wideOps` writes, in order. -/
abbrev wideOps_W : List (Ref sig .tc) := [main_v11]

theorem wideOps_writes : (wideOps : List (HloOp τ sig (Elt F))).Forall fun op => op.writes ⊆ (wideOps_W.map (Proc.devRef (τ := τ) .tc)).toFinset :=
  forall_writes_sub_of_map rfl

/-- The points at the stored indices. -/
abbrev pickOps : List (HloOp τ sig (Elt F)) :=
  [ TRef.nullary (.of main_call4_c : TRef sig ⟨S_, .i32⟩) (constantI S_ 32 0#32),
    TRef.unary (.of main_call4_c : TRef sig ⟨S_, .i32⟩) (.of main_call4_v0 : TRef sig ⟨S8x512x1, .i32⟩) (broadcastInDim S8x512x1 ![] bcast_S_S8x512x1),
    TRef.binary (.of main_v11 : TRef sig ⟨S8x512x1, .i32⟩) (.of main_call4_v0 : TRef sig ⟨S8x512x1, .i32⟩) (.of main_call4_v1 : TRef sig ⟨S8x512x1, .i1⟩) (cmpi .slt),
    TRef.nullary (.of main_call4_c_0 : TRef sig ⟨S_, .i32⟩) (constantI S_ 32 16384#32),
    TRef.unary (.of main_call4_c_0 : TRef sig ⟨S_, .i32⟩) (.of main_call4_v2 : TRef sig ⟨S8x512x1, .i32⟩) (broadcastInDim S8x512x1 ![] bcast_S_S8x512x1),
    TRef.binary (.of main_v11 : TRef sig ⟨S8x512x1, .i32⟩) (.of main_call4_v2 : TRef sig ⟨S8x512x1, .i32⟩) (.of main_call4_v3 : TRef sig ⟨S8x512x1, .i32⟩) addi,
    TRef.ternary (.of main_call4_v1 : TRef sig ⟨S8x512x1, .i1⟩) (.of main_call4_v3 : TRef sig ⟨S8x512x1, .i32⟩) (.of main_v11 : TRef sig ⟨S8x512x1, .i32⟩) (.of main_call4_v4 : TRef sig ⟨S8x512x1, .i32⟩) select,
    TRef.nullary (.of main_call4_c_1 : TRef sig ⟨S1, .i32⟩) (constantI S1 32 16383#32),
    TRef.nullary (.of main_call4_c_2 : TRef sig ⟨S_, .i32⟩) (constantI S_ 32 0#32),
    TRef.unary (.of main_call4_c_2 : TRef sig ⟨S_, .i32⟩) (.of main_call4_v5 : TRef sig ⟨S8x512x1, .i32⟩) (broadcastInDim S8x512x1 ![] bcast_S_S8x512x1),
    TRef.binary (.of main_call4_v4 : TRef sig ⟨S8x512x1, .i32⟩) (.of main_call4_v5 : TRef sig ⟨S8x512x1, .i32⟩) (.of main_call4_v6 : TRef sig ⟨S8x512x1, .i1⟩) (cmpi .sge),
    TRef.unary (.of main_call4_c_1 : TRef sig ⟨S1, .i32⟩) (.of main_call4_v7 : TRef sig ⟨S1x1x1, .i32⟩) (broadcastInDim S1x1x1 ![2] bcast_S1_S1x1x1_2),
    TRef.unary (.of main_call4_v7 : TRef sig ⟨S1x1x1, .i32⟩) (.of main_call4_v8 : TRef sig ⟨S8x512x1, .i32⟩) (broadcastInDim S8x512x1 ![0, 1, 2] bcast_S1x1x1_S8x512x1_0_1_2),
    TRef.binary (.of main_call4_v4 : TRef sig ⟨S8x512x1, .i32⟩) (.of main_call4_v8 : TRef sig ⟨S8x512x1, .i32⟩) (.of main_call4_v9 : TRef sig ⟨S8x512x1, .i1⟩) (cmpi .sle),
    TRef.binary (.of main_call4_v6 : TRef sig ⟨S8x512x1, .i1⟩) (.of main_call4_v9 : TRef sig ⟨S8x512x1, .i1⟩) (.of main_call4_v10 : TRef sig ⟨S8x512x1, .i1⟩) andi,
    TRef.nullary (.of main_call4_c_3 : TRef sig ⟨S_, .i1⟩) (constantI S_ 1 1#1),
    TRef.binary (.of main_call4_v10 : TRef sig ⟨S8x512x1, .i1⟩) (.of main_call4_c_3 : TRef sig ⟨S_, .i1⟩) (.of main_call4_v11 : TRef sig ⟨S8x512, .i1⟩) (fun x v => Host.reduce IntOp.andi x v reducesTo_S8x512x1_S8x512_d2 h_S_),
    TRef.binary (.of main_arg0 : TRef sig ⟨S8x16384x3, .f32⟩) (.of main_call4_v4 : TRef sig ⟨S8x512x1, .i32⟩) (.of main_call4_v12 : TRef sig ⟨S8x512x3, .f32⟩) (fun x i => Host.gather gather_S8x16384x3_S8x512x1_S8x512x3_2_1_0_0_1_2_113 x i),
    TRef.unary (.of main_call4_v11 : TRef sig ⟨S8x512, .i1⟩) (.of main_call4_v13 : TRef sig ⟨S8x512x3, .i1⟩) (broadcastInDim S8x512x3 ![0, 1] bcast_S8x512_S8x512x3_0_1),
    TRef.nullary (.of main_call4_cst : TRef sig ⟨S_, .f32⟩) (constant S_ .f32 0x7FC00000#32),
    TRef.unary (.of main_call4_cst : TRef sig ⟨S_, .f32⟩) (.of main_call4_v14 : TRef sig ⟨S8x512x3, .f32⟩) (broadcastInDim S8x512x3 ![] bcast_S_S8x512x3),
    TRef.ternary (.of main_call4_v13 : TRef sig ⟨S8x512x3, .i1⟩) (.of main_call4_v12 : TRef sig ⟨S8x512x3, .f32⟩) (.of main_call4_v14 : TRef sig ⟨S8x512x3, .f32⟩) (.of main_v12 : TRef sig ⟨S8x512x3, .f32⟩) select ]

theorem pickOps_sub : (pickOps : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

theorem pickOps_fresh : (pickOps : List (HloOp τ sig (Elt F))).Forall fun op => op.fresh = ∅ :=
  forall_fresh_of_map rfl

/-- What `pickOps` writes, in order. -/
abbrev pickOps_W : List (Ref sig .tc) := [main_call4_c, main_call4_v0, main_call4_v1, main_call4_c_0, main_call4_v2, main_call4_v3, main_call4_v4, main_call4_c_1, main_call4_c_2, main_call4_v5, main_call4_v6, main_call4_v7, main_call4_v8, main_call4_v9, main_call4_v10, main_call4_c_3, main_call4_v11, main_call4_v12, main_call4_v13, main_call4_cst, main_call4_v14, main_v12]

theorem pickOps_writes : (pickOps : List (HloOp τ sig (Elt F))).Forall fun op => op.writes ⊆ (pickOps_W.map (Proc.devRef (τ := τ) .tc)).toFinset :=
  forall_writes_sub_of_map rfl

/-- The draw of the first points. -/
def drawOps : List (HloOp τ sig (Elt F)) := Classical.choose Seed.draw_line

theorem drawOps_seq : fn_randint.body (F := F) (.of main_v7) (.of main_c_2) (.of main_c_3) main_call0 = seq drawOps :=
  (Classical.choose_spec Seed.draw_line).1

theorem drawOps_above : Sim.Above 15 (drawOps (F := F)) := (Classical.choose_spec Seed.draw_line).2.1

/-- The loop's condition: the counter against 512. -/
abbrev condOps : List (HloOp τ sig (Elt F)) :=
  [ nullary main_while0c_c_12 (constantI S_ 32 512#32),
    binary main_v10_1 main_while0c_c_12 main_while0c_v13 (cmpi .slt) ]

theorem condOps_writes : (condOps : List (HloOp τ sig (Elt F))).Forall fun op =>
    op.writes ⊆ (([main_while0c_c_12, main_while0c_v13] : List (Ref sig .tc)).map (Proc.devRef (τ := τ) .tc)).toFinset :=
  forall_writes_sub_of_map rfl

/-- The stretches before the loop, of its body, and after it. -/
abbrev preI : List (List (HloOp τ sig (Elt F))) := [keyOps, drawOps, enterOps]
abbrev bodyI : List (List (HloOp τ sig (Elt F))) := [storeOps, centreOps, distOps, nearOps, farOps, carryOps]
abbrev postI : List (List (HloOp τ sig (Elt F))) := [wideOps, pickOps]

/-- A stretch is plain when each of its operations touches tensor values' buffers and determines what it writes. -/
theorem plain_cons {ops : List (HloOp τ sig (Elt F))} {rest : List (List (HloOp τ sig (Elt F)))}
    (hs : ops.Forall fun op => op.bufs ⊆ tcRefs τ sig) (hf : ops.Forall fun op => op.fresh = ∅) (h : Plain rest) : Plain (ops :: rest) :=
  .cons hs h (List.forall_iff_forall_mem.mp hf)

theorem hpre : Plain (preI (F := F)) :=
  plain_cons keyOps_sub keyOps_fresh <| plain_cons
    (List.forall_iff_forall_mem.mpr fun op h => (drawOps_above op h).1) (List.forall_iff_forall_mem.mpr fun op h => (drawOps_above op h).2.1) <|
  plain_cons enterOps_sub enterOps_fresh .nil
theorem hbodyI : Plain (bodyI (F := F)) :=
  plain_cons storeOps_sub storeOps_fresh <| plain_cons centreOps_sub centreOps_fresh <| plain_cons distOps_sub distOps_fresh <|
  plain_cons nearOps_sub nearOps_fresh <| plain_cons farOps_sub farOps_fresh <| plain_cons carryOps_sub carryOps_fresh .nil
theorem hpost : Plain (postI (F := F)) :=
  plain_cons wideOps_sub wideOps_fresh <| plain_cons pickOps_sub pickOps_fresh .nil

/-- The program is its stretches around the loop. -/
theorem main_items (c : Dev nD) : main (F := F) c = (Pipeline.chain
    [seq keyOps, fn_randint.body (.of main_v7) (.of main_c_2) (.of main_c_3) main_call0, seq enterOps, HostLoop.enter 0, seq wideOps, seq pickOps] :
    Prog (TpuEff nD τ sig (Elt F) (HostLoop.Sig (Pipeline.Sig Λ₀ (Fin 0) fun p => (pcfgs (F := F) p).Adm) 1) .tc) PUnit) := by
  rewrite [chain_seq_cons, Pipeline.chain_cons, chain_seq_cons, Pipeline.chain_cons, chain_seq_cons, Pipeline.chain_cons]
  chain_rfl

/-- The loop's body is its stretches. -/
theorem body_items : main_while0_body (F := F) = (Pipeline.chain
    [seq storeOps, seq centreOps, seq distOps, seq nearOps, seq farOps, seq carryOps] :
    Prog (TpuEff nD τ sig (Elt F) (HostLoop.Sig (Pipeline.Sig Λ₀ (Fin 0) fun p => (pcfgs (F := F) p).Adm) 1) .tc) PUnit) := by
  rewrite [chain_seq_cons, Pipeline.chain_cons, chain_seq_cons, Pipeline.chain_cons, Pipeline.chain_cons, chain_seq_cons]
  chain_rfl

variable (m : (ℓ : Loc nD τ sig) → Buf (Elt F) ℓ) (ρ : Dev nD → PrngReg)

/-- The contents before the condition's `k`-th run, counted from 0. -/
abbrev atK (k : ℕ) (c : Dev nD) : Valuation τ sig (Elt F) := atTrip condOps bodyI (entryContents preI m) k c

set_option maxRecDepth 100000 in
/-- The last stretch of the body adds one to the counter. -/
theorem ctr_step (X : Valuation τ sig (Elt F)) :
    after carryOps X (Proc.devRef .tc main_v10_1) = addi (X (Proc.devRef .tc main_v10_1)) (constantI S_ 32 1#32) := by
  after_results
  rfl

/-- The counter is zero when the loop is entered. -/
theorem ctr_entry (V : Valuation τ sig (Elt F)) : after enterOps V (Proc.devRef .tc main_v10_1) = fun _ => (0#32 : BitVec 32) := by
  after_results
  rfl

/-- Before the condition's `k`-th run the counter is `k`. -/
theorem atK_ctr (c : Dev nD) : ∀ k, atK m k c (Proc.devRef .tc main_v10_1) = fun _ => Scf.iv 0#32 1#32 k
  | 0 => by
    rw [Scf.iv_zero]; exact ctr_entry (F := F) _
  | k + 1 => by
    rw [show atK m (k + 1) c = afterL bodyI (after condOps (atK m k c)) from rfl]
    simp only [afterL_cons, afterL_nil]
    rw [ctr_step, after_of_writes_sub farOps _ farOps_writes (by decide +kernel), after_of_writes_sub nearOps _ nearOps_writes (by decide +kernel),
      after_of_writes_sub distOps _ distOps_writes (by decide +kernel), after_of_writes_sub centreOps _ centreOps_writes (by decide +kernel),
      after_of_writes_sub storeOps _ storeOps_writes (by decide +kernel), after_of_writes_sub condOps _ condOps_writes (by decide +kernel),
      atK_ctr c k, Scf.iv_succ]
    rfl

set_option backward.isDefEq.respectTransparency.types false in
/-- The condition holds exactly at the counter's first 512 values. -/
theorem cond_spec : CondSpec (pcfgs (F := F)) defs₀ loops (main_while0_cond (F := F)) condOps bodyI (entryContents preI m) 512 := by
  intro k hk c bd
  have hctr := atK_ctr m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb] <;> iassumption
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb] <;> iassumption
  iintro ⟨Hb, Hh⟩
  rw [HostLoop.elt_apply, wp_ret]; imodintro
  isplitr
  · ipureintro
    show Iff (IntOp.cmpi .slt (HloOp.result _ (atK m k c) main_v10_1 HostLoop.idx0)
        (HloOp.result _ (atK m k c) main_while0c_c_12 HostLoop.idx0) = 1#1) (k < 512)
    rw [nullary_result_ne _ _ _ _ (by decide), nullary_result, hctr]
    exact Scf.cmpi_slt_iv_ub_iff (lb := 0#32) (ub := 512#32) (st := 1#32) (by decide) (show k ≤ Scf.trips 0#32 512#32 1#32 from hk)
  isplitl [Hb]; · iexact Hb
  rw [after_cons, after_cons, after_nil]; iexact Hh

set_option maxRecDepth 100000 in
/-- Every execution ends with every buffer of a tensor value at the fold of the stretches, the body's 512 times round. -/
theorem run_fold : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = finalContents condOps preI bodyI postI 512 m c (Proc.devRef .tc b)) :=
  run_loop (pcfgs (F := F)) defs₀ loops main 0 main_while0_cond main_while0_body rfl preI bodyI postI condOps hpre hbodyI hpost
    (fun c => by rw [main_items, drawOps_seq]; rfl) (by rw [body_items]; rfl) 512 m ρ (cond_spec m)

/-- The argument is never written. -/
theorem keeps_arg (c : Dev nD) : ∀ k, atK m k c (Proc.devRef .tc main_arg0) = m (c, Proc.devRef .tc main_arg0)
  | 0 => by
    show afterL preI (launchContents m c) _ = _
    simp only [afterL_cons, afterL_nil]
    rw [after_of_writes_sub enterOps _ enterOps_writes (by decide +kernel), drawOps_above.keeps _ (by decide),
      after_of_writes_sub keyOps _ keyOps_writes (by decide +kernel)]
  | k + 1 => by
    rw [show atK m (k + 1) c = afterL bodyI (after condOps (atK m k c)) from rfl]
    simp only [afterL_cons, afterL_nil]
    rw [after_of_writes_sub carryOps _ carryOps_writes (by decide +kernel),
      after_of_writes_sub farOps _ farOps_writes (by decide +kernel), after_of_writes_sub nearOps _ nearOps_writes (by decide +kernel),
      after_of_writes_sub distOps _ distOps_writes (by decide +kernel), after_of_writes_sub centreOps _ centreOps_writes (by decide +kernel),
      after_of_writes_sub storeOps _ storeOps_writes (by decide +kernel), after_of_writes_sub condOps _ condOps_writes (by decide +kernel),
      keeps_arg c k]

/-- At the end the argument is what it was. -/
theorem final_arg (c : Dev nD) : finalContents condOps preI bodyI postI 512 m c (Proc.devRef .tc main_arg0) = m (c, Proc.devRef .tc main_arg0) := by
  simp only [finalContents, afterL_cons, afterL_nil]
  rw [after_of_writes_sub pickOps _ pickOps_writes (by decide +kernel), after_of_writes_sub wideOps _ wideOps_writes (by decide +kernel),
    after_of_writes_sub condOps _ condOps_writes (by decide +kernel)]
  exact keeps_arg m c 512

/-- The reference ends with its argument unchanged and every counter at zero. -/
theorem frame : θ_run (defs (F := F)) (onTc (τ := τ) (main (F := F))) ⟨m, fun _ => 0, ρ⟩
    (fun r => (∀ c : Dev nD, r.2.mem ((c.tc : Thread nD τ).loc main_arg0) = m ((c.tc : Thread nD τ).loc main_arg0)) ∧ r.2.sem = fun _ => 0) :=
  (θ_run defs _ _).mono (fun r h => ⟨fun c => (h c main_arg0 rfl).trans (final_arg m c), sem_eq_zero_of_no_sems (by decide) r.2⟩)
    (run_fold m ρ)

end Cert.Ref
-- ==== Proof.Spec.lean ====
/- Farthest point sampling on extended reals: what both programs compute. -/
module

public import Mathlib.Data.EReal.Basic
public import Mathlib.Data.Fintype.Basic
public import Idealize.ShloMosaic.Lib.Pointwise

@[expose] public section

noncomputable section

namespace Cert.Spec

open Idealize.ShloMosaic

/-- `n` is the first place at which `f` is largest. -/
def IsFirst {N : ℕ} (f : Fin N → EReal) (n : Fin N) : Prop := ∀ m, f m ≤ f n ∧ (m < n → f m < f n)

theorem IsFirst.unique {N : ℕ} {f : Fin N → EReal} {n n' : Fin N} (h : IsFirst f n) (h' : IsFirst f n') : n = n' := by
  rcases lt_trichotomy n n' with hl | he | hl
  · exact absurd ((h' n).2 hl) (not_lt.mpr (h n').1)
  · exact he
  · exact absurd ((h n').2 hl) (not_lt.mpr (h' n).1)

theorem exists_first {N : ℕ} (hN : 0 < N) (f : Fin N → EReal) : ∃ n, IsFirst f n := by
  haveI : Nonempty (Fin N) := ⟨⟨0, hN⟩⟩
  obtain ⟨w, hw⟩ := Finite.exists_max f
  have hne : (Finset.univ.filter fun m => f m = f w).Nonempty := ⟨w, by simp⟩
  refine ⟨(Finset.univ.filter fun m => f m = f w).min' hne, fun m => ?_⟩
  have hmem := Finset.min'_mem _ hne
  have he := (Finset.mem_filter.mp hmem).2
  rw [he]
  refine ⟨hw m, fun hm => lt_of_le_of_ne (hw m) fun hc => ?_⟩
  exact absurd (Finset.min'_le _ m (Finset.mem_filter.mpr ⟨Finset.mem_univ _, hc⟩)) (not_le.mpr hm)

/-- The first place at which `f` is largest. -/
def first (f : Fin 16384 → EReal) : Fin 16384 := Classical.choose (exists_first (by omega) f)

theorem first_eq {f : Fin 16384 → EReal} {n : Fin 16384} (h : IsFirst f n) : first f = n :=
  (Classical.choose_spec (exists_first (by omega) f)).unique h

/-- An index counted from the end when it is negative. -/
def wrap (i : BitVec 32) : BitVec 32 := if i.toInt < 0 then i + 16384#32 else i

/-- The point at an index: a fill where the index is out of range. -/
def pt (X : Fin 8 → Fin 16384 → Fin 3 → EReal) (b : Fin 8) (i : BitVec 32) (c : Fin 3) : EReal :=
  if h : 0 ≤ (wrap i).toInt ∧ (wrap i).toInt ≤ 16383 then X b ⟨(wrap i).toNat, by
    have := BitVec.toInt_eq_toNat_cond (wrap i)
    split at this <;> omega⟩ c
  else Ideal.ofBits .f32 0x7FC00000#32

theorem pt_at (X : Fin 8 → Fin 16384 → Fin 3 → EReal) (b : Fin 8) (n : Fin 16384) (c : Fin 3) :
    pt X b (BitVec.ofNat 32 n.val) c = X b n c := by
  have hn := n.isLt
  have h0 : (BitVec.ofNat 32 n.val).toNat = n.val := by rw [BitVec.toNat_ofNat]; omega
  have h1 : (BitVec.ofNat 32 n.val).toInt = (n.val : ℤ) := by
    rw [BitVec.toInt_eq_toNat_cond, h0, if_pos (by omega)]
  have hw : wrap (BitVec.ofNat 32 n.val) = BitVec.ofNat 32 n.val := by
    unfold wrap; rw [if_neg (by omega)]
  unfold pt
  rw [dif_pos (by rw [hw, h1]; omega)]
  congr 1
  exact Fin.ext (by show (wrap _).toNat = _; rw [hw, h0])

/-- The current indices and the least distances so far. -/
structure State where
  far : Fin 8 → BitVec 32
  D : Fin 8 → Fin 16384 → EReal

/-- The least distances with the current points counted. -/
def near (X : Fin 8 → Fin 16384 → Fin 3 → EReal) (s : State) (b : Fin 8) (n : Fin 16384) : EReal :=
  min ((X b n 0 - pt X b (s.far b) 0) * (X b n 0 - pt X b (s.far b) 0)
    + (X b n 1 - pt X b (s.far b) 1) * (X b n 1 - pt X b (s.far b) 1)
    + (X b n 2 - pt X b (s.far b) 2) * (X b n 2 - pt X b (s.far b) 2)) (s.D b n)

/-- One step: the distances lowered, the farthest point chosen. -/
def step (X : Fin 8 → Fin 16384 → Fin 3 → EReal) (s : State) : State where
  far b := BitVec.ofNat 32 (first (near X s b)).val
  D := near X s

/-- The state before step `k`. -/
def st (X : Fin 8 → Fin 16384 → Fin 3 → EReal) (s : State) : ℕ → State
  | 0 => s
  | k + 1 => step X (st X s k)

end Cert.Spec
-- ==== Proof.KVal.lean ====
/- One trip of the kernel's loop on extended reals. -/
module

public import proofs.«01_k».proof.Proof.KBody
public import proofs.«01_k».proof.Proof.Spec

@[expose] public section

set_option maxRecDepth 16384

noncomputable section

namespace Cert.KVal

open Cert.KernelIdeal Cert.KernelIdeal.Gen
open Idealize.ShloMosaic
open Cert.Owned (overlay)

/-- Column `128 v + l`. -/
abbrev col (v l : Fin 128) : Fin 16384 := ⟨128 * v.val + l.val, by omega⟩

theorem cst_eq (x : FVec Ideal S8x128 .f32) : cst x = x := by
  funext j
  pointwise [cst]

theorem cols_at (v : ℕ) (hv : v < 128) (X : FVec Ideal S8x16384 .f32) (b : Fin 8) (l : Fin 128) :
    cols v hv X (ix2 b l) = X (ix2 b (col ⟨v, hv⟩ l)) := by
  unfold cols
  congr 1
  funext a
  refine Fin.ext ?_
  fin_cases a
  · show 0 + 1 * b.val = b.val
    omega
  · show 128 * v + 1 * l.val = 128 * v + l.val
    omega

/-- The distances of all columns lowered by those to the points of `C`. -/
def lowered (P : Pts Ideal) (C : Ctr Ideal) (D : FVec Ideal S8x16384 .f32) (b : Fin 8) (v l : Fin 128) : EReal :=
  min ((P.x (ix2 b (col v l)) - C.x (ix2 b l)) * (P.x (ix2 b (col v l)) - C.x (ix2 b l))
    + (P.y (ix2 b (col v l)) - C.y (ix2 b l)) * (P.y (ix2 b (col v l)) - C.y (ix2 b l))
    + (P.z (ix2 b (col v l)) - C.z (ix2 b l)) * (P.z (ix2 b (col v l)) - C.z (ix2 b l))) (D (ix2 b (col v l)))

/-- `X` holds the lowered distances in the slices below `t` and the old ones in the rest. -/
def Mixed (P : Pts Ideal) (C : Ctr Ideal) (D : FVec Ideal S8x16384 .f32) (t : ℕ) (X : FVec Ideal S8x16384 .f32) : Prop :=
  ∀ b v l, X (ix2 b (col v l)) = if v.val < t then lowered P C D b v l else D (ix2 b (col v l))

theorem cand_d {P : Pts Ideal} {C : Ctr Ideal} {D X : FVec Ideal S8x16384 .f32} {t : ℕ} (ht : t < 128) (h : Mixed P C D t X)
    (b : Fin 8) (l : Fin 128) : (cand P C X t ht).d (ix2 b l) = lowered P C D b ⟨t, ht⟩ l := by
  have hX : cols t ht X (ix2 b l) = D (ix2 b (col ⟨t, ht⟩ l)) := by
    rw [cols_at, h, if_neg (by simp)]
  unfold cand ndist lowered
  simp only [cst_eq]
  pointwise
  rw [hX]
  simp only [cols_at]

theorem mixed_succ {P : Pts Ideal} {C : Ctr Ideal} {D X : FVec Ideal S8x16384 .f32} {t : ℕ} (ht : t < 128) (h : Mixed P C D t X) :
    Mixed P C D (t + 1) (after P C X t ht) := by
  intro b v l
  unfold after putCols overlay
  split
  · next hin =>
    have h1 : 128 * t ≤ 128 * v.val + l.val ∧ 128 * v.val + l.val < 128 * t + 128 := hin 1
    have hv : v = ⟨t, ht⟩ := Fin.ext (show v.val = t by omega)
    subst hv
    rw [if_pos (by simp), cst_eq, ← cand_d ht h b l]
    congr 1
    funext a
    refine Fin.ext ?_
    rw [Rect.unitLocal_val]
    fin_cases a
    · show b.val - 0 = b.val
      omega
    · show 128 * t + l.val - 128 * t = l.val
      omega
  · next hin =>
    have hv : v.val ≠ t := by
      intro hv
      apply hin
      intro a
      fin_cases a
      · show 0 ≤ b.val ∧ b.val < 0 + 8
        omega
      · show 128 * t ≤ 128 * v.val + l.val ∧ 128 * v.val + l.val < 128 * t + 128
        omega
    rw [h b v l]
    by_cases hl : v.val < t
    · rw [if_pos hl, if_pos (by omega)]
    · rw [if_neg hl, if_neg (by omega)]

/-- `v` is the first slice of `Q` at which `f` is largest. -/
def Top (f : Fin 128 → EReal) (Q : ℕ → Prop) (v : Fin 128) : Prop :=
  Q v.val ∧ ∀ u : Fin 128, Q u.val → f u ≤ f v ∧ (u < v → f u < f v)

/-- Of two tops the later one stays where it is larger, or as large and earlier. -/
theorem Top.right {f : Fin 128 → EReal} {Q R : ℕ → Prop} {v w : Fin 128} (hv : Top f Q v) (hw : Top f R w)
    (h : f v < f w ∨ (f w = f v ∧ w < v)) : Top f (fun u => Q u ∨ R u) w := by
  refine ⟨.inr hw.1, fun u hu => ?_⟩
  rcases hu with hu | hu
  · rcases h with h | ⟨h, hl⟩
    · exact ⟨((hv.2 u hu).1.trans_lt h).le, fun _ => (hv.2 u hu).1.trans_lt h⟩
    · rw [h]
      exact ⟨(hv.2 u hu).1, fun huw => (hv.2 u hu).2 (huw.trans hl)⟩
  · exact hw.2 u hu

/-- Otherwise the other one stays. -/
theorem Top.left {f : Fin 128 → EReal} {Q R : ℕ → Prop} {v w : Fin 128} (hv : Top f Q v) (hw : Top f R w)
    (h : ¬ (f v < f w ∨ (f w = f v ∧ w < v))) : Top f (fun u => Q u ∨ R u) v := by
  have h1 : f w ≤ f v := not_lt.mp fun hc => h (.inl hc)
  have h2 : f w = f v → v ≤ w := fun he => not_lt.mp fun hc => h (.inr ⟨he, hc⟩)
  refine ⟨.inl hv.1, fun u hu => ?_⟩
  rcases hu with hu | hu
  · exact hv.2 u hu
  · refine ⟨(hw.2 u hu).1.trans h1, fun huv => ?_⟩
    rcases lt_or_eq_of_le h1 with hl | he
    · exact (hw.2 u hu).1.trans_lt hl
    · rw [← he]
      exact (hw.2 u hu).2 (huv.trans_le (h2 he))

/-- At row `b`, lane `l`, `A` is the record of slice `v`. -/
def Rec (P : Pts Ideal) (C : Ctr Ideal) (D : FVec Ideal S8x16384 .f32) (A : Best Ideal) (b : Fin 8) (l v : Fin 128) : Prop :=
  A.d (ix2 b l) = lowered P C D b v l ∧ A.i (ix2 b l) = P.i (ix2 b (col v l))
    ∧ A.x (ix2 b l) = P.x (ix2 b (col v l)) ∧ A.y (ix2 b l) = P.y (ix2 b (col v l)) ∧ A.z (ix2 b l) = P.z (ix2 b (col v l))

/-- In every row and lane, `A` is the record of the first slice, among those of `Q`, at which the lowered distance is largest. -/
def Leads (P : Pts Ideal) (C : Ctr Ideal) (D : FVec Ideal S8x16384 .f32) (Q : ℕ → Prop) (A : Best Ideal) : Prop :=
  ∀ b l, ∃ v : Fin 128, Rec P C D A b l v ∧ Top (fun u => lowered P C D b u l) Q v

variable {P : Pts Ideal} {C : Ctr Ideal} {D X : FVec Ideal S8x16384 .f32}

theorem Leads.of_iff {Q R : ℕ → Prop} {A : Best Ideal} (h : Leads P C D Q A) (hQ : ∀ u, u < 128 → (Q u ↔ R u)) : Leads P C D R A := by
  intro b l
  obtain ⟨v, hr, ht⟩ := h b l
  exact ⟨v, hr, (hQ _ v.isLt).mp ht.1, fun u hu => ht.2 u ((hQ _ u.isLt).mpr hu)⟩

theorem cand_leads {t : ℕ} (ht : t < 128) (h : Mixed P C D t X) : Leads P C D (fun u => u = t) (cand P C X t ht) := by
  intro b l
  refine ⟨⟨t, ht⟩, ⟨cand_d ht h b l, ?_, ?_, ?_, ?_⟩, rfl, ?_⟩
  · show cst (cols t ht P.i) _ = _
    rw [cst_eq, cols_at]
  · show cst (cols t ht P.x) _ = _
    rw [cst_eq, cols_at]
  · show cst (cols t ht P.y) _ = _
    rw [cst_eq, cols_at]
  · show cst (cols t ht P.z) _ = _
    rw [cst_eq, cols_at]
  · rintro u hu
    have : u = ⟨t, ht⟩ := Fin.ext hu
    subst this
    exact ⟨le_refl _, fun h => absurd h (lt_irrefl _)⟩

theorem select_at (p : IVec S8x128 1) (x y : FVec Ideal S8x128 .f32) (j : S8x128.Idx) :
    select p x y j = if p j = 1#1 then x j else y j := rfl

theorem ogt_at (x y : FVec Ideal S8x128 .f32) (j : S8x128.Idx) : cmpf .ogt x y j = 1#1 ↔ y j < x j := by
  pointwise
  by_cases h : y j < x j <;> simp [h]

/-- A record chosen by a mask is the record that the mask points at. -/
theorem rec_select {A N : Best Ideal} {b : Fin 8} {l v w : Fin 128} (hA : Rec P C D A b l v) (hN : Rec P C D N b l w)
    (p : IVec S8x128 1) :
    Rec P C D ⟨select p N.d A.d, select p N.i A.i, select p N.x A.x, select p N.y A.y, select p N.z A.z⟩ b l
      (if p (ix2 b l) = 1#1 then w else v) := by
  unfold Rec
  simp only [select_at]
  by_cases h : p (ix2 b l) = 1#1
  · simp only [if_pos h]; exact hN
  · simp only [if_neg h]; exact hA

theorem better_leads {Q : ℕ → Prop} {A N : Best Ideal} {t : ℕ} (hQ : ∀ u, Q u → u < t) (hA : Leads P C D Q A)
    (hN : Leads P C D (fun u => u = t) N) : Leads P C D (fun u => Q u ∨ u = t) (better N A) := by
  intro b l
  obtain ⟨v, hv, tv⟩ := hA b l
  obtain ⟨w, hw, tw⟩ := hN b l
  refine ⟨_, rec_select hv hw (cmpf .ogt N.d A.d), ?_⟩
  have hwv : ¬ w < v := by
    have h1 := hQ _ tv.1
    have h2 : w.val = t := tw.1
    exact fun hc => by have : w.val < v.val := hc; omega
  by_cases h : cmpf .ogt N.d A.d (ix2 b l) = 1#1
  · rw [if_pos h]
    rw [ogt_at, hv.1, hw.1] at h
    exact tv.right tw (.inl h)
  · rw [if_neg h]
    rw [ogt_at, hv.1, hw.1] at h
    exact tv.left tw (by rintro (hc | hc); exacts [h hc, hwv hc.2])

/-- The last `r` pairs bring the distances and both running bests to the end. -/
theorem pairs_leads : ∀ (r : ℕ) (X : FVec Ideal S8x16384 .f32) (A B : Best Ideal), r ≤ 63 → Mixed P C D (128 - 2 * r) X →
    Leads P C D (fun u => u % 2 = 0 ∧ u < 128 - 2 * r) A → Leads P C D (fun u => u % 2 = 1 ∧ u < 128 - 2 * r) B →
    Mixed P C D 128 (pairsV P C r X A B).1 ∧ Leads P C D (fun u => u % 2 = 0) (pairsV P C r X A B).2.1
      ∧ Leads P C D (fun u => u % 2 = 1) (pairsV P C r X A B).2.2
  | 0, X, A, B, _, hX, hA, hB =>
    ⟨hX, hA.of_iff fun u hu => ⟨fun h => h.1, fun h => ⟨h, hu⟩⟩, hB.of_iff fun u hu => ⟨fun h => h.1, fun h => ⟨h, hu⟩⟩⟩
  | r + 1, X, A, B, hr, hX, hA, hB => by
    have e : 128 - 2 * (r + 1) = 126 - 2 * r := by omega
    rw [e] at hX hA hB
    have hX1 := mixed_succ (by omega) hX
    have hX2 := mixed_succ (by omega) hX1
    unfold pairsV
    refine pairs_leads r _ _ _ (by omega) ?_ ?_ ?_
    · have e' : 128 - 2 * r = 126 - 2 * r + 1 + 1 := by omega
      rw [e']; exact hX2
    · refine (better_leads (fun u h => h.2) hA (cand_leads (by omega) hX)).of_iff fun u hu => ?_
      constructor
      · rintro (⟨h1, h2⟩ | h)
        · exact ⟨h1, by omega⟩
        · exact ⟨by omega, by omega⟩
      · rintro ⟨h1, h2⟩
        by_cases h3 : u < 126 - 2 * r
        · exact .inl ⟨h1, h3⟩
        · exact .inr (by omega)
    · refine (better_leads (fun u h => by have := h.2; omega) hB (cand_leads (by omega) hX1)).of_iff fun u hu => ?_
      constructor
      · rintro (⟨h1, h2⟩ | h)
        · exact ⟨h1, by omega⟩
        · exact ⟨by omega, by omega⟩
      · rintro ⟨h1, h2⟩
        by_cases h3 : u < 126 - 2 * r
        · exact .inl ⟨h1, h3⟩
        · exact .inr (by omega)

/-- A whole sweep: all distances lowered, the even and the odd slices' bests found. -/
theorem sweep_leads (P : Pts Ideal) (C : Ctr Ideal) (D : FVec Ideal S8x16384 .f32) :
    Mixed P C D 128 (sweep P C D).1 ∧ Leads P C D (fun u => u % 2 = 0) (sweep P C D).2.1
      ∧ Leads P C D (fun u => u % 2 = 1) (sweep P C D).2.2 := by
  have h0 : Mixed P C D 0 D := fun b v l => by rw [if_neg (by omega)]
  have h1 := mixed_succ (by omega) h0
  have h2 := mixed_succ (by omega) h1
  unfold sweep
  refine pairs_leads 63 _ _ _ (by omega) h2 ?_ ?_
  · exact (cand_leads (by omega) h0).of_iff fun u hu => ⟨fun h => ⟨by omega, by omega⟩, fun h => by omega⟩
  · exact (cand_leads (by omega) h1).of_iff fun u hu => ⟨fun h => ⟨by omega, by omega⟩, fun h => by omega⟩

theorem beats_at (a1 a2 b1 b2 : FVec Ideal S8x128 .f32) (j : S8x128.Idx) :
    beats a1 a2 b1 b2 j = 1#1 ↔ (a1 j < b1 j ∨ (b1 j = a1 j ∧ b2 j < a2 j)) := by
  unfold beats
  pointwise
  by_cases h : a1 j < b1 j <;> by_cases h' : b1 j = a1 j <;> by_cases h'' : b2 j < a2 j <;> simp [h, h', h''] <;> decide

theorem ofBits_bot : Ideal.ofBits .f32 0xFF800000#32 = ⊥ := by
  simp [Ideal.ofBits, Ideal.ieee]

theorem ofBits_neg_one : Ideal.ofBits .f32 0xBF800000#32 ≤ 0 := by
  simp [Ideal.ofBits, Ideal.ieee]
  rw [← EReal.coe_mul]
  exact EReal.coe_nonneg.mpr (by positivity)

/-- The largest value of a row is the value at any place where the row is largest. -/
theorem fold_max (g : Fin 128 → EReal) (L : Fin 128) (hL : ∀ m, g m ≤ g L) :
    Finset.fold max (Ideal.ofBits .f32 0xFF800000#32) g Finset.univ = g L := by
  rw [ofBits_bot]
  refine le_antisymm (Finset.fold_max_le _ |>.mpr ⟨bot_le, fun m _ => hL m⟩) ?_
  exact Finset.le_fold_max _ |>.mpr (.inr ⟨L, Finset.mem_univ _, le_refl _⟩)

/-- Ones and zeros of a mask as reals. -/
theorem mask_real (p : Prop) [Decidable p] :
    FloatOps.sitofp (F := Ideal) FTy.f32 (BitVec.setWidth 32 (BitVec.ofBool (decide p))) = if p then (1 : EReal) else 0 := by
  by_cases h : p
  · simp only [h, decide_true, if_true]
    show ((((BitVec.setWidth 32 (BitVec.ofBool true)).toInt : ℝ)) : EReal) = 1
    rw [show (BitVec.setWidth 32 (BitVec.ofBool true)).toInt = 1 from by decide]
    norm_num
  · simp only [h, decide_false, if_false]
    show ((((BitVec.setWidth 32 (BitVec.ofBool false)).toInt : ℝ)) : EReal) = 0
    rw [show (BitVec.setWidth 32 (BitVec.ofBool false)).toInt = 0 from by decide]
    norm_num

/-- The number of marked places up to `l` is one exactly when the only one of them is `l`. -/
theorem count_one (p : Fin 128 → Prop) [DecidablePred p] (L l : Fin 128) (hL : p L) (hfirst : ∀ m, p m → L ≤ m) (hl : p l) :
    (∑ x : Fin 128, (if p x then (1 : EReal) else 0) * (if x ≤ l then 1 else 0)) = 1 ↔ l = L := by
  have h0 : ∀ x : Fin 128, (0 : EReal) ≤ (if p x then (1 : EReal) else 0) * (if x ≤ l then 1 else 0) := by
    intro x
    by_cases h1 : p x <;> by_cases h2 : x ≤ l <;> simp [h1, h2]
  constructor
  · intro h
    by_contra hne
    have hle : L ≤ l := hfirst l hl
    have h2 := Finset.sum_le_sum_of_subset_of_nonneg (Finset.subset_univ ({L, l} : Finset (Fin 128))) fun x _ _ => h0 x
    rw [h, Finset.sum_pair (Ne.symm hne)] at h2
    simp only [hL, hl, hle, le_refl, if_true, mul_one] at h2
    have h3 : ((2 : ℝ) : EReal) ≤ ((1 : ℝ) : EReal) := by
      convert h2 using 1
      · norm_num
        rfl
      · exact EReal.coe_one
    rw [EReal.coe_le_coe_iff] at h3
    norm_num at h3
  · rintro rfl
    rw [Finset.sum_eq_single l]
    · simp [hl]
    · intro x _ hx
      by_cases h1 : p x
      · rw [if_neg (c := x ≤ l) (fun h2 => hx (le_antisymm h2 (hfirst x h1))), mul_zero]
      · rw [if_neg h1, zero_mul]
    · intro h; exact absurd (Finset.mem_univ _) h

/-- Marked is the first lane of the row at which the row is largest, and no other. -/
theorem firstLane_at (v : FVec Ideal S8x128 .f32) (T : FVec Ideal S128x128 .f32)
    (hT : ∀ r c : Fin 128, T (ix2 r c) = if r ≤ c then 1 else 0) (b : Fin 8) (L : Fin 128)
    (hL : Spec.IsFirst (fun l => v (ix2 b l)) L) (l : Fin 128) : firstLane v T (ix2 b l) = 1#1 ↔ l = L := by
  pointwise [firstLane, rowMax]
  rw [fold_max (fun x => v (ix2 b x)) L fun m => (hL m).1]
  simp only [mask_real, hT]
  have hc := fun h => count_one (fun x => v (ix2 b x) = v (ix2 b L)) L l rfl
    (fun m hm => not_lt.mp fun hlt => ne_of_lt ((hL m).2 hlt) hm) h
  have hne : v (ix2 b l) ≠ v (ix2 b L) → l ≠ L := fun h e => h (by rw [e])
  revert hc
  generalize (∑ x : Fin 128, (if v (ix2 b x) = v (ix2 b L) then (1 : EReal) else 0) * (if x ≤ l then 1 else 0)) = N
  intro hc
  by_cases h : v (ix2 b l) = v (ix2 b L)
  · rw [← hc h]
    by_cases hs : N = 1 <;> simp [h, hs] <;> decide
  · by_cases hs : N = 1 <;> simp [h, hs, hne h] <;> decide

/-- The marked lane's value, over the whole row. -/
theorem pick_at (f : IVec S8x128 1) (w : BitVec 32) (v : FVec Ideal S8x128 .f32) (b : Fin 8) (L : Fin 128)
    (hf : ∀ l, f (ix2 b l) = 1#1 ↔ l = L) (hw : Ideal.ofBits .f32 w ≤ v (ix2 b L)) (l : Fin 128) :
    pick f w v (ix2 b l) = v (ix2 b L) := by
  pointwise [pick, rowMax]
  have hs : ∀ x, Scalar.select (f (ix2 b x)) (v (ix2 b x)) (Ideal.ofBits FTy.f32 w)
      = if x = L then v (ix2 b x) else Ideal.ofBits FTy.f32 w := by
    intro x
    show (if f (ix2 b x) = 1#1 then _ else _) = _
    simp only [hf]
  simp only [hs]
  rw [fold_max _ L fun m => ?_, if_pos rfl]
  rw [if_pos rfl]
  by_cases hm : m = L
  · rw [if_pos hm, hm]
  · rw [if_neg hm]; exact hw

/-- What a trip chooses: in every row the column whose lowered distance is largest, the first in the original order. -/
theorem step_at (P : Pts Ideal) (T : FVec Ideal S128x128 .f32) (S : Carry Ideal)
    (hT : ∀ r c : Fin 128, T (ix2 r c) = if r ≤ c then 1 else 0)
    (hI : ∀ b v l, P.i (ix2 b (col v l)) = (((128 * l.val + v.val : ℕ) : ℝ) : EReal)) (b : Fin 8) :
    ∃ v L : Fin 128,
      (∀ u m : Fin 128, lowered P S.ctr S.D b u m ≤ lowered P S.ctr S.D b v L
        ∧ (128 * m.val + u.val < 128 * L.val + v.val → lowered P S.ctr S.D b u m < lowered P S.ctr S.D b v L))
      ∧ ∀ l, (stepV P T S).far (ix2 b l) = P.i (ix2 b (col v L)) ∧ (stepV P T S).ctr.x (ix2 b l) = P.x (ix2 b (col v L))
        ∧ (stepV P T S).ctr.y (ix2 b l) = P.y (ix2 b (col v L)) ∧ (stepV P T S).ctr.z (ix2 b l) = P.z (ix2 b (col v L)) := by
  obtain ⟨-, hA, hB⟩ := sweep_leads P S.ctr S.D
  unfold stepV choose chosen
  generalize (sweep P S.ctr S.D).2.1 = A at hA ⊢
  generalize (sweep P S.ctr S.D).2.2 = B at hB ⊢
  generalize hp : beats A.d A.i B.d B.i = p
  have hM : Leads P S.ctr S.D (fun _ => True) ⟨select p B.d A.d, select p B.i A.i, select p B.x A.x, select p B.y A.y, select p B.z A.z⟩ := by
    intro b l
    obtain ⟨v, hv, tv⟩ := hA b l
    obtain ⟨w, hw, tw⟩ := hB b l
    refine ⟨_, rec_select hv hw p, ?_⟩
    have hlt : ((((128 * l.val + w.val : ℕ) : ℝ) : EReal) < (((128 * l.val + v.val : ℕ) : ℝ) : EReal)) ↔ w < v := by
      rw [EReal.coe_lt_coe_iff, Nat.cast_lt, Fin.lt_def]
      omega
    have hall : ∀ u : ℕ, (u % 2 = 0 ∨ u % 2 = 1) ↔ True := fun u => by simp; omega
    by_cases h : p (ix2 b l) = 1#1
    · rw [if_pos h]
      rw [← hp, beats_at, hv.1, hw.1, hv.2.1, hw.2.1, hI, hI, hlt] at h
      have := tv.right tw h
      simpa only [hall] using this
    · rw [if_neg h]
      rw [← hp, beats_at, hv.1, hw.1, hv.2.1, hw.2.1, hI, hI, hlt] at h
      have := tv.left tw h
      simpa only [hall] using this
  clear hA hB
  obtain ⟨L, hL⟩ := Spec.exists_first (by omega) (fun l : Fin 128 => select p B.d A.d (ix2 b l))
  obtain ⟨v, hv, tv⟩ := hM b L
  have hmark := firstLane_at (select p B.d A.d) T hT b L hL
  refine ⟨v, L, ?_, fun l => ⟨?_, ?_, ?_, ?_⟩⟩
  · intro u m
    obtain ⟨w, hw, tw⟩ := hM b m
    have e1 : select p B.d A.d (ix2 b m) = lowered P S.ctr S.D b w m := hw.1
    have e2 : select p B.d A.d (ix2 b L) = lowered P S.ctr S.D b v L := hv.1
    have hm := hL m
    simp only [e1, e2] at hm
    refine ⟨(tw.2 u trivial).1.trans hm.1, fun hlt => ?_⟩
    rcases lt_trichotomy m L with hml | he | hml
    · exact (tw.2 u trivial).1.trans_lt (hm.2 hml)
    · subst he
      exact (tv.2 u trivial).2 (by rw [Fin.lt_def]; omega)
    · rw [Fin.lt_def] at hml
      omega
  · rw [← hv.2.1]
    refine pick_at _ _ _ b L hmark ?_ l
    refine ofBits_neg_one.trans ?_
    have : select p B.i A.i (ix2 b L) = P.i (ix2 b (col v L)) := hv.2.1
    rw [this, hI]
    exact_mod_cast Nat.zero_le _
  · rw [← hv.2.2.1]
    exact pick_at _ _ _ b L hmark (by rw [ofBits_bot]; exact bot_le) l
  · rw [← hv.2.2.2.1]
    exact pick_at _ _ _ b L hmark (by rw [ofBits_bot]; exact bot_le) l
  · rw [← hv.2.2.2.2]
    exact pick_at _ _ _ b L hmark (by rw [ofBits_bot]; exact bot_le) l

/-- The distances that a trip leaves. -/
theorem step_D (P : Pts Ideal) (T : FVec Ideal S128x128 .f32) (S : Carry Ideal) (b : Fin 8) (v l : Fin 128) :
    (stepV P T S).D (ix2 b (col v l)) = lowered P S.ctr S.D b v l := by
  show (sweep P S.ctr S.D).1 _ = _
  rw [(sweep_leads P S.ctr S.D).1, if_pos v.isLt]

end Cert.KVal
-- ==== Proof.KTrips.lean ====
/- The kernel's trips follow the steps of the sampling. -/
module

public import proofs.«01_k».proof.Proof.KVal

@[expose] public section

set_option maxRecDepth 16384

noncomputable section

namespace Cert.KVal

open Cert.KernelIdeal Cert.KernelIdeal.Gen
open Idealize.ShloMosaic

/-- The number, in the original order, of the point in column `128 v + l`. -/
abbrev orig (v l : Fin 128) : Fin 16384 := ⟨128 * l.val + v.val, by omega⟩

theorem exists_orig (n : Fin 16384) : ∃ v l, n = orig v l :=
  ⟨⟨n.val % 128, by omega⟩, ⟨n.val / 128, by omega⟩, Fin.ext (by show n.val = 128 * (n.val / 128) + n.val % 128; omega)⟩

variable (X : Fin 8 → Fin 16384 → Fin 3 → EReal)

/-- `P` holds the points of `X`, laid out by column, and their numbers. -/
structure Laid (P : Pts Ideal) : Prop where
  x : ∀ b v l, P.x (ix2 b (col v l)) = X b (orig v l) 0
  y : ∀ b v l, P.y (ix2 b (col v l)) = X b (orig v l) 1
  z : ∀ b v l, P.z (ix2 b (col v l)) = X b (orig v l) 2
  i : ∀ b v l, P.i (ix2 b (col v l)) = (((128 * l.val + v.val : ℕ) : ℝ) : EReal)

/-- What the kernel carries is the state `s`. -/
structure Carries (S : Carry Ideal) (s : Spec.State) : Prop where
  far : ∀ b l, S.far (ix2 b l) = (((s.far b).toInt : ℝ) : EReal)
  x : ∀ b l, S.ctr.x (ix2 b l) = Spec.pt X b (s.far b) 0
  y : ∀ b l, S.ctr.y (ix2 b l) = Spec.pt X b (s.far b) 1
  z : ∀ b l, S.ctr.z (ix2 b l) = Spec.pt X b (s.far b) 2
  D : ∀ b v l, S.D (ix2 b (col v l)) = s.D b (orig v l)

variable {X}

theorem lowered_eq {P : Pts Ideal} (hP : Laid X P) {S : Carry Ideal} {s : Spec.State} (h : Carries X S s) (b : Fin 8) (v l : Fin 128) :
    lowered P S.ctr S.D b v l = Spec.near X s b (orig v l) := by
  unfold lowered Spec.near
  rw [hP.x, hP.y, hP.z, h.x, h.y, h.z, h.D]

theorem toInt_ofNat (n : Fin 16384) : (BitVec.ofNat 32 n.val).toInt = (n.val : ℤ) := by
  have hn := n.isLt
  have h0 : (BitVec.ofNat 32 n.val).toNat = n.val := by rw [BitVec.toNat_ofNat]; omega
  rw [BitVec.toInt_eq_toNat_cond, h0, if_pos (by omega)]

/-- One trip is one step. -/
theorem carries_step {P : Pts Ideal} (hP : Laid X P) (T : FVec Ideal S128x128 .f32)
    (hT : ∀ r c : Fin 128, T (ix2 r c) = if r ≤ c then 1 else 0) {S : Carry Ideal} {s : Spec.State} (h : Carries X S s) :
    Carries X (stepV P T S) (Spec.step X s) := by
  have hch : ∀ b, ∃ v L : Fin 128, (Spec.step X s).far b = BitVec.ofNat 32 (orig v L).val
      ∧ ∀ l, (stepV P T S).far (ix2 b l) = P.i (ix2 b (col v L)) ∧ (stepV P T S).ctr.x (ix2 b l) = P.x (ix2 b (col v L))
        ∧ (stepV P T S).ctr.y (ix2 b l) = P.y (ix2 b (col v L)) ∧ (stepV P T S).ctr.z (ix2 b l) = P.z (ix2 b (col v L)) := by
    intro b
    obtain ⟨v, L, hf, hv⟩ := step_at P T S hT hP.i b
    refine ⟨v, L, ?_, hv⟩
    have : Spec.first (Spec.near X s b) = orig v L := Spec.first_eq fun m => by
      obtain ⟨u, m', rfl⟩ := exists_orig m
      have := hf u m'
      rw [lowered_eq hP h, lowered_eq hP h] at this
      exact this
    show BitVec.ofNat 32 (Spec.first (Spec.near X s b)).val = _
    rw [this]
  constructor
  · intro b l
    obtain ⟨v, L, e, hv⟩ := hch b
    rw [e, toInt_ofNat, (hv l).1, hP.i]
    norm_cast
  · intro b l
    obtain ⟨v, L, e, hv⟩ := hch b
    rw [e, Spec.pt_at, (hv l).2.1, hP.x]
  · intro b l
    obtain ⟨v, L, e, hv⟩ := hch b
    rw [e, Spec.pt_at, (hv l).2.2.1, hP.y]
  · intro b l
    obtain ⟨v, L, e, hv⟩ := hch b
    rw [e, Spec.pt_at, (hv l).2.2.2, hP.z]
  · intro b v l
    rw [step_D, lowered_eq hP h]
    rfl

/-- Before trip `k` the kernel carries the state before step `k`. -/
theorem carries_at {P : Pts Ideal} (hP : Laid X P) (T : FVec Ideal S128x128 .f32)
    (hT : ∀ r c : Fin 128, T (ix2 r c) = if r ≤ c then 1 else 0) {S : Carry Ideal} {s : Spec.State} (h : Carries X S s) :
    ∀ k, Carries X (carryAt P T S k) (Spec.st X s k)
  | 0 => h
  | k + 1 => carries_step hP T hT (carries_at hP T hT h k)

/-- The first trip carries the first numbers and points over the lanes, and the starting distances. -/
theorem carries_start (x5 : FVec Ideal S8x1 .f32) (x6 : FVec Ideal S8x3 .f32) (far : Fin 8 → BitVec 32)
    (h5 : ∀ b, x5 (ix2 b 0) = (((far b).toInt : ℝ) : EReal)) (h6 : ∀ b c, x6 (ix2 b c) = Spec.pt X b (far b) c) :
    Carries X (startV x5 x6) ⟨far, fun _ _ => Ideal.ofBits .f32 0x501502F9#32⟩ := by
  constructor
  · intro b l
    rw [← h5 b]
    unfold startV
    pointwise [k0_pay2]
  · intro b l
    rw [← h6 b 0]
    unfold startV
    pointwise [k0_pay3]
  · intro b l
    rw [← h6 b 1]
    unfold startV
    pointwise [k0_pay4]
  · intro b l
    rw [← h6 b 2]
    unfold startV
    pointwise [k0_pay5]
  · intro b v l
    unfold startV
    pointwise [k0_pay1]

/-- An output's element. -/
theorem rows_at (g : ℕ → FVec Ideal S8x128 .f32) (k : Fin 512) (b : Fin 8) (a : EReal) (h : ∀ l, g k.val (ix2 b l) = a) :
    rowsV g (ix2 k b) = a := by
  unfold rowsV
  pointwise [k0_pay8]
  have he : ∀ x y : Fin 8, IntOp.cmpi .eq (BitVec.ofNat 32 x.val) (BitVec.ofNat 32 y.val) = if x = y then 1#1 else 0#1 := by decide
  rw [Finset.sum_eq_single b]
  · rw [he, if_pos rfl]
    exact h _
  · intro x _ hx
    rw [he, if_neg hx]
    rfl
  · intro hb; exact absurd (Finset.mem_univ _) hb

end Cert.KVal
-- ==== Proof.Take.lean ====
/- Picking points by number: the gather that both programs print, read at an element. -/
module

public import proofs.«01_k».proof.Proof.Spec
public import Idealize.ShloMosaic.Lib.Pipeline.ValueKit
public import Idealize.ShloMosaic.Lib.WordCmp

@[expose] public section

set_option maxRecDepth 16384

namespace Cert.Take

open Idealize.ShloMosaic

/-- The dimension numbers of the gather of one point per row and place. -/
abbrev dims (K : ℕ) (wf : GatherDims.WF ⟨3, ![8, 16384, 3]⟩ ⟨3, ![8, K, 1]⟩ ⟨3, ![8, K, 3]⟩ [2] [1] [0] [1] [0] 2 ![1, 1, 3]) : GatherDims (⟨3, ![8, 16384, 3]⟩ : Shape) (⟨3, ![8, K, 1]⟩ : Shape) (⟨3, ![8, K, 3]⟩ : Shape) where
  offsetDims := [2]
  collapsedSliceDims := [1]
  operandBatchingDims := [0]
  startIndicesBatchingDims := [0]
  startIndexMap := [1]
  indexVectorDim := 2
  sliceSizes := ![1, 1, 3]
  wf := wf

/-- Where the index word is a point's number, the gather reads that point. -/
theorem gather_at {α : Type} {K : ℕ} (wf) (x : (⟨3, ![8, 16384, 3]⟩ : Shape).Idx → α) (idx : IVec ⟨3, ![8, K, 1]⟩ 32)
    (b : Fin 8) (k : Fin K) (c : Fin 3) (n : Fin 16384) (hn : (idx (ix3 b k (0 : Fin 1))).toInt.toNat = n.val) :
    Host.gather (dims K wf) x idx (ix3 b k c) = x (ix3 b n c) := by
  unfold Host.gather
  refine congrArg x (funext fun a => Fin.ext ?_)
  match a with
  | ⟨0, _⟩ => show 0 + b.val + 0 = b.val
              omega
  | ⟨1, _⟩ =>
    have h : (dims K wf).siIdx (ix3 b k c) ⟨0, Nat.one_pos⟩ = ix3 b k (0 : Fin 1) := by
      funext q
      match q with
      | ⟨0, _⟩ => rfl
      | ⟨1, _⟩ => rfl
      | ⟨2, _⟩ => rfl
    show min (idx ((dims K wf).siIdx (ix3 b k c) ⟨0, Nat.one_pos⟩)).toInt.toNat 16383 + 0 + 0 = n.val
    rw [h, hn]
    omega
  | ⟨2, _⟩ => show 0 + 0 + c.val = c.val
              omega

/-- The pick as the programs print it: the number wrapped, tested against the bounds, and the gathered point or the fill. -/
theorem pick_eq {K : ℕ} (wf) (x : (⟨3, ![8, 16384, 3]⟩ : Shape).Idx → EReal) (idx w : IVec ⟨3, ![8, K, 1]⟩ 32)
    (b : Fin 8) (k : Fin K) (c : Fin 3)
    (hw : w (ix3 b k (0 : Fin 1)) = Scalar.select (IntOp.cmpi .slt (idx (ix3 b k (0 : Fin 1))) 0#32) (IntOp.addi (idx (ix3 b k (0 : Fin 1))) 16384#32) (idx (ix3 b k (0 : Fin 1)))) :
    Scalar.select (Finset.fold IntOp.andi (1#1)
        (fun q : Fin 1 => IntOp.andi (IntOp.cmpi .sge (w (ix3 b k q)) 0#32) (IntOp.cmpi .sle (w (ix3 b k q)) 16383#32)) Finset.univ)
      (Host.gather (dims K wf) x w (ix3 b k c)) (Ideal.ofBits .f32 0x7FC00000#32)
      = Spec.pt (fun b n c => x (ix3 b n c)) b (idx (ix3 b k (0 : Fin 1))) c := by
  have hw' : w (ix3 b k (0 : Fin 1)) = Spec.wrap (idx (ix3 b k (0 : Fin 1))) := by
    rw [hw, WordCmp.cmpi_slt_eq]
    unfold Spec.wrap
    by_cases h : (idx (ix3 b k (0 : Fin 1))).toInt < 0
    · rw [if_pos h, decide_eq_true (show (idx (ix3 b k (0 : Fin 1))).toInt < (0#32).toInt from h)]
      rfl
    · rw [if_neg h, decide_eq_false (show ¬ (idx (ix3 b k (0 : Fin 1))).toInt < (0#32).toInt from h)]
      rfl
  rw [Finset.univ_unique, Finset.fold_singleton]
  show Scalar.select (IntOp.andi (IntOp.andi (IntOp.cmpi .sge (w (ix3 b k (0 : Fin 1))) 0#32) (IntOp.cmpi .sle (w (ix3 b k (0 : Fin 1))) 16383#32)) 1#1) _ _ = _
  rw [WordCmp.cmpi_sge_eq, WordCmp.cmpi_sle_eq, WordCmp.andi_ofBool, hw']
  unfold Spec.pt
  split
  · next h =>
    have h1 : decide ((0#32).toInt ≤ (Spec.wrap (idx (ix3 b k (0 : Fin 1)))).toInt) = true := decide_eq_true h.1
    have h2 : decide ((Spec.wrap (idx (ix3 b k (0 : Fin 1)))).toInt ≤ (16383#32).toInt) = true := decide_eq_true h.2
    rw [h1, h2]
    refine gather_at wf x w b k c _ ?_
    rw [hw']
    have := BitVec.toInt_eq_toNat_cond (Spec.wrap (idx (ix3 b k (0 : Fin 1))))
    show _ = (Spec.wrap (idx (ix3 b k (0 : Fin 1)))).toNat
    split at this <;> omega
  · next h =>
    have h3 : (decide ((0#32).toInt ≤ (Spec.wrap (idx (ix3 b k (0 : Fin 1)))).toInt)
        && decide ((Spec.wrap (idx (ix3 b k (0 : Fin 1)))).toInt ≤ (16383#32).toInt)) = false := by
      rw [Bool.and_eq_false_iff, decide_eq_false_iff_not, decide_eq_false_iff_not]
      exact not_and_or.mp h
    rw [h3]
    rfl

end Cert.Take
-- ==== Proof.KIn.lean ====
/- The arrays that the kernel's region finds, and what its results are made of. -/
module

public import proofs.«01_k».proof.Proof.KTrips
public import proofs.«01_k».proof.Proof.KFrame
public import proofs.«01_k».proof.Proof.Seed
public import proofs.«01_k».proof.Proof.Take
import Idealize.ShloMosaic.Lib.StableHlo.ReadAt
import Idealize.ShloMosaic.Lib.Tactic.WordOmega

@[expose] public section

set_option maxRecDepth 16384

noncomputable section

namespace Cert.KVal

open Idealize.ShloMosaic Idealize.ShloMosaic.TcCoe Idealize.ShloMosaic.Tactic
open Cert.KernelIdeal Cert.KernelIdeal.Gen

/-- The picked points. -/
theorem take_at (V : Valuation τ sig (Elt Ideal)) (b : Fin 8) (c : Fin 3) :
    StableHlo.after (hostOps0_3 (F := Ideal)) V (Proc.devRef .tc main_v24) (ix3 b (0 : Fin 1) c)
      = Spec.pt (fun b n c => V (Proc.devRef .tc main_arg0) (ix3 b n c)) b (V (Proc.devRef .tc main_v23) (ix3 b (0 : Fin 1) (0 : Fin 1))) c := by
  after_reads_at
  exact Take.pick_eq gather_S8x16384x3_S8x1x1_S8x1x3_2_1_0_0_1_2_113_wf (V (Proc.devRef .tc main_arg0)) (V (Proc.devRef .tc main_v23))
    (select (cmpi .slt (V (Proc.devRef .tc main_v23)) (broadcastInDim S8x1x1 ![] bcast_S_S8x1x1 (constantI S_ 32 0#32)))
      (addi (V (Proc.devRef .tc main_v23)) (broadcastInDim S8x1x1 ![] bcast_S_S8x1x1 (constantI S_ 32 16384#32)))
      (V (Proc.devRef .tc main_v23))) b (0 : Fin 1) c rfl

/-- The triangle of ones. -/
theorem tri_at (V : Valuation τ sig (Elt Ideal)) (r c : Fin 128) :
    StableHlo.after (hostOps0_4 (F := Ideal)) V (Proc.devRef .tc main_v39) (ix2 r c) = if r ≤ c then (1 : EReal) else 0 := by
  after_reads_at
  rw [WordCmp.cmpi_sle_ofNat (by omega) (by omega)]
  by_cases h : r ≤ c
  · rw [if_pos h, decide_eq_true (show r.val ≤ c.val from h)]
    show (((1#1).toNat : ℝ) : EReal) = 1
    norm_num
  · rw [if_neg h, decide_eq_false (show ¬ r.val ≤ c.val from h)]
    show (((0#1).toNat : ℝ) : EReal) = 0
    norm_num

theorem orig_eq (v l : Fin 128) (h) : (⟨(128 * v.val + l.val) % 128 * 128 + (128 * v.val + l.val) / 128, h⟩ : Fin 16384) = orig v l :=
  Fin.ext (by show (128 * v.val + l.val) % 128 * 128 + (128 * v.val + l.val) / 128 = 128 * l.val + v.val; omega)

/-- The points' numbers. -/
theorem num_at (V : Valuation τ sig (Elt Ideal)) (b : Fin 8) (v l : Fin 128) :
    StableHlo.after (hostOps0_4 (F := Ideal)) V (Proc.devRef .tc main_v31) (ix2 b (col v l)) = (((128 * l.val + v.val : ℕ) : ℝ) : EReal) := by
  after_reads_at
  rw [show (128 * v.val + l.val) % 128 * 128 + (128 * v.val + l.val) / 128 = (orig v l).val by show _ = 128 * l.val + v.val; omega]
  show (((BitVec.ofNat 32 (orig v l).val).toInt : ℝ) : EReal) = _
  rw [toInt_ofNat]
  rfl

/-- The coordinates, laid out by column. -/
theorem x_at (V : Valuation τ sig (Elt Ideal)) (b : Fin 8) (v l : Fin 128) :
    StableHlo.after (hostOps0 (F := Ideal)) V (Proc.devRef .tc main_v4) (ix2 b (col v l)) = V (Proc.devRef .tc main_arg0) (ix3 b (orig v l) (0 : Fin 3)) := by
  after_reads_at
  rw [orig_eq]

theorem y_at (V : Valuation τ sig (Elt Ideal)) (b : Fin 8) (v l : Fin 128) :
    StableHlo.after (hostOps0 (F := Ideal)) V (Proc.devRef .tc main_v9) (ix2 b (col v l)) = V (Proc.devRef .tc main_arg0) (ix3 b (orig v l) (1 : Fin 3)) := by
  after_reads_at
  rw [orig_eq]

theorem z_at (V : Valuation τ sig (Elt Ideal)) (b : Fin 8) (v l : Fin 128) :
    StableHlo.after (hostOps0 (F := Ideal)) V (Proc.devRef .tc main_v14) (ix2 b (col v l)) = V (Proc.devRef .tc main_arg0) (ix3 b (orig v l) (2 : Fin 3)) := by
  after_reads_at
  rw [orig_eq]

/-- The first points' numbers. -/
theorem far_at (V : Valuation τ sig (Elt Ideal)) (b : Fin 8) :
    StableHlo.after (hostOps0_4 (F := Ideal)) V (Proc.devRef .tc main_v41) (ix2 b (0 : Fin 1))
      = (((V (Proc.devRef .tc main_v22) (ix1 b) : BitVec 32).toInt : ℝ) : EReal) := by
  after_reads_at
  rfl

/-- The first points, one row each. -/
theorem row_at (V : Valuation τ sig (Elt Ideal)) (b : Fin 8) (c : Fin 3) :
    StableHlo.after (hostOps0_4 (F := Ideal)) V (Proc.devRef .tc main_v25) (ix2 b c) = V (Proc.devRef .tc main_v24) (ix3 b (0 : Fin 1) c) := by
  after_reads_at

/-- The numbers as picked by. -/
theorem ask_at (V : Valuation τ sig (Elt Ideal)) (b : Fin 8) :
    StableHlo.after (hostOps0_2 (F := Ideal)) V (Proc.devRef .tc main_v23) (ix3 b (0 : Fin 1) (0 : Fin 1)) = V (Proc.devRef .tc main_v22) (ix1 b) := by
  after_reads_at

/-- The indices that the program returns. -/
theorem idx_at (V : Valuation τ sig (Elt Ideal)) (b : Fin 8) (k : Fin 512) (i : BitVec 32)
    (h : V (Proc.devRef .tc main_v42_0) (ix2 k b) = ((i.toInt : ℝ) : EReal)) :
    StableHlo.after (hostOps1 (F := Ideal)) V (Proc.devRef .tc main_v44) (ix2 b k) = i := by
  after_reads_at
  rw [h]
  show BitVec.ofInt 32 (Ideal.toIntClamped _ _ _) = _
  have h1 := BitVec.toInt_lt (x := i)
  have h2 := BitVec.le_toInt (x := i)
  rw [Ideal.toIntClamped_coe, Int.floor_intCast, Int.ceil_intCast, ite_self, min_eq_right, max_eq_right, BitVec.ofInt_toInt]
  · exact h2
  · show i.toInt ≤ 2147483647
    omega

/-- The points that the program returns: their coordinates are the last three results of the region. -/
theorem xyz_at (V : Valuation τ sig (Elt Ideal)) (b : Fin 8) (k : Fin 512) :
    StableHlo.after (hostOps1 (F := Ideal)) V (Proc.devRef .tc main_v51) (ix3 b k (0 : Fin 3)) = V (Proc.devRef .tc main_v42_1) (ix2 k b)
    ∧ StableHlo.after (hostOps1 (F := Ideal)) V (Proc.devRef .tc main_v51) (ix3 b k (1 : Fin 3)) = V (Proc.devRef .tc main_v42_2) (ix2 k b)
    ∧ StableHlo.after (hostOps1 (F := Ideal)) V (Proc.devRef .tc main_v51) (ix3 b k (2 : Fin 3)) = V (Proc.devRef .tc main_v42_3) (ix2 k b) := by
  refine ⟨?_, ?_, ?_⟩ <;>
  · after_results
    pointwise
    simp only [↓ StableHlo.readResult]
    pointwise

/-- What the region finds in a buffer is read through the five stretches of host operations before it. -/
theorem V0_eq (m : (ℓ : Loc nD τ sig) → Buf (Elt Ideal) ℓ) (c : Dev nD) :
    V0 m c = StableHlo.after hostOps0_4 (StableHlo.after hostOps0_3 (StableHlo.after hostOps0_2 (StableHlo.after hostOps0_1
      (StableHlo.after hostOps0 fun b => m (c, b))))) := by
  show StableHlo.after (List.flatten _) _ = _
  simp only [List.flatten_cons, List.flatten_nil, List.append_nil, StableHlo.after_append]

end Cert.KVal
-- ==== Proof.First.lean ====
/- The first points of the two programs are the same. -/
module

public import proofs.«01_k».proof.Proof.RRun
public import proofs.«01_k».proof.Proof.Seed
import Idealize.ShloMosaic.Lib.StableHlo.RunRead

@[expose] public section

set_option maxRecDepth 16384

noncomputable section

namespace Cert.First

open Idealize.ShloMosaic Idealize.ShloMosaic.TcCoe Idealize.ShloMosaic.StableHlo
open Cert.Sim

variable {F : FTy → Type} [FloatOps F]

theorem key_eq (V : Valuation ReferenceIdeal.τ ReferenceIdeal.sig (Elt F)) (V' : Valuation KernelIdeal.τ KernelIdeal.sig (Elt F)) :
    (after Ref.keyOps V (Proc.devRef .tc ReferenceIdeal.main_v7) : ReferenceIdeal.S2.Idx → BitVec 32)
      = after KernelIdeal.Gen.hostOps0 V' (Proc.devRef .tc KernelIdeal.main_v21) := by
  after_reads_simp
  rfl

theorem low_eq (V : Valuation ReferenceIdeal.τ ReferenceIdeal.sig (Elt F)) (V' : Valuation KernelIdeal.τ KernelIdeal.sig (Elt F)) :
    (after Ref.keyOps V (Proc.devRef .tc ReferenceIdeal.main_c_2) : ReferenceIdeal.S_.Idx → BitVec 32)
      = after KernelIdeal.Gen.hostOps0 V' (Proc.devRef .tc KernelIdeal.main_c_2) := by
  after_reads_simp

theorem high_eq (V : Valuation ReferenceIdeal.τ ReferenceIdeal.sig (Elt F)) (V' : Valuation KernelIdeal.τ KernelIdeal.sig (Elt F)) :
    (after Ref.keyOps V (Proc.devRef .tc ReferenceIdeal.main_c_3) : ReferenceIdeal.S_.Idx → BitVec 32)
      = after KernelIdeal.Gen.hostOps0 V' (Proc.devRef .tc KernelIdeal.main_c_3) := by
  after_reads_simp

/-- The keys and the bounds of the two draws are the same. -/
theorem agree (V : Valuation ReferenceIdeal.τ ReferenceIdeal.sig (Elt F)) (V' : Valuation KernelIdeal.τ KernelIdeal.sig (Elt F)) :
    Agree 12 13 15 (after Ref.keyOps V) (after KernelIdeal.Gen.hostOps0 V') := by
  rintro T ⟨r, e, h1, h2⟩ ⟨r', e', h1', h2'⟩ hi hp
  simp only [inside, paired, Bool.and_eq_true, beq_iff_eq, Nat.ble_eq, Nat.blt_eq] at hi hp
  obtain ⟨⟨hs, hl⟩, hu⟩ := hi
  obtain ⟨hs', hn⟩ := hp
  have hc : r.idx.val = 12 ∨ r.idx.val = 13 ∨ r.idx.val = 14 := by omega
  rcases hc with hc | hc | hc <;> rw [hc] at hn
  · obtain rfl := ref_ext (s := ReferenceIdeal.main_v7) hs hc
    obtain rfl := ref_ext (s := KernelIdeal.main_v21) hs' hn
    subst e
    exact key_eq V V'
  · obtain rfl := ref_ext (s := ReferenceIdeal.main_c_2) hs hc
    obtain rfl := ref_ext (s := KernelIdeal.main_c_2) hs' hn
    subst e
    exact low_eq V V'
  · obtain rfl := ref_ext (s := ReferenceIdeal.main_c_3) hs hc
    obtain rfl := ref_ext (s := KernelIdeal.main_c_3) hs' hn
    subst e
    exact high_eq V V'

/-- Two draws that keep the agreement leave the same numbers. -/
theorem draw_of {l : List (HloOp ReferenceIdeal.τ ReferenceIdeal.sig (Elt F))} {l' : List (HloOp KernelIdeal.τ KernelIdeal.sig (Elt F))}
    (h : ∀ V V', Agree 12 13 15 V V' → Agree 12 13 777 (after l V) (after l' V'))
    {V : Valuation ReferenceIdeal.τ ReferenceIdeal.sig (Elt F)} {V' : Valuation KernelIdeal.τ KernelIdeal.sig (Elt F)} (hA : Agree 12 13 15 V V') :
    (after l V (Proc.devRef .tc ReferenceIdeal.main_v8) : ReferenceIdeal.S8.Idx → BitVec 32)
      = after l' V' (Proc.devRef .tc KernelIdeal.main_v22) :=
  h V V' hA ⟨ReferenceIdeal.S8, .i32⟩ (.of ReferenceIdeal.main_v8) (.of KernelIdeal.main_v22) (by decide) (by decide)

set_option maxHeartbeats 8000000 in
/-- The first points that the two programs draw are the same. -/
theorem draw_eq (V : Valuation ReferenceIdeal.τ ReferenceIdeal.sig (Elt F)) (V' : Valuation KernelIdeal.τ KernelIdeal.sig (Elt F)) :
    (after Ref.drawOps (after Ref.keyOps V) (Proc.devRef .tc ReferenceIdeal.main_v8) : ReferenceIdeal.S8.Idx → BitVec 32)
      = after KernelIdeal.Gen.hostOps0_1 (after KernelIdeal.Gen.hostOps0 V') (Proc.devRef .tc KernelIdeal.main_v22) :=
  draw_of (Classical.choose_spec Seed.draw_line).2.2 (agree V V')

set_option maxHeartbeats 8000000 in
/-- The kernel program's draw writes the buffers from number 28 on. -/
theorem draw_above : (KernelIdeal.Gen.hostOps0_1 : List (HloOp KernelIdeal.τ KernelIdeal.sig (Elt F))).Forall fun op =>
    ∀ b ∈ op.writes, ∃ r : Ref KernelIdeal.sig .tc, b = Proc.devRef .tc r ∧ 28 ≤ r.idx.val := by
  simp only [KernelIdeal.Gen.hostOps0_1, List.Forall, nullary_writes, unary_writes, binary_writes, ternary_writes, quaternary_writes, reshape_writes,
    binaryIndexed_writes, unaryIndexed_writes, nary_writes, Finset.mem_singleton, forall_eq]
  repeat' apply And.intro
  all_goals exact ⟨_, rfl, by decide⟩

/-- It keeps the others. -/
theorem draw_keeps (V : Valuation KernelIdeal.τ KernelIdeal.sig (Elt F)) {r : Ref KernelIdeal.sig .tc} (hr : r.idx.val < 28) :
    after KernelIdeal.Gen.hostOps0_1 V (Proc.devRef .tc r) = V (Proc.devRef .tc r) := by
  refine after_of_forall_not_mem _ V fun op ho hm => ?_
  obtain ⟨s, he, hn⟩ := List.forall_iff_forall_mem.mp draw_above op ho _ hm
  have := Proc.devRef_injective _ he
  subst this; omega

end Cert.First
-- ==== Proof.KEnd.lean ====
/- What the kernel's program returns. -/
module

public import proofs.«01_k».proof.Proof.KIn
public import proofs.«01_k».proof.Proof.First
import Idealize.ShloMosaic.Lib.StableHlo.RunRead

@[expose] public section

set_option maxRecDepth 16384

noncomputable section

namespace Cert.KVal

open Idealize.ShloMosaic Idealize.ShloMosaic.TcCoe Idealize.ShloMosaic.Tactic
open Cert.KernelIdeal Cert.KernelIdeal.Gen

variable (m : (ℓ : Loc nD τ sig) → Buf (Elt Ideal) ℓ) (c : Dev nD)

/-- The points, by batch, number and coordinate. -/
def points (b : Fin 8) (n : Fin 16384) (q : Fin 3) : EReal := m (c, Proc.devRef .tc main_arg0) (ix3 b n q)

/-- The contents before and after the draw. -/
def V1 : Valuation τ sig (Elt Ideal) := StableHlo.after hostOps0 fun b => m (c, b)
def V2 : Valuation τ sig (Elt Ideal) := StableHlo.after hostOps0_1 (V1 m c)

/-- The numbers of the first points. -/
def drawn (b : Fin 8) : BitVec 32 := V2 m c (Proc.devRef .tc main_v22) (ix1 b)

/-- The sampling's states. -/
def states (k : ℕ) : Spec.State := Spec.st (points m c) ⟨drawn m c, fun _ _ => Ideal.ofBits .f32 0x501502F9#32⟩ k

/-- The contents that the region finds. -/
def VE : Valuation τ sig (Elt Ideal) := V0 m c

theorem VE_of : VE m c = StableHlo.after hostOps0_4 (StableHlo.after hostOps0_3 (StableHlo.after hostOps0_2 (V2 m c))) := V0_eq m c

/-- What the stretches after the draw write. -/
abbrev late : List (List (Ref sig .tc)) := [[main_v23], [main_call1_c, main_call1_v0, main_call1_v1, main_call1_c_0, main_call1_v2, main_call1_v3, main_call1_v4, main_call1_c_1, main_call1_c_2, main_call1_v5, main_call1_v6, main_call1_v7, main_call1_v8, main_call1_v9, main_call1_v10, main_call1_c_3, main_call1_v11, main_call1_v12, main_call1_v13, main_call1_cst, main_call1_v14, main_v24],
  [main_v25, main_v26, main_v27, main_v28, main_v29, main_v30, main_v31, main_v32, main_v33, main_v34, main_v35, main_v36, main_v37, main_v38, main_v39, main_v40, main_v41]]

theorem late_2 : (hostOps0_2 : List (HloOp τ sig (Elt Ideal))).Forall fun op => op.writes ⊆ (([main_v23] : List (Ref sig .tc)).map (Proc.devRef (τ := τ) .tc)).toFinset :=
  StableHlo.forall_writes_sub_of_map rfl
theorem late_3 : (hostOps0_3 : List (HloOp τ sig (Elt Ideal))).Forall fun op => op.writes ⊆ ((late[1]).map (Proc.devRef (τ := τ) .tc)).toFinset :=
  StableHlo.forall_writes_sub_of_map rfl
theorem late_4 : (hostOps0_4 : List (HloOp τ sig (Elt Ideal))).Forall fun op => op.writes ⊆ ((late[2]).map (Proc.devRef (τ := τ) .tc)).toFinset :=
  StableHlo.forall_writes_sub_of_map rfl

/-- A buffer that only the first stretch writes. -/
theorem VE_first {r : Ref sig .tc} (hr : r.idx.val < 28) (h : r ∉ late.flatten) : VE m c (Proc.devRef .tc r) = V1 m c (Proc.devRef .tc r) := by
  simp only [List.flatten_cons, List.mem_append, not_or] at h
  rw [VE_of, StableHlo.after_of_writes_sub _ _ late_4 h.2.2.1, StableHlo.after_of_writes_sub _ _ late_3 h.2.1,
    StableHlo.after_of_writes_sub _ _ late_2 h.1]
  exact First.draw_keeps _ hr

theorem V1_arg : V1 m c (Proc.devRef .tc main_arg0) = m (c, Proc.devRef .tc main_arg0) := by
  unfold V1
  after_reads_simp

theorem V2_arg : V2 m c (Proc.devRef .tc main_arg0) = m (c, Proc.devRef .tc main_arg0) :=
  (First.draw_keeps _ (by decide)).trans (V1_arg m c)

/-! Each input block is its whole array. -/

theorem block_0 (t : Fin cfg0.N) (j : S8x16384.Idx) : iblk m c 0 t j = VE m c (Proc.devRef .tc main_v4) j := by
  have h : ∀ a, win0_0.index t a = 0 := fun _ => rfl
  unfold VE
  blk_ext [iblk, h]

theorem block_1 (t : Fin cfg0.N) (j : S8x16384.Idx) : iblk m c 1 t j = VE m c (Proc.devRef .tc main_v9) j := by
  have h : ∀ a, win0_1.index t a = 0 := fun _ => rfl
  unfold VE
  blk_ext [iblk, h]

theorem block_2 (t : Fin cfg0.N) (j : S8x16384.Idx) : iblk m c 2 t j = VE m c (Proc.devRef .tc main_v14) j := by
  have h : ∀ a, win0_2.index t a = 0 := fun _ => rfl
  unfold VE
  blk_ext [iblk, h]

theorem block_3 (t : Fin cfg0.N) (j : S8x16384.Idx) : iblk m c 3 t j = VE m c (Proc.devRef .tc main_v31) j := by
  have h : ∀ a, win0_3.index t a = 0 := fun _ => rfl
  unfold VE
  blk_ext [iblk, h]

theorem block_4 (t : Fin cfg0.N) (j : S128x128.Idx) : iblk m c 4 t j = VE m c (Proc.devRef .tc main_v39) j := by
  have h : ∀ a, win0_4.index t a = 0 := fun _ => rfl
  unfold VE
  blk_ext [iblk, h]

theorem block_5 (t : Fin cfg0.N) (j : S8x1.Idx) : iblk m c 5 t j = VE m c (Proc.devRef .tc main_v41) j := by
  have h : ∀ a, win0_5.index t a = 0 := fun _ => rfl
  unfold VE
  blk_ext [iblk, h]

theorem block_6 (t : Fin cfg0.N) (j : S8x3.Idx) : iblk m c 6 t j = VE m c (Proc.devRef .tc main_v25) j := by
  have h : ∀ a, win0_6.index t a = 0 := fun _ => rfl
  unfold VE
  blk_ext [iblk, h]

/-! The arrays as the region finds them. -/

theorem x_VE (b : Fin 8) (v l : Fin 128) : VE m c (Proc.devRef .tc main_v4) (ix2 b (col v l)) = points m c b (orig v l) 0 :=
  (congrFun (VE_first m c (r := main_v4) (by decide) (by decide)) _).trans (x_at _ b v l)

theorem y_VE (b : Fin 8) (v l : Fin 128) : VE m c (Proc.devRef .tc main_v9) (ix2 b (col v l)) = points m c b (orig v l) 1 :=
  (congrFun (VE_first m c (r := main_v9) (by decide) (by decide)) _).trans (y_at _ b v l)

theorem z_VE (b : Fin 8) (v l : Fin 128) : VE m c (Proc.devRef .tc main_v14) (ix2 b (col v l)) = points m c b (orig v l) 2 :=
  (congrFun (VE_first m c (r := main_v14) (by decide) (by decide)) _).trans (z_at _ b v l)

theorem num_VE (b : Fin 8) (v l : Fin 128) : VE m c (Proc.devRef .tc main_v31) (ix2 b (col v l)) = (((128 * l.val + v.val : ℕ) : ℝ) : EReal) :=
  (congrFun (congrFun (VE_of m c) _) _).trans (num_at _ b v l)

theorem tri_VE (r q : Fin 128) : VE m c (Proc.devRef .tc main_v39) (ix2 r q) = if r ≤ q then (1 : EReal) else 0 :=
  (congrFun (congrFun (VE_of m c) _) _).trans (tri_at _ r q)

/-- The points and their numbers, laid out by column. -/
theorem laid_of (X : Fin 8 → Fin 16384 → Fin 3 → EReal) {x y z i : FVec Ideal S8x16384 .f32} (hx : ∀ b v l, x (ix2 b (col v l)) = X b (orig v l) 0)
    (hy : ∀ b v l, y (ix2 b (col v l)) = X b (orig v l) 1) (hz : ∀ b v l, z (ix2 b (col v l)) = X b (orig v l) 2)
    (hi : ∀ b v l, i (ix2 b (col v l)) = (((128 * l.val + v.val : ℕ) : ℝ) : EReal)) : Laid X ⟨x, y, z, i⟩ := ⟨hx, hy, hz, hi⟩

theorem laid : Laid (points m c) ⟨VE m c (Proc.devRef .tc main_v4), VE m c (Proc.devRef .tc main_v9), VE m c (Proc.devRef .tc main_v14),
    VE m c (Proc.devRef .tc main_v31)⟩ :=
  laid_of (points m c) (x_VE m c) (y_VE m c) (z_VE m c) (num_VE m c)

/-! Each result array is what the body left. -/

theorem out_7 (k : Fin 512) (b : Fin 8) : (dats m 0 c).arrAt 7 cfg0.N (ix2 k b) = (outsAt0 m c t0_0).1 (ix2 k b) :=
  congrFun ((dats m 0 c).arrAt_eq_of_after_last 7 t0_0 (by decide +kernel) (outsAt0 m c t0_0).1 fun j => by blk_simp; rfl) (ix2 k b)

theorem out_8 (k : Fin 512) (b : Fin 8) : (dats m 0 c).arrAt 8 cfg0.N (ix2 k b) = (outsAt0 m c t0_0).2.1 (ix2 k b) :=
  congrFun ((dats m 0 c).arrAt_eq_of_after_last 8 t0_0 (by decide +kernel) (outsAt0 m c t0_0).2.1 fun j => by blk_simp; rfl) (ix2 k b)

theorem out_9 (k : Fin 512) (b : Fin 8) : (dats m 0 c).arrAt 9 cfg0.N (ix2 k b) = (outsAt0 m c t0_0).2.2.1 (ix2 k b) :=
  congrFun ((dats m 0 c).arrAt_eq_of_after_last 9 t0_0 (by decide +kernel) (outsAt0 m c t0_0).2.2.1 fun j => by blk_simp; rfl) (ix2 k b)

theorem out_10 (k : Fin 512) (b : Fin 8) : (dats m 0 c).arrAt 10 cfg0.N (ix2 k b) = (outsAt0 m c t0_0).2.2.2 (ix2 k b) :=
  congrFun ((dats m 0 c).arrAt_eq_of_after_last 10 t0_0 (by decide +kernel) (outsAt0 m c t0_0).2.2.2 fun j => by blk_simp; rfl) (ix2 k b)

/-- The first numbers, as the region finds them. -/
theorem far_VE (b : Fin 8) : VE m c (Proc.devRef .tc main_v41) (ix2 b (0 : Fin 1)) = (((drawn m c b).toInt : ℝ) : EReal) := by
  rw [VE_of]
  refine (far_at _ b).trans ?_
  rw [StableHlo.after_of_writes_sub (r := main_v22) _ _ late_3 (by decide), StableHlo.after_of_writes_sub (r := main_v22) _ _ late_2 (by decide)]
  rfl

/-- The first points, as the region finds them. -/
theorem row_VE (b : Fin 8) (q : Fin 3) : VE m c (Proc.devRef .tc main_v25) (ix2 b q) = Spec.pt (points m c) b (drawn m c b) q := by
  rw [VE_of]
  refine (row_at _ b q).trans ((take_at _ b q).trans ?_)
  rw [ask_at, StableHlo.after_of_writes_sub (r := main_arg0) _ _ late_2 (by decide), V2_arg]
  rfl

/-- What the body computes, from the arrays. -/
theorem outs_eq : outsAt0 m c t0_0 = outsV ⟨VE m c (Proc.devRef .tc main_v4), VE m c (Proc.devRef .tc main_v9), VE m c (Proc.devRef .tc main_v14),
    VE m c (Proc.devRef .tc main_v31)⟩ (VE m c (Proc.devRef .tc main_v39)) (startV (VE m c (Proc.devRef .tc main_v41)) (VE m c (Proc.devRef .tc main_v25))) := by
  unfold outsAt0
  rw [show iblk m c 0 t0_0 = VE m c (Proc.devRef .tc main_v4) from funext (block_0 m c t0_0),
    show iblk m c 1 t0_0 = VE m c (Proc.devRef .tc main_v9) from funext (block_1 m c t0_0),
    show iblk m c 2 t0_0 = VE m c (Proc.devRef .tc main_v14) from funext (block_2 m c t0_0),
    show iblk m c 3 t0_0 = VE m c (Proc.devRef .tc main_v31) from funext (block_3 m c t0_0),
    show iblk m c 4 t0_0 = VE m c (Proc.devRef .tc main_v39) from funext (block_4 m c t0_0),
    show iblk m c 5 t0_0 = VE m c (Proc.devRef .tc main_v41) from funext (block_5 m c t0_0),
    show iblk m c 6 t0_0 = VE m c (Proc.devRef .tc main_v25) from funext (block_6 m c t0_0)]

/-- The body's trips follow the sampling's steps. -/
theorem carries (k : ℕ) : Carries (points m c)
    (carryAt ⟨VE m c (Proc.devRef .tc main_v4), VE m c (Proc.devRef .tc main_v9), VE m c (Proc.devRef .tc main_v14),
      VE m c (Proc.devRef .tc main_v31)⟩ (VE m c (Proc.devRef .tc main_v39))
      (startV (VE m c (Proc.devRef .tc main_v41)) (VE m c (Proc.devRef .tc main_v25))) k) (states m c k) :=
  carries_at (laid m c) _ (tri_VE m c) (carries_start _ _ (drawn m c) (far_VE m c) (row_VE m c)) k

/-- The contents when the region is left. -/
abbrev VEnd : Valuation τ sig (Elt Ideal) := Pipeline.withArrays spec0 c (VE m c) fun w => (dats m 0 c).arrAt w cfg0.N

theorem VEnd_7 (k : Fin 512) (b : Fin 8) : VEnd m c (Proc.devRef .tc main_v42_0) (ix2 k b) = (outsAt0 m c t0_0).1 (ix2 k b) :=
  (congrFun (Pipeline.withArrays_arr spec0 (by decide) c (VE m c) _ 7) _).trans (out_7 m c k b)
theorem VEnd_8 (k : Fin 512) (b : Fin 8) : VEnd m c (Proc.devRef .tc main_v42_1) (ix2 k b) = (outsAt0 m c t0_0).2.1 (ix2 k b) :=
  (congrFun (Pipeline.withArrays_arr spec0 (by decide) c (VE m c) _ 8) _).trans (out_8 m c k b)
theorem VEnd_9 (k : Fin 512) (b : Fin 8) : VEnd m c (Proc.devRef .tc main_v42_2) (ix2 k b) = (outsAt0 m c t0_0).2.2.1 (ix2 k b) :=
  (congrFun (Pipeline.withArrays_arr spec0 (by decide) c (VE m c) _ 9) _).trans (out_9 m c k b)
theorem VEnd_10 (k : Fin 512) (b : Fin 8) : VEnd m c (Proc.devRef .tc main_v42_3) (ix2 k b) = (outsAt0 m c t0_0).2.2.2 (ix2 k b) :=
  (congrFun (Pipeline.withArrays_arr spec0 (by decide) c (VE m c) _ 10) _).trans (out_10 m c k b)

/-- The outputs' rows are what the trips carry. -/
theorem rows_of {X : Fin 8 → Fin 16384 → Fin 3 → EReal} {P : Pts Ideal} {T : FVec Ideal S128x128 .f32} {S : Carry Ideal} {s : Spec.State}
    {k : Fin 512} (h : Carries X (carryAt P T S k.val) s) (b : Fin 8) :
    (outsV P T S).1 (ix2 k b) = (((s.far b).toInt : ℝ) : EReal) ∧ (outsV P T S).2.1 (ix2 k b) = Spec.pt X b (s.far b) 0
    ∧ (outsV P T S).2.2.1 (ix2 k b) = Spec.pt X b (s.far b) 1 ∧ (outsV P T S).2.2.2 (ix2 k b) = Spec.pt X b (s.far b) 2 :=
  ⟨rows_at (fun k => (carryAt P T S k).far) k b _ fun l => h.far b l, rows_at (fun k => (carryAt P T S k).ctr.x) k b _ fun l => h.x b l,
    rows_at (fun k => (carryAt P T S k).ctr.y) k b _ fun l => h.y b l, rows_at (fun k => (carryAt P T S k).ctr.z) k b _ fun l => h.z b l⟩

/-- The results' rows are the states. -/
theorem rows (k : Fin 512) (b : Fin 8) :
    (outsAt0 m c t0_0).1 (ix2 k b) = ((((states m c k).far b).toInt : ℝ) : EReal)
    ∧ (outsAt0 m c t0_0).2.1 (ix2 k b) = Spec.pt (points m c) b ((states m c k).far b) 0
    ∧ (outsAt0 m c t0_0).2.2.1 (ix2 k b) = Spec.pt (points m c) b ((states m c k).far b) 1
    ∧ (outsAt0 m c t0_0).2.2.2 (ix2 k b) = Spec.pt (points m c) b ((states m c k).far b) 2 := by
  rw [outs_eq]
  exact rows_of (carries m c k.val) b

/-- The program returns the states' numbers. -/
theorem idx_end (b : Fin 8) (k : Fin 512) :
    Pipeline.afterTail₀ cfgs (dats m) 0 (V0 m) [hostOps1] c main_v44 (ix2 b k) = (states m c k).far b :=
  idx_at (VEnd m c) b k _ ((VEnd_7 m c k b).trans (rows m c k b).1)

/-- The program returns the points of those numbers. -/
theorem xyz_end (b : Fin 8) (k : Fin 512) (q : Fin 3) :
    Pipeline.afterTail₀ cfgs (dats m) 0 (V0 m) [hostOps1] c main_v51 (ix3 b k q) = Spec.pt (points m c) b ((states m c k).far b) q := by
  have h := xyz_at (VEnd m c) b k
  have r := (rows m c k b).2
  match q with
  | ⟨0, _⟩ => exact h.1.trans ((VEnd_8 m c k b).trans r.1)
  | ⟨1, _⟩ => exact h.2.1.trans ((VEnd_9 m c k b).trans r.2.1)
  | ⟨2, _⟩ => exact h.2.2.trans ((VEnd_10 m c k b).trans r.2.2)

end Cert.KVal
-- ==== Proof.Argmax.lean ====
/- The reference's choice of the farthest point is the first place of the greatest distance. -/
module

public import proofs.«01_k».proof.Proof.RRun
public import proofs.«01_k».proof.Proof.Spec

@[expose] public section

set_option maxRecDepth 16384

noncomputable section

namespace Cert.Argmax

open Idealize.ShloMosaic Cert.ReferenceIdeal

/-- The second pair comes first: its value is greater, or they tie and its number is not greater. -/
def Below (q p : EReal × BitVec 32) : Prop := q.1 < p.1 ∨ q.1 = p.1 ∧ p.2.toInt ≤ q.2.toInt

theorem Below.refl (p) : Below p p := Or.inr ⟨rfl, le_refl _⟩

theorem Below.trans {a b c : EReal × BitVec 32} (h : Below a b) (h' : Below b c) : Below a c := by
  unfold Below at *
  rcases h with h | ⟨h, hn⟩ <;> rcases h' with h' | ⟨h', hn'⟩
  · exact Or.inl (h.trans h')
  · exact Or.inl (h' ▸ h)
  · exact Or.inl (h ▸ h')
  · exact Or.inr ⟨h.trans h', hn'.trans hn⟩

/-- The choice between two pairs is one of them, and both are below it. -/
theorem choose (a b : EReal × BitVec 32) :
    (reducer_argmax_f32_i32 (F := Ideal) a b = a ∨ reducer_argmax_f32_i32 (F := Ideal) a b = b)
      ∧ Below a (reducer_argmax_f32_i32 (F := Ideal) a b) ∧ Below b (reducer_argmax_f32_i32 (F := Ideal) a b) := by
  obtain ⟨x, i⟩ := a
  obtain ⟨y, j⟩ := b
  have h : reducer_argmax_f32_i32 (F := Ideal) (x, i) (y, j) = if y < x ∨ x = y ∧ i.toInt < j.toInt then (x, i) else (y, j) := by
    unfold reducer_argmax_f32_i32
    pointwise
    have hs : IntOp.cmpi CmpIPredicate.slt i j = BitVec.ofBool (decide (i.toInt < j.toInt)) := by
      rw [WordCmp.cmpi_slt_eq]
    rw [hs]
    by_cases c : y < x
    · have e : x ≠ y := c.ne'
      simp [c, e, Scalar.select, IntOp.ori, IntOp.andi]
    · by_cases e : x = y
      · subst e
        by_cases d : i.toInt < j.toInt <;> simp [d, Scalar.select, IntOp.ori, IntOp.andi]
      · simp [c, e, Scalar.select, IntOp.ori, IntOp.andi]
  rw [h]
  unfold Below
  split
  · next c =>
    refine ⟨Or.inl rfl, Or.inr ⟨rfl, le_refl _⟩, ?_⟩
    rcases c with c | ⟨c, d⟩
    · exact Or.inl c
    · exact Or.inr ⟨c.symm, d.le⟩
  · next c =>
    refine ⟨Or.inr rfl, ?_, Or.inr ⟨rfl, le_refl _⟩⟩
    rw [not_or, not_lt, not_and, not_lt] at c
    rcases c.1.lt_or_eq with d | d
    · exact Or.inl d
    · exact Or.inr ⟨d, c.2 d⟩

/-- The choice along a list. -/
theorem choose_list (L : List (EReal × BitVec 32)) : ∀ p, (L.foldl (reducer_argmax_f32_i32 (F := Ideal)) p = p ∨ L.foldl (reducer_argmax_f32_i32 (F := Ideal)) p ∈ L)
    ∧ Below p (L.foldl (reducer_argmax_f32_i32 (F := Ideal)) p) ∧ ∀ q ∈ L, Below q (L.foldl (reducer_argmax_f32_i32 (F := Ideal)) p) := by
  induction L with
  | nil => exact fun p => ⟨Or.inl rfl, Below.refl p, fun q hq => absurd hq List.not_mem_nil⟩
  | cons a L ih =>
    intro p
    obtain ⟨hm, hp, hq⟩ := ih (reducer_argmax_f32_i32 (F := Ideal) p a)
    obtain ⟨cm, cp, ca⟩ := choose p a
    rw [List.foldl_cons]
    refine ⟨?_, cp.trans hp, fun q hq' => ?_⟩
    · rcases hm with hm | hm
      · rw [hm]
        rcases cm with cm | cm
        · exact Or.inl cm
        · exact Or.inr (by rw [cm]; exact List.mem_cons_self)
      · exact Or.inr (List.mem_cons_of_mem _ hm)
    · rcases List.mem_cons.mp hq' with rfl | hq'
      · exact ca.trans hp
      · exact hq q hq'

/-- The pairs of a row. -/
theorem mem_row (x : S8x16384.Idx → EReal) (y : S8x16384.Idx → BitVec 32) (h : S8x16384.ReducesTo [1] S8) (b : Fin 8) (p : EReal × BitVec 32) :
    p ∈ Host.argReduceFiber x y h (ix1 b) ↔ ∃ n : Fin 16384, p = (x (ix2 b n), y (ix2 b n)) := by
  have hd : ∀ (b : Fin 8) (n : Fin 16384), h.drop (ix2 b n) = ix1 b := by
    intro b n
    funext a
    match a with
    | ⟨0, _⟩ => rfl
  unfold Host.argReduceFiber
  rw [List.mem_map]
  constructor
  · rintro ⟨n, hn, rfl⟩
    have hn := of_decide_eq_true (List.mem_filter.mp hn).2
    obtain ⟨i, k, hi⟩ : ∃ (i : Fin 8) (k : Fin 16384), S8x16384.rowMajor.symm n = ix2 i k := ⟨_, _, eq_ix2 _⟩
    rw [hi] at hn ⊢
    rw [hd] at hn
    have : i = b := congrFun hn 0
    rw [this]
    exact ⟨_, rfl⟩
  · rintro ⟨n, rfl⟩
    refine ⟨S8x16384.rowMajor (ix2 b n), List.mem_filter.mpr ⟨List.mem_finRange _, ?_⟩, ?_⟩
    · rw [Equiv.symm_apply_apply]; exact decide_eq_true (hd b n)
    · rw [Equiv.symm_apply_apply]

/-- The farthest point's number. -/
theorem first_at (x : S8x16384.Idx → EReal) (y : S8x16384.Idx → BitVec 32) (u : S_.Idx → EReal) (v : S_.Idx → BitVec 32)
    (h : S8x16384.ReducesTo [1] S8) (hu : 0 < S_.numel) (b : Fin 8) (hy : ∀ n : Fin 16384, y (ix2 b n) = BitVec.ofNat 32 n.val)
    (hu0 : ∀ i, u i = ⊥) (hv0 : ∀ i, v i = 0#32) :
    (Host.argReduce (reducer_argmax_f32_i32 (F := Ideal)) x y u v h hu (ix1 b)).2
      = BitVec.ofNat 32 (Spec.first fun n => x (ix2 b n)).val := by
  rw [Ideal.argReduce_eq_reduce2, Host.reduce2_eq_foldl_fiber, hu0, hv0]
  obtain ⟨hm, h0, hq⟩ := choose_list (Host.argReduceFiber x y h (ix1 b)) (⊥, 0#32)
  generalize List.foldl (reducer_argmax_f32_i32 (F := Ideal)) (⊥, 0#32) (Host.argReduceFiber x y h (ix1 b)) = p at hm h0 hq ⊢
  have hn : ∃ n : Fin 16384, p = (x (ix2 b n), y (ix2 b n)) := by
    rcases hm with hm | hm
    · refine ⟨0, ?_⟩
      have := hq _ ((mem_row x y h b _).mpr ⟨0, rfl⟩)
      rw [hm] at this ⊢
      rw [hy] at this ⊢
      rcases this with c | ⟨c, _⟩
      · exact absurd c not_lt_bot
      · exact Prod.ext c.symm rfl
    · exact (mem_row x y h b p).mp hm
  obtain ⟨n, rfl⟩ := hn
  have hf : Spec.IsFirst (fun n => x (ix2 b n)) n := by
    intro k
    have hk := hq _ ((mem_row x y h b _).mpr ⟨k, rfl⟩)
    unfold Below at hk
    dsimp only at hk
    rw [hy, hy] at hk
    have ht : ∀ n : Fin 16384, (BitVec.ofNat 32 n.val).toInt = (n.val : ℤ) := fun n =>
      WordCmp.toInt_ofNat_of_lt (by omega)
    rw [ht, ht] at hk
    rcases hk with c | ⟨c, d⟩
    · exact ⟨c.le, fun _ => c⟩
    · refine ⟨c.le, fun hlt => ?_⟩
      have : k.val < n.val := hlt
      omega
  rw [Spec.first_eq hf]
  exact hy n

end Cert.Argmax
-- ==== Proof.RVal.lean ====
/- What the reference's stretches compute, element by element. -/
module

public import proofs.«01_k».proof.Proof.Argmax
public import proofs.«01_k».proof.Proof.Take
public import proofs.«01_k».proof.Proof.KVal
import Idealize.ShloMosaic.Lib.StableHlo.ReadAt
import Idealize.ShloMosaic.Lib.Routing.OpsPair
import Idealize.ShloMosaic.Lib.Routing.Ops
import Idealize.ShloMosaic.Lib.Tactic.WordOmega

@[expose] public section

set_option maxRecDepth 16384

noncomputable section

namespace Cert.RVal

open Idealize.ShloMosaic Idealize.ShloMosaic.TcCoe Idealize.ShloMosaic.Tactic
open Cert.ReferenceIdeal Cert.ReferenceIdeal.Gen Cert.Ref

/-- An update along a column: row `b` of the update lands at `(b, i)`. -/
theorem scatter_at (x : S8x512.Idx → BitVec 32) (i : S1.Idx → BitVec 32) (u : S8.Idx → BitVec 32) (b : Fin 8) (j : Fin 512) :
    Host.scatter scatter_S8x512_S1_S8_0_1_1_0 (fun _ b => b) x i u (ix2 b j)
      = if (i (ix1 0)).toInt = (j.val : ℤ) then u (ix1 b) else x (ix2 b j) := by
  obtain ⟨w, rfl⟩ : ∃ w, i = fun _ => w := ⟨i (ix1 0), funext fun q => by rw [eq_ix1 q]; congr 2; exact Subsingleton.elim (α := Fin 1) _ _⟩
  have hl : ∀ a : Fin 8, scatter_S8x512_S1_S8_0_1_1_0.resultIdx? (ix1 a) (fun _ => w) = some (ix2 b j) ↔ a = b ∧ w.toInt = (j.val : ℤ) := by
    intro a
    rw [Routing.resultIdx?_eq_some]
    have h0 : scatter_S8x512_S1_S8_0_1_1_0.start (ix1 a) (fun _ => w) 0 + (scatter_S8x512_S1_S8_0_1_1_0.window (ix1 a) 0 : ℤ) = (a.val : ℤ) := by
      show (0 : ℤ) + (a.val : ℤ) = _
      omega
    have h1 : scatter_S8x512_S1_S8_0_1_1_0.start (ix1 a) (fun _ => w) 1 + (scatter_S8x512_S1_S8_0_1_1_0.window (ix1 a) 1 : ℤ) = w.toInt := by
      show w.toInt + ((0 : ℕ) : ℤ) = w.toInt
      omega
    constructor
    · intro h
      have e0 := h 0
      have e1 := h 1
      rw [h0] at e0
      rw [h1] at e1
      exact ⟨Fin.ext (Int.ofNat_inj.mp e0), e1⟩
    · rintro ⟨rfl, e⟩ q
      match q with
      | ⟨0, _⟩ => exact h0
      | ⟨1, _⟩ => exact h1.trans e
  rw [Routing.scatter_at]
  show (List.finRange 8).foldl (fun (a : BitVec 32) (n : Fin 8) =>
    if scatter_S8x512_S1_S8_0_1_1_0.resultIdx? (S8.rowMajor.symm n) (fun _ => w) = some (ix2 b j) then u (S8.rowMajor.symm n) else a) (x (ix2 b j))
      = if w.toInt = (j.val : ℤ) then u (ix1 b) else x (ix2 b j)
  have hs : ∀ n : Fin 8, S8.rowMajor.symm n = ix1 n := fun n => Routing.symm1 (N := 8) n
  simp only [hs, hl]
  by_cases e : w.toInt = (j.val : ℤ)
  · simp only [e, and_true, if_true]
    fin_cases b <;> rfl
  · simp only [e, and_false, if_false]
    rfl

/-- The points at the current indices. -/
theorem centre_at (V : Valuation τ sig (Elt Ideal)) (b : Fin 8) (c : Fin 3) :
    StableHlo.after (centreOps (F := Ideal)) V (Proc.devRef .tc main_while0b_v21) (ix3 b (0 : Fin 1) c)
      = Spec.pt (fun b n c => V (Proc.devRef .tc main_v10_0) (ix3 b n c)) b (V (Proc.devRef .tc main_while0b_v20) (ix3 b (0 : Fin 1) (0 : Fin 1))) c := by
  after_reads_at
  exact Take.pick_eq gather_S8x16384x3_S8x1x1_S8x1x3_2_1_0_0_1_2_113_wf (V (Proc.devRef .tc main_v10_0)) (V (Proc.devRef .tc main_while0b_v20))
    (select (cmpi .slt (V (Proc.devRef .tc main_while0b_v20)) (broadcastInDim S8x1x1 ![] bcast_S_S8x1x1 (constantI S_ 32 0#32)))
      (addi (V (Proc.devRef .tc main_while0b_v20)) (broadcastInDim S8x1x1 ![] bcast_S_S8x1x1 (constantI S_ 32 16384#32)))
      (V (Proc.devRef .tc main_while0b_v20))) b (0 : Fin 1) c rfl

/-- The points at the stored indices. -/
theorem pick_at (V : Valuation τ sig (Elt Ideal)) (b : Fin 8) (k : Fin 512) (c : Fin 3) :
    StableHlo.after (pickOps (F := Ideal)) V (Proc.devRef .tc main_v12) (ix3 b k c)
      = Spec.pt (fun b n c => V (Proc.devRef .tc main_arg0) (ix3 b n c)) b (V (Proc.devRef .tc main_v11) (ix3 b k (0 : Fin 1))) c := by
  after_reads_at
  exact Take.pick_eq gather_S8x16384x3_S8x512x1_S8x512x3_2_1_0_0_1_2_113_wf (V (Proc.devRef .tc main_arg0)) (V (Proc.devRef .tc main_v11))
    (select (cmpi .slt (V (Proc.devRef .tc main_v11)) (broadcastInDim S8x512x1 ![] bcast_S_S8x512x1 (constantI S_ 32 0#32)))
      (addi (V (Proc.devRef .tc main_v11)) (broadcastInDim S8x512x1 ![] bcast_S_S8x512x1 (constantI S_ 32 16384#32)))
      (V (Proc.devRef .tc main_v11))) b k c rfl

/-- The stored indices with a trailing axis. -/
theorem wide_at (V : Valuation τ sig (Elt Ideal)) (b : Fin 8) (k : Fin 512) :
    StableHlo.after (wideOps (F := Ideal)) V (Proc.devRef .tc main_v11) (ix3 b k (0 : Fin 1)) = V (Proc.devRef .tc main_v10_3) (ix2 b k) := by
  after_reads_at

/-- The current indices with trailing axes. -/
theorem ask_at (V : Valuation τ sig (Elt Ideal)) (b : Fin 8) :
    StableHlo.after (storeOps (F := Ideal)) V (Proc.devRef .tc main_while0b_v20) (ix3 b (0 : Fin 1) (0 : Fin 1)) = V (Proc.devRef .tc main_v10_5) (ix1 b) := by
  after_reads_at

/-- The counter, one more. -/
theorem count_eq (V : Valuation τ sig (Elt Ideal)) :
    (StableHlo.after (storeOps (F := Ideal)) V (Proc.devRef .tc main_while0b_v13) : S_.Idx → BitVec 32)
      = addi (V (Proc.devRef .tc main_v10_2)) (constantI S_ 32 1#32) := by
  after_reads_simp

/-- The current indices stored in column `k`. -/
theorem store_at (V : Valuation τ sig (Elt Ideal)) (k : ℕ) (hk : k < 512) (hc : V (Proc.devRef .tc main_v10_2) = fun _ => BitVec.ofNat 32 k)
    (b : Fin 8) (j : Fin 512) :
    (StableHlo.after (storeOps (F := Ideal)) V (Proc.devRef .tc main_while0b_v19) : S8x512.Idx → BitVec 32) (ix2 b j)
      = if k = j.val then (V (Proc.devRef .tc main_v10_5) : S8.Idx → BitVec 32) (ix1 b) else (V (Proc.devRef .tc main_v10_3) : S8x512.Idx → BitVec 32) (ix2 b j) := by
  after_reads_at
  rw [scatter_at, hc]
  have hi : (IntOp.cmpi .slt (BitVec.ofNat 32 k) 0#32) = 0#1 := by
    rw [WordCmp.cmpi_slt_eq, WordCmp.toInt_ofNat_of_lt (by omega), decide_eq_false (by show ¬ ((k : ℤ) < 0); omega)]
    rfl
  show ite ((Scalar.select (IntOp.cmpi .slt (BitVec.ofNat 32 k) 0#32) (IntOp.addi (BitVec.ofNat 32 k) 512#32) (BitVec.ofNat 32 k)).toInt = (j.val : ℤ)) _ _ = _
  rw [hi]
  show ite ((BitVec.ofNat 32 k).toInt = (j.val : ℤ)) _ _ = _
  rw [WordCmp.toInt_ofNat_of_lt (by omega)]
  simp only [Int.ofNat_inj, Nat.cast_inj]

theorem ite_lt_eq_min (a b : EReal) : (if a < b then a else b) = min a b := by
  split
  · next h => exact (min_eq_left h.le).symm
  · next h => exact (min_eq_right (not_lt.mp h)).symm

/-- The distances lowered by the current points. -/
theorem near_at (V : Valuation τ sig (Elt Ideal)) (x : Fin 8 → Fin 16384 → Fin 3 → EReal) (p : Fin 8 → Fin 3 → EReal) (d : Fin 8 → Fin 16384 → EReal)
    (hx : ∀ b n q, V (Proc.devRef .tc main_v10_0) (ix3 b n q) = x b n q)
    (hp : ∀ b q, V (Proc.devRef .tc main_while0b_v21) (ix3 b (0 : Fin 1) q) = p b q)
    (hd : ∀ b n, V (Proc.devRef .tc main_v10_4) (ix2 b n) = d b n) (b : Fin 8) (n : Fin 16384) :
    StableHlo.after (nearOps (F := Ideal)) (StableHlo.after (distOps (F := Ideal)) V) (Proc.devRef .tc main_while0b_v27) (ix2 b n)
      = min ((x b n 0 - p b 0) * (x b n 0 - p b 0) + (x b n 1 - p b 1) * (x b n 1 - p b 1) + (x b n 2 - p b 2) * (x b n 2 - p b 2)) (d b n) := by
  rw [← StableHlo.after_append]
  after_reads_at
  simp only [hx, hp, hd]
  rw [Fin.sum_univ_three]
  exact ite_lt_eq_min _ _

/-- The farthest point. -/
theorem far_at (V : Valuation τ sig (Elt Ideal)) (b : Fin 8) :
    (StableHlo.after (farOps (F := Ideal)) V (Proc.devRef .tc main_while0b_v28) : S8.Idx → BitVec 32) (ix1 b)
      = BitVec.ofNat 32 (Spec.first fun n => (V (Proc.devRef .tc main_while0b_v27) : S8x16384.Idx → EReal) (ix2 b n)).val := by
  after_reads_at
  exact Argmax.first_at _ _ _ _ _ _ b (fun _ => rfl) (fun _ => KVal.ofBits_bot) (fun _ => rfl)

/-- What the last stretch of the body copies. -/
theorem carry_eq (V : Valuation τ sig (Elt Ideal)) :
    StableHlo.after (carryOps (F := Ideal)) V (Proc.devRef .tc main_v10_2) = V (Proc.devRef .tc main_while0b_v13)
    ∧ StableHlo.after (carryOps (F := Ideal)) V (Proc.devRef .tc main_v10_3) = V (Proc.devRef .tc main_while0b_v19)
    ∧ StableHlo.after (carryOps (F := Ideal)) V (Proc.devRef .tc main_v10_4) = V (Proc.devRef .tc main_while0b_v27)
    ∧ StableHlo.after (carryOps (F := Ideal)) V (Proc.devRef .tc main_v10_5) = V (Proc.devRef .tc main_while0b_v28) := by
  refine ⟨?_, ?_, ?_, ?_⟩ <;> after_results <;> rfl

/-- What the loop starts from. -/
theorem enter_eq (V : Valuation τ sig (Elt Ideal)) :
    StableHlo.after (enterOps (F := Ideal)) V (Proc.devRef .tc main_v10_0) = V (Proc.devRef .tc main_arg0)
    ∧ StableHlo.after (enterOps (F := Ideal)) V (Proc.devRef .tc main_v10_2) = (fun _ => BitVec.ofNat 32 0)
    ∧ StableHlo.after (enterOps (F := Ideal)) V (Proc.devRef .tc main_v10_4) = V (Proc.devRef .tc main_v0)
    ∧ StableHlo.after (enterOps (F := Ideal)) V (Proc.devRef .tc main_v10_5) = V (Proc.devRef .tc main_v8) := by
  refine ⟨?_, ?_, ?_, ?_⟩ <;> after_results <;> rfl

/-- The starting distances. -/
theorem start_at (V : Valuation τ sig (Elt Ideal)) (b : Fin 8) (n : Fin 16384) :
    StableHlo.after (keyOps (F := Ideal)) V (Proc.devRef .tc main_v0) (ix2 b n) = Ideal.ofBits .f32 0x501502F9#32 := by
  after_reads_at

end Cert.RVal
-- ==== Proof.REnd.lean ====
/- The reference's results: the states of farthest point sampling. -/
module

public import proofs.«01_k».proof.Proof.RVal

@[expose] public section

set_option maxRecDepth 16384

noncomputable section

namespace Cert.RVal

open Idealize.ShloMosaic Idealize.ShloMosaic.TcCoe Idealize.ShloMosaic.StableHlo
open Cert.ReferenceIdeal Cert.ReferenceIdeal.Gen Cert.Ref

variable (m : (ℓ : Loc nD τ sig) → Buf (Elt Ideal) ℓ) (c : Dev nD)

/-- The given points. -/
def points (b : Fin 8) (n : Fin 16384) (q : Fin 3) : EReal := m (c, Proc.devRef .tc main_arg0) (ix3 b n q)

/-- The first indices. -/
def drawn (b : Fin 8) : BitVec 32 :=
  (after (drawOps (F := Ideal)) (after keyOps (launchContents m c)) (Proc.devRef .tc main_v8) : S8.Idx → BitVec 32) (ix1 b)

/-- The states of the sampling. -/
def states (k : ℕ) : Spec.State := Spec.st (points m c) ⟨drawn m c, fun _ _ => Ideal.ofBits .f32 0x501502F9#32⟩ k

/-- What the loop carries, given a state and the indices stored so far. -/
structure Carries (V : Valuation τ sig (Elt Ideal)) (k : ℕ) : Prop where
  pts : ∀ b n q, V (Proc.devRef .tc main_v10_0) (ix3 b n q) = points m c b n q
  count : V (Proc.devRef .tc main_v10_2) = fun _ => BitVec.ofNat 32 k
  far : ∀ b : Fin 8, (V (Proc.devRef .tc main_v10_5) : S8.Idx → BitVec 32) (ix1 b) = (states m c k).far b
  dist : ∀ b n, V (Proc.devRef .tc main_v10_4) (ix2 b n) = (states m c k).D b n
  stored : ∀ (b : Fin 8) (j : Fin 512), j.val < k → (V (Proc.devRef .tc main_v10_3) : S8x512.Idx → BitVec 32) (ix2 b j) = (states m c j.val).far b

/-- The loop is entered at the starting state. -/
theorem enters : Carries m c (atK m 0 c) 0 := by
  show Carries m c (afterL preI (launchContents m c)) 0
  simp only [afterL_cons, afterL_nil]
  obtain ⟨h0, h2, h4, h5⟩ := enter_eq (after (drawOps (F := Ideal)) (after keyOps (launchContents m c)))
  refine ⟨fun b n q => ?_, h2, fun b => ?_, fun b n => ?_, fun b j h => absurd h (Nat.not_lt_zero _)⟩
  · rw [h0, drawOps_above.keeps _ (by decide), after_of_writes_sub keyOps _ keyOps_writes (by decide +kernel)]
    rfl
  · rw [h5]; rfl
  · rw [h4, drawOps_above.keeps _ (by decide)]
    exact start_at _ b n

/-- The condition's stretch leaves what the loop carries. -/
theorem Carries.cond {V : Valuation τ sig (Elt Ideal)} {k : ℕ} (h : Carries m c V k) : Carries m c (after condOps V) k := by
  refine ⟨?_, ?_, ?_, ?_, ?_⟩ <;> rw [after_of_writes_sub condOps _ condOps_writes (by decide +kernel)]
  exacts [h.pts, h.count, h.far, h.dist, h.stored]

/-- The least distances in the trip. -/
theorem near_eq {V : Valuation τ sig (Elt Ideal)} {k : ℕ} (h : Carries m c V k) (b : Fin 8) (n : Fin 16384) :
    after (nearOps (F := Ideal)) (after distOps (after centreOps (after storeOps V))) (Proc.devRef .tc main_while0b_v27) (ix2 b n)
      = Spec.near (points m c) (states m c k) b n := by
  refine near_at _ (points m c) (fun b q => Spec.pt (points m c) b ((states m c k).far b) q) (states m c k).D ?_ ?_ ?_ b n
  · intro b n q
    rw [after_of_writes_sub centreOps _ centreOps_writes (by decide +kernel), after_of_writes_sub storeOps _ storeOps_writes (by decide +kernel)]
    exact h.pts b n q
  · intro b q
    rw [centre_at, ask_at, after_of_writes_sub storeOps _ storeOps_writes (by decide +kernel), h.far b]
    simp only [h.pts]
  · intro b n
    rw [after_of_writes_sub centreOps _ centreOps_writes (by decide +kernel), after_of_writes_sub storeOps _ storeOps_writes (by decide +kernel)]
    exact h.dist b n

/-- One trip is one step. -/
theorem trip {V : Valuation τ sig (Elt Ideal)} {k : ℕ} (hk : k < 512) (h : Carries m c V k) : Carries m c (afterL bodyI V) (k + 1) := by
  simp only [afterL_cons, afterL_nil]
  obtain ⟨h2, h3, h4, h5⟩ := carry_eq (after farOps (after nearOps (after distOps (after centreOps (after (storeOps (F := Ideal)) V)))))
  refine ⟨fun b n q => ?_, ?_, fun b => ?_, fun b n => ?_, fun b j hj => ?_⟩
  · rw [after_of_writes_sub carryOps _ carryOps_writes (by decide +kernel),
      after_of_writes_sub farOps _ farOps_writes (by decide +kernel), after_of_writes_sub nearOps _ nearOps_writes (by decide +kernel),
      after_of_writes_sub distOps _ distOps_writes (by decide +kernel), after_of_writes_sub centreOps _ centreOps_writes (by decide +kernel),
      after_of_writes_sub storeOps _ storeOps_writes (by decide +kernel)]
    exact h.pts b n q
  · rw [h2, after_of_writes_sub farOps _ farOps_writes (by decide +kernel), after_of_writes_sub nearOps _ nearOps_writes (by decide +kernel),
      after_of_writes_sub distOps _ distOps_writes (by decide +kernel), after_of_writes_sub centreOps _ centreOps_writes (by decide +kernel)]
    refine (count_eq V).trans ?_
    rw [h.count]
    exact funext fun _ => (BitVec.ofNat_add k 1).symm
  · rw [h5]
    refine (far_at _ b).trans ?_
    simp only [near_eq m c h]
    rfl
  · rw [h4, after_of_writes_sub farOps _ farOps_writes (by decide +kernel)]
    exact near_eq m c h b n
  · rw [h3, after_of_writes_sub farOps _ farOps_writes (by decide +kernel), after_of_writes_sub nearOps _ nearOps_writes (by decide +kernel),
      after_of_writes_sub distOps _ distOps_writes (by decide +kernel), after_of_writes_sub centreOps _ centreOps_writes (by decide +kernel)]
    refine (store_at V k hk h.count b j).trans ?_
    split
    · next e => rw [← e]; exact h.far b
    · next e => exact h.stored b j (by omega)

/-- Before trip `k` the loop carries the state before step `k`. -/
theorem carries : ∀ k ≤ 512, Carries m c (atK m k c) k
  | 0, _ => enters m c
  | k + 1, hk => by
    rw [show atK m (k + 1) c = afterL bodyI (after condOps (atK m k c)) from rfl]
    exact trip m c hk ((carries k (by omega)).cond)

/-- The reference's second result: the indices of every step. -/
theorem idx_end (b : Fin 8) (k : Fin 512) :
    (finalContents condOps preI bodyI postI 512 m c (Proc.devRef .tc main_v10_3) : S8x512.Idx → BitVec 32) (ix2 b k) = (states m c k.val).far b := by
  simp only [finalContents, afterL_cons, afterL_nil]
  rw [after_of_writes_sub pickOps _ pickOps_writes (by decide +kernel), after_of_writes_sub wideOps _ wideOps_writes (by decide +kernel),
    after_of_writes_sub condOps _ condOps_writes (by decide +kernel)]
  exact (carries m c 512 le_rfl).stored b k k.isLt

/-- The reference's first result: the points at those indices. -/
theorem xyz_end (b : Fin 8) (k : Fin 512) (q : Fin 3) :
    finalContents condOps preI bodyI postI 512 m c (Proc.devRef .tc main_v12) (ix3 b k q) = Spec.pt (points m c) b ((states m c k.val).far b) q := by
  simp only [finalContents, afterL_cons, afterL_nil]
  rw [pick_at, wide_at, after_of_writes_sub wideOps _ wideOps_writes (by decide +kernel),
    after_of_writes_sub condOps _ condOps_writes (by decide +kernel), after_of_writes_sub condOps _ condOps_writes (by decide +kernel)]
  exact congrArg₂ (fun (x : S8x16384x3.Idx → EReal) (i : BitVec 32) => Spec.pt (fun b n q => x (ix3 b n q)) b i q)
    (keeps_arg m c 512) ((carries m c 512 le_rfl).stored b k k.isLt)

end Cert.RVal
-- ==== Proof.Equal.lean ====
/- The two programs end with equal results: the states of the sampling are the same. -/
module

public import proofs.«01_k».proof.Defs
public import proofs.«01_k».proof.Proof.KEnd
public import proofs.«01_k».proof.Proof.REnd
public import proofs.«01_k».proof.Proof.First

@[expose] public section

set_option maxRecDepth 16384

noncomputable section

namespace Cert.Equal

open Idealize.ShloMosaic Idealize.ShloMosaic.TcCoe Idealize.ShloMosaic.StableHlo

/-- Both programs pass through the same states when they are given the same points. -/
theorem states_eq (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (h : RVal.points m' c = KVal.points m c) (k : ℕ) : RVal.states m' c k = KVal.states m c k := by
  have hd : RVal.drawn m' c = KVal.drawn m c := funext fun b => congrFun (First.draw_eq (F := Ideal) _ _) (ix1 b)
  unfold RVal.states KVal.states
  rw [h, hd]

/-- The claim that the results are equal. -/
theorem algebraic : Cert.algebraic_KernelIdeal_ReferenceIdeal (hKernelIdeal := Cert.KernelIdeal.Gen.facts) (hReferenceIdeal := Cert.ReferenceIdeal.Gen.facts) := by
  intro m g m' g' _ hm
  have hp : ∀ c, RVal.points m' c = KVal.points m c := fun c =>
    funext fun b => funext fun n => funext fun q => congrFun (hm c) (ix3 b n q)
  refine ⟨fun c => Pipeline.afterTail₀ KernelIdeal.cfgs (KernelIdeal.Gen.dats m) 0 (KernelIdeal.Gen.V0 m) [KernelIdeal.Gen.hostOps1] c KernelIdeal.main_v51,
    fun c => Pipeline.afterTail₀ KernelIdeal.cfgs (KernelIdeal.Gen.dats m) 0 (KernelIdeal.Gen.V0 m) [KernelIdeal.Gen.hostOps1] c KernelIdeal.main_v44, ?_, ?_⟩
  · refine (θ_run KernelIdeal.defs _ _).mono (fun r h c => ⟨?_, ?_, h.2 c⟩)
      (θ_run_and (KernelIdeal.Gen.run_main (F := Ideal) m g) (KernelIdeal.Gen.unchanged (F := Ideal) m g))
    · exact (h.1 c).2 KernelIdeal.main_v51 (Pipeline.mem_restRefs_of KernelIdeal.main_v51 (by decide) (by decide))
    · exact (h.1 c).2 KernelIdeal.main_v44 (Pipeline.mem_restRefs_of KernelIdeal.main_v44 (by decide) (by decide))
  · refine (θ_run ReferenceIdeal.defs _ _).mono (fun r h c => ⟨?_, ?_, ?_⟩) (Ref.run_fold (F := Ideal) m' g')
    · refine (h c ReferenceIdeal.main_v12 rfl).trans (funext fun i => ?_)
      obtain ⟨b, k, q, rfl⟩ : ∃ (b : Fin 8) (k : Fin 512) (q : Fin 3), i = ix3 b k q := ⟨_, _, _, eq_ix3 i⟩
      refine (RVal.xyz_end m' c b k q).trans ?_
      rw [states_eq m m' c (hp c), hp c]
      exact (KVal.xyz_end m c b k q).symm
    · refine (h c ReferenceIdeal.main_v10_3 rfl).trans (funext fun i => ?_)
      obtain ⟨b, k, rfl⟩ : ∃ (b : Fin 8) (k : Fin 512), i = ix2 b k := ⟨_, _, eq_ix2 i⟩
      refine (RVal.idx_end m' c b k).trans ?_
      rw [states_eq m m' c (hp c)]
      exact (KVal.idx_end m c b k).symm
    · exact (h c ReferenceIdeal.main_arg0 rfl).trans (Ref.final_arg m' c)

end Cert.Equal
-- ==== Proof.lean ====
/- The certificate's claims, each from its own module. -/
module

public import proofs.«01_k».proof.Defs
public import proofs.«01_k».proof.Proof.Word.KFrame
public import proofs.«01_k».proof.Proof.KFrame
public import proofs.«01_k».proof.Proof.RRun
public import proofs.«01_k».proof.Proof.Equal

@[expose] public section

namespace Cert.Proof

open Idealize.ShloMosaic

theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ,
    fun m ρ _ => Cert.Ref.frame m ρ, trivial, Cert.Equal.algebraic⟩

end Cert.Proof
